-- ==== Defs.lean ====
def Pre_InZ (m : (ℓ : Loc Cert.InZ.nD Cert.InZ.τ Cert.InZ.sig) → Buf (Elt Bits) ℓ) : Prop :=
  True

def Pre_InZIdeal (m : (ℓ : Loc Cert.InZIdeal.nD Cert.InZIdeal.τ Cert.InZIdeal.sig) → Buf (Elt Ideal) ℓ) : Prop :=
  True

def Pre_RefInZIdeal (m : (ℓ : Loc Cert.RefInZIdeal.nD Cert.RefInZIdeal.τ Cert.RefInZIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_RefOutIdeal (m : (ℓ : Loc Cert.RefOutIdeal.nD Cert.RefOutIdeal.τ Cert.RefOutIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_scale_in_nonzero [hPre_scale_in_nonzero : Cert.Pre_scale_in_nonzero.Facts] (m : (ℓ : Loc Cert.NormIdeal.nD Cert.NormIdeal.τ Cert.NormIdeal.sig) → Buf (Elt Ideal) ℓ) : Prop :=
  ∀ c : Dev Cert.NormIdeal.nD,
    (Cert.Pre_scale_in_nonzero.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3))) = (fun _ => 1#1)

def Pre_RefNormIdeal (m : (ℓ : Loc Cert.RefNormIdeal.nD Cert.RefNormIdeal.τ Cert.RefNormIdeal.sig) → Buf (Elt Ideal) ℓ) : Prop :=
  True

def Pre_RefNormIdeal_scale_in_nonzero [hPre_scale_in_nonzero : Cert.Pre_scale_in_nonzero.Facts] (m : (ℓ : Loc Cert.RefNormIdeal.nD Cert.RefNormIdeal.τ Cert.RefNormIdeal.sig) → Buf (Elt Ideal) ℓ) : Prop :=
  ∀ c : Dev Cert.RefNormIdeal.nD,
    (Cert.Pre_scale_in_nonzero.fn (F := Ideal) (m ((c.tc : Thread Cert.RefNormIdeal.nD Cert.RefNormIdeal.τ).loc Cert.RefNormIdeal.main_arg0)) (m ((c.tc : Thread Cert.RefNormIdeal.nD Cert.RefNormIdeal.τ).loc Cert.RefNormIdeal.main_arg1)) (m ((c.tc : Thread Cert.RefNormIdeal.nD Cert.RefNormIdeal.τ).loc Cert.RefNormIdeal.main_arg2)) (m ((c.tc : Thread Cert.RefNormIdeal.nD Cert.RefNormIdeal.τ).loc Cert.RefNormIdeal.main_arg3))) = (fun _ => 1#1)

def Pre_XProj (m : (ℓ : Loc Cert.XProj.nD Cert.XProj.τ Cert.XProj.sig) → Buf (Elt Bits) ℓ) : Prop :=
  True

def Pre_XProjIdeal (m : (ℓ : Loc Cert.XProjIdeal.nD Cert.XProjIdeal.τ Cert.XProjIdeal.sig) → Buf (Elt Ideal) ℓ) : Prop :=
  True

def Pre_XProjIdeal_scales_proj_nonzero [hPre_scales_proj_nonzero : Cert.Pre_scales_proj_nonzero.Facts] (m : (ℓ : Loc Cert.XProjIdeal.nD Cert.XProjIdeal.τ Cert.XProjIdeal.sig) → Buf (Elt Ideal) ℓ) : Prop :=
  ∀ c : Dev Cert.XProjIdeal.nD,
    (Cert.Pre_scales_proj_nonzero.fn (F := Ideal) (m ((c.tc : Thread Cert.XProjIdeal.nD Cert.XProjIdeal.τ).loc Cert.XProjIdeal.main_arg0)) (m ((c.tc : Thread Cert.XProjIdeal.nD Cert.XProjIdeal.τ).loc Cert.XProjIdeal.main_arg1)) (m ((c.tc : Thread Cert.XProjIdeal.nD Cert.XProjIdeal.τ).loc Cert.XProjIdeal.main_arg2)) (m ((c.tc : Thread Cert.XProjIdeal.nD Cert.XProjIdeal.τ).loc Cert.XProjIdeal.main_arg3))) = (fun _ => 1#1)

def Pre_RefXProjIdeal (m : (ℓ : Loc Cert.RefXProjIdeal.nD Cert.RefXProjIdeal.τ Cert.RefXProjIdeal.sig) → Buf (Elt Ideal) ℓ) : Prop :=
  True

def Pre_RefXProjIdeal_scales_proj_nonzero [hPre_scales_proj_nonzero : Cert.Pre_scales_proj_nonzero.Facts] (m : (ℓ : Loc Cert.RefXProjIdeal.nD Cert.RefXProjIdeal.τ Cert.RefXProjIdeal.sig) → Buf (Elt Ideal) ℓ) : Prop :=
  ∀ c : Dev Cert.RefXProjIdeal.nD,
    (Cert.Pre_scales_proj_nonzero.fn (F := Ideal) (m ((c.tc : Thread Cert.RefXProjIdeal.nD Cert.RefXProjIdeal.τ).loc Cert.RefXProjIdeal.main_arg0)) (m ((c.tc : Thread Cert.RefXProjIdeal.nD Cert.RefXProjIdeal.τ).loc Cert.RefXProjIdeal.main_arg1)) (m ((c.tc : Thread Cert.RefXProjIdeal.nD Cert.RefXProjIdeal.τ).loc Cert.RefXProjIdeal.main_arg2)) (m ((c.tc : Thread Cert.RefXProjIdeal.nD Cert.RefXProjIdeal.τ).loc Cert.RefXProjIdeal.main_arg3))) = (fun _ => 1#1)

def Pre_InX (m : (ℓ : Loc Cert.InX.nD Cert.InX.τ Cert.InX.sig) → Buf (Elt Bits) ℓ) : Prop :=
  True

def Pre_InXIdeal (m : (ℓ : Loc Cert.InXIdeal.nD Cert.InXIdeal.τ Cert.InXIdeal.sig) → Buf (Elt Ideal) ℓ) : Prop :=
  True

def Pre_InXIdeal_scales_conv_nonzero [hPre_scales_conv_nonzero : Cert.Pre_scales_conv_nonzero.Facts] (m : (ℓ : Loc Cert.InXIdeal.nD Cert.InXIdeal.τ Cert.InXIdeal.sig) → Buf (Elt Ideal) ℓ) : Prop :=
  ∀ c : Dev Cert.InXIdeal.nD,
    (Cert.Pre_scales_conv_nonzero.fn (F := Ideal) (m ((c.tc : Thread Cert.InXIdeal.nD Cert.InXIdeal.τ).loc Cert.InXIdeal.main_arg0)) (m ((c.tc : Thread Cert.InXIdeal.nD Cert.InXIdeal.τ).loc Cert.InXIdeal.main_arg1)) (m ((c.tc : Thread Cert.InXIdeal.nD Cert.InXIdeal.τ).loc Cert.InXIdeal.main_arg2)) (m ((c.tc : Thread Cert.InXIdeal.nD Cert.InXIdeal.τ).loc Cert.InXIdeal.main_arg3)) (m ((c.tc : Thread Cert.InXIdeal.nD Cert.InXIdeal.τ).loc Cert.InXIdeal.main_arg4)) (m ((c.tc : Thread Cert.InXIdeal.nD Cert.InXIdeal.τ).loc Cert.InXIdeal.main_arg5))) = (fun _ => 1#1)

def Pre_RefInXIdeal (m : (ℓ : Loc Cert.RefInXIdeal.nD Cert.RefInXIdeal.τ Cert.RefInXIdeal.sig) → Buf (Elt Ideal) ℓ) : Prop :=
  True

def Pre_RefInXIdeal_scales_conv_nonzero [hPre_scales_conv_nonzero : Cert.Pre_scales_conv_nonzero.Facts] (m : (ℓ : Loc Cert.RefInXIdeal.nD Cert.RefInXIdeal.τ Cert.RefInXIdeal.sig) → Buf (Elt Ideal) ℓ) : Prop :=
  ∀ c : Dev Cert.RefInXIdeal.nD,
    (Cert.Pre_scales_conv_nonzero.fn (F := Ideal) (m ((c.tc : Thread Cert.RefInXIdeal.nD Cert.RefInXIdeal.τ).loc Cert.RefInXIdeal.main_arg0)) (m ((c.tc : Thread Cert.RefInXIdeal.nD Cert.RefInXIdeal.τ).loc Cert.RefInXIdeal.main_arg1)) (m ((c.tc : Thread Cert.RefInXIdeal.nD Cert.RefInXIdeal.τ).loc Cert.RefInXIdeal.main_arg2)) (m ((c.tc : Thread Cert.RefInXIdeal.nD Cert.RefInXIdeal.τ).loc Cert.RefInXIdeal.main_arg3)) (m ((c.tc : Thread Cert.RefInXIdeal.nD Cert.RefInXIdeal.τ).loc Cert.RefInXIdeal.main_arg4)) (m ((c.tc : Thread Cert.RefInXIdeal.nD Cert.RefInXIdeal.τ).loc Cert.RefInXIdeal.main_arg5))) = (fun _ => 1#1)

def Pre_DqIn (m : (ℓ : Loc Cert.DqIn.nD Cert.DqIn.τ Cert.DqIn.sig) → Buf (Elt Bits) ℓ) : Prop :=
  True

def Pre_DqInIdeal (m : (ℓ : Loc Cert.DqInIdeal.nD Cert.DqInIdeal.τ Cert.DqInIdeal.sig) → Buf (Elt Ideal) ℓ) : Prop :=
  True

def Pre_RefDqInIdeal (m : (ℓ : Loc Cert.RefDqInIdeal.nD Cert.RefDqInIdeal.τ Cert.RefDqInIdeal.sig) → Buf (Elt Ideal) ℓ) : Prop :=
  True

def Pre_DqOut (m : (ℓ : Loc Cert.DqOut.nD Cert.DqOut.τ Cert.DqOut.sig) → Buf (Elt Bits) ℓ) : Prop :=
  True

def Pre_DqOutIdeal (m : (ℓ : Loc Cert.DqOutIdeal.nD Cert.DqOutIdeal.τ Cert.DqOutIdeal.sig) → Buf (Elt Ideal) ℓ) : Prop :=
  True

def Pre_RefDqOutIdeal (m : (ℓ : Loc Cert.RefDqOutIdeal.nD Cert.RefDqOutIdeal.τ Cert.RefDqOutIdeal.sig) → Buf (Elt Ideal) ℓ) : Prop :=
  True

def quiescent_InZ [hInZ : Cert.InZ.Facts] : Prop :=
  ∀ (m : (ℓ : Loc Cert.InZ.nD Cert.InZ.τ Cert.InZ.sig) → Buf (Elt Bits) ℓ) (g : Dev Cert.InZ.nD → PrngReg), Pre_InZ m →
    θ_run (Cert.InZ.defs (F := Bits)) (onTc (τ := Cert.InZ.τ) (Cert.InZ.main (F := Bits))) ⟨m, fun _ => 0, g⟩ (fun r => (∀ c : Dev Cert.InZ.nD,
      r.2.mem ((c.tc : Thread Cert.InZ.nD Cert.InZ.τ).loc Cert.InZ.main_arg0) = m ((c.tc : Thread Cert.InZ.nD Cert.InZ.τ).loc Cert.InZ.main_arg0)
      ∧ r.2.mem ((c.tc : Thread Cert.InZ.nD Cert.InZ.τ).loc Cert.InZ.main_arg1) = m ((c.tc : Thread Cert.InZ.nD Cert.InZ.τ).loc Cert.InZ.main_arg1)
      ∧ r.2.mem ((c.tc : Thread Cert.InZ.nD Cert.InZ.τ).loc Cert.InZ.main_arg2) = m ((c.tc : Thread Cert.InZ.nD Cert.InZ.τ).loc Cert.InZ.main_arg2))
      ∧ r.2.sem = fun _ => 0)

def quiescent_InZIdeal [hInZIdeal : Cert.InZIdeal.Facts] : Prop :=
  ∀ (m : (ℓ : Loc Cert.InZIdeal.nD Cert.InZIdeal.τ Cert.InZIdeal.sig) → Buf (Elt Ideal) ℓ) (g : Dev Cert.InZIdeal.nD → PrngReg), Pre_InZIdeal m →
    θ_run (Cert.InZIdeal.defs (F := Ideal)) (onTc (τ := Cert.InZIdeal.τ) (Cert.InZIdeal.main (F := Ideal))) ⟨m, fun _ => 0, g⟩ (fun r => (∀ c : Dev Cert.InZIdeal.nD,
      r.2.mem ((c.tc : Thread Cert.InZIdeal.nD Cert.InZIdeal.τ).loc Cert.InZIdeal.main_arg0) = m ((c.tc : Thread Cert.InZIdeal.nD Cert.InZIdeal.τ).loc Cert.InZIdeal.main_arg0)
      ∧ r.2.mem ((c.tc : Thread Cert.InZIdeal.nD Cert.InZIdeal.τ).loc Cert.InZIdeal.main_arg1) = m ((c.tc : Thread Cert.InZIdeal.nD Cert.InZIdeal.τ).loc Cert.InZIdeal.main_arg1)
      ∧ r.2.mem ((c.tc : Thread Cert.InZIdeal.nD Cert.InZIdeal.τ).loc Cert.InZIdeal.main_arg2) = m ((c.tc : Thread Cert.InZIdeal.nD Cert.InZIdeal.τ).loc Cert.InZIdeal.main_arg2))
      ∧ r.2.sem = fun _ => 0)

def quiescent_RefInZIdeal [hRefInZIdeal : Cert.RefInZIdeal.Facts] : Prop :=
  ∀ (m : (ℓ : Loc Cert.RefInZIdeal.nD Cert.RefInZIdeal.τ Cert.RefInZIdeal.sig) → Buf (Elt Ideal) ℓ) (g : Dev Cert.RefInZIdeal.nD → PrngReg), Pre_RefInZIdeal m →
    θ_run (Cert.RefInZIdeal.defs (F := Ideal)) (onTc (τ := Cert.RefInZIdeal.τ) (Cert.RefInZIdeal.main (F := Ideal))) ⟨m, fun _ => 0, g⟩ (fun r => (∀ c : Dev Cert.RefInZIdeal.nD,
      r.2.mem ((c.tc : Thread Cert.RefInZIdeal.nD Cert.RefInZIdeal.τ).loc Cert.RefInZIdeal.main_arg0) = m ((c.tc : Thread Cert.RefInZIdeal.nD Cert.RefInZIdeal.τ).loc Cert.RefInZIdeal.main_arg0)
      ∧ r.2.mem ((c.tc : Thread Cert.RefInZIdeal.nD Cert.RefInZIdeal.τ).loc Cert.RefInZIdeal.main_arg1) = m ((c.tc : Thread Cert.RefInZIdeal.nD Cert.RefInZIdeal.τ).loc Cert.RefInZIdeal.main_arg1)
      ∧ r.2.mem ((c.tc : Thread Cert.RefInZIdeal.nD Cert.RefInZIdeal.τ).loc Cert.RefInZIdeal.main_arg2) = m ((c.tc : Thread Cert.RefInZIdeal.nD Cert.RefInZIdeal.τ).loc Cert.RefInZIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1)
      ∧ r.2.mem ((c.tc : Thread Cert.RefOutIdeal.nD Cert.RefOutIdeal.τ).loc Cert.RefOutIdeal.main_arg2) = m ((c.tc : Thread Cert.RefOutIdeal.nD Cert.RefOutIdeal.τ).loc Cert.RefOutIdeal.main_arg2)
      ∧ r.2.mem ((c.tc : Thread Cert.RefOutIdeal.nD Cert.RefOutIdeal.τ).loc Cert.RefOutIdeal.main_arg3) = m ((c.tc : Thread Cert.RefOutIdeal.nD Cert.RefOutIdeal.τ).loc Cert.RefOutIdeal.main_arg3)
      ∧ r.2.mem ((c.tc : Thread Cert.RefOutIdeal.nD Cert.RefOutIdeal.τ).loc Cert.RefOutIdeal.main_arg4) = m ((c.tc : Thread Cert.RefOutIdeal.nD Cert.RefOutIdeal.τ).loc Cert.RefOutIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormIdeal_pre_scale_in_nonzero [hNormIdeal : Cert.NormIdeal.Facts] [hPre_scale_in_nonzero : Cert.Pre_scale_in_nonzero.Facts] : Prop :=
  ∀ (m : (ℓ : Loc Cert.NormIdeal.nD Cert.NormIdeal.τ Cert.NormIdeal.sig) → Buf (Elt Ideal) ℓ) (g : Dev Cert.NormIdeal.nD → PrngReg), Pre_NormIdeal_scale_in_nonzero m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_RefNormIdeal [hRefNormIdeal : Cert.RefNormIdeal.Facts] : Prop :=
  ∀ (m : (ℓ : Loc Cert.RefNormIdeal.nD Cert.RefNormIdeal.τ Cert.RefNormIdeal.sig) → Buf (Elt Ideal) ℓ) (g : Dev Cert.RefNormIdeal.nD → PrngReg), Pre_RefNormIdeal m →
    θ_run (Cert.RefNormIdeal.defs (F := Ideal)) (onTc (τ := Cert.RefNormIdeal.τ) (Cert.RefNormIdeal.main (F := Ideal))) ⟨m, fun _ => 0, g⟩ (fun r => (∀ c : Dev Cert.RefNormIdeal.nD,
      r.2.mem ((c.tc : Thread Cert.RefNormIdeal.nD Cert.RefNormIdeal.τ).loc Cert.RefNormIdeal.main_arg0) = m ((c.tc : Thread Cert.RefNormIdeal.nD Cert.RefNormIdeal.τ).loc Cert.RefNormIdeal.main_arg0)
      ∧ r.2.mem ((c.tc : Thread Cert.RefNormIdeal.nD Cert.RefNormIdeal.τ).loc Cert.RefNormIdeal.main_arg1) = m ((c.tc : Thread Cert.RefNormIdeal.nD Cert.RefNormIdeal.τ).loc Cert.RefNormIdeal.main_arg1)
      ∧ r.2.mem ((c.tc : Thread Cert.RefNormIdeal.nD Cert.RefNormIdeal.τ).loc Cert.RefNormIdeal.main_arg2) = m ((c.tc : Thread Cert.RefNormIdeal.nD Cert.RefNormIdeal.τ).loc Cert.RefNormIdeal.main_arg2)
      ∧ r.2.mem ((c.tc : Thread Cert.RefNormIdeal.nD Cert.RefNormIdeal.τ).loc Cert.RefNormIdeal.main_arg3) = m ((c.tc : Thread Cert.RefNormIdeal.nD Cert.RefNormIdeal.τ).loc Cert.RefNormIdeal.main_arg3))
      ∧ r.2.sem = fun _ => 0)

def quiescent_RefNormIdeal_pre_scale_in_nonzero [hRefNormIdeal : Cert.RefNormIdeal.Facts] [hPre_scale_in_nonzero : Cert.Pre_scale_in_nonzero.Facts] : Prop :=
  ∀ (m : (ℓ : Loc Cert.RefNormIdeal.nD Cert.RefNormIdeal.τ Cert.RefNormIdeal.sig) → Buf (Elt Ideal) ℓ) (g : Dev Cert.RefNormIdeal.nD → PrngReg), Pre_RefNormIdeal_scale_in_nonzero m →
    θ_run (Cert.RefNormIdeal.defs (F := Ideal)) (onTc (τ := Cert.RefNormIdeal.τ) (Cert.RefNormIdeal.main (F := Ideal))) ⟨m, fun _ => 0, g⟩ (fun r => (∀ c : Dev Cert.RefNormIdeal.nD,
      r.2.mem ((c.tc : Thread Cert.RefNormIdeal.nD Cert.RefNormIdeal.τ).loc Cert.RefNormIdeal.main_arg0) = m ((c.tc : Thread Cert.RefNormIdeal.nD Cert.RefNormIdeal.τ).loc Cert.RefNormIdeal.main_arg0)
      ∧ r.2.mem ((c.tc : Thread Cert.RefNormIdeal.nD Cert.RefNormIdeal.τ).loc Cert.RefNormIdeal.main_arg1) = m ((c.tc : Thread Cert.RefNormIdeal.nD Cert.RefNormIdeal.τ).loc Cert.RefNormIdeal.main_arg1)
      ∧ r.2.mem ((c.tc : Thread Cert.RefNormIdeal.nD Cert.RefNormIdeal.τ).loc Cert.RefNormIdeal.main_arg2) = m ((c.tc : Thread Cert.RefNormIdeal.nD Cert.RefNormIdeal.τ).loc Cert.RefNormIdeal.main_arg2)
      ∧ r.2.mem ((c.tc : Thread Cert.RefNormIdeal.nD Cert.RefNormIdeal.τ).loc Cert.RefNormIdeal.main_arg3) = m ((c.tc : Thread Cert.RefNormIdeal.nD Cert.RefNormIdeal.τ).loc Cert.RefNormIdeal.main_arg3))
      ∧ r.2.sem = fun _ => 0)

def quiescent_XProj [hXProj : Cert.XProj.Facts] : Prop :=
  ∀ (m : (ℓ : Loc Cert.XProj.nD Cert.XProj.τ Cert.XProj.sig) → Buf (Elt Bits) ℓ) (g : Dev Cert.XProj.nD → PrngReg), Pre_XProj m →
    θ_run (Cert.XProj.defs (F := Bits)) (onTc (τ := Cert.XProj.τ) (Cert.XProj.main (F := Bits))) ⟨m, fun _ => 0, g⟩ (fun r => (∀ c : Dev Cert.XProj.nD,
      r.2.mem ((c.tc : Thread Cert.XProj.nD Cert.XProj.τ).loc Cert.XProj.main_arg0) = m ((c.tc : Thread Cert.XProj.nD Cert.XProj.τ).loc Cert.XProj.main_arg0)
      ∧ r.2.mem ((c.tc : Thread Cert.XProj.nD Cert.XProj.τ).loc Cert.XProj.main_arg1) = m ((c.tc : Thread Cert.XProj.nD Cert.XProj.τ).loc Cert.XProj.main_arg1)
      ∧ r.2.mem ((c.tc : Thread Cert.XProj.nD Cert.XProj.τ).loc Cert.XProj.main_arg2) = m ((c.tc : Thread Cert.XProj.nD Cert.XProj.τ).loc Cert.XProj.main_arg2)
      ∧ r.2.mem ((c.tc : Thread Cert.XProj.nD Cert.XProj.τ).loc Cert.XProj.main_arg3) = m ((c.tc : Thread Cert.XProj.nD Cert.XProj.τ).loc Cert.XProj.main_arg3))
      ∧ r.2.sem = fun _ => 0)

def quiescent_XProjIdeal [hXProjIdeal : Cert.XProjIdeal.Facts] : Prop :=
  ∀ (m : (ℓ : Loc Cert.XProjIdeal.nD Cert.XProjIdeal.τ Cert.XProjIdeal.sig) → Buf (Elt Ideal) ℓ) (g : Dev Cert.XProjIdeal.nD → PrngReg), Pre_XProjIdeal m →
    θ_run (Cert.XProjIdeal.defs (F := Ideal)) (onTc (τ := Cert.XProjIdeal.τ) (Cert.XProjIdeal.main (F := Ideal))) ⟨m, fun _ => 0, g⟩ (fun r => (∀ c : Dev Cert.XProjIdeal.nD,
      r.2.mem ((c.tc : Thread Cert.XProjIdeal.nD Cert.XProjIdeal.τ).loc Cert.XProjIdeal.main_arg0) = m ((c.tc : Thread Cert.XProjIdeal.nD Cert.XProjIdeal.τ).loc Cert.XProjIdeal.main_arg0)
      ∧ r.2.mem ((c.tc : Thread Cert.XProjIdeal.nD Cert.XProjIdeal.τ).loc Cert.XProjIdeal.main_arg1) = m ((c.tc : Thread Cert.XProjIdeal.nD Cert.XProjIdeal.τ).loc Cert.XProjIdeal.main_arg1)
      ∧ r.2.mem ((c.tc : Thread Cert.XProjIdeal.nD Cert.XProjIdeal.τ).loc Cert.XProjIdeal.main_arg2) = m ((c.tc : Thread Cert.XProjIdeal.nD Cert.XProjIdeal.τ).loc Cert.XProjIdeal.main_arg2)
      ∧ r.2.mem ((c.tc : Thread Cert.XProjIdeal.nD Cert.XProjIdeal.τ).loc Cert.XProjIdeal.main_arg3) = m ((c.tc : Thread Cert.XProjIdeal.nD Cert.XProjIdeal.τ).loc Cert.XProjIdeal.main_arg3))
      ∧ r.2.sem = fun _ => 0)

def quiescent_XProjIdeal_pre_scales_proj_nonzero [hXProjIdeal : Cert.XProjIdeal.Facts] [hPre_scales_proj_nonzero : Cert.Pre_scales_proj_nonzero.Facts] : Prop :=
  ∀ (m : (ℓ : Loc Cert.XProjIdeal.nD Cert.XProjIdeal.τ Cert.XProjIdeal.sig) → Buf (Elt Ideal) ℓ) (g : Dev Cert.XProjIdeal.nD → PrngReg), Pre_XProjIdeal_scales_proj_nonzero m →
    θ_run (Cert.XProjIdeal.defs (F := Ideal)) (onTc (τ := Cert.XProjIdeal.τ) (Cert.XProjIdeal.main (F := Ideal))) ⟨m, fun _ => 0, g⟩ (fun r => (∀ c : Dev Cert.XProjIdeal.nD,
      r.2.mem ((c.tc : Thread Cert.XProjIdeal.nD Cert.XProjIdeal.τ).loc Cert.XProjIdeal.main_arg0) = m ((c.tc : Thread Cert.XProjIdeal.nD Cert.XProjIdeal.τ).loc Cert.XProjIdeal.main_arg0)
      ∧ r.2.mem ((c.tc : Thread Cert.XProjIdeal.nD Cert.XProjIdeal.τ).loc Cert.XProjIdeal.main_arg1) = m ((c.tc : Thread Cert.XProjIdeal.nD Cert.XProjIdeal.τ).loc Cert.XProjIdeal.main_arg1)
      ∧ r.2.mem ((c.tc : Thread Cert.XProjIdeal.nD Cert.XProjIdeal.τ).loc Cert.XProjIdeal.main_arg2) = m ((c.tc : Thread Cert.XProjIdeal.nD Cert.XProjIdeal.τ).loc Cert.XProjIdeal.main_arg2)
      ∧ r.2.mem ((c.tc : Thread Cert.XProjIdeal.nD Cert.XProjIdeal.τ).loc Cert.XProjIdeal.main_arg3) = m ((c.tc : Thread Cert.XProjIdeal.nD Cert.XProjIdeal.τ).loc Cert.XProjIdeal.main_arg3))
      ∧ r.2.sem = fun _ => 0)

def quiescent_RefXProjIdeal [hRefXProjIdeal : Cert.RefXProjIdeal.Facts] : Prop :=
  ∀ (m : (ℓ : Loc Cert.RefXProjIdeal.nD Cert.RefXProjIdeal.τ Cert.RefXProjIdeal.sig) → Buf (Elt Ideal) ℓ) (g : Dev Cert.RefXProjIdeal.nD → PrngReg), Pre_RefXProjIdeal m →
    θ_run (Cert.RefXProjIdeal.defs (F := Ideal)) (onTc (τ := Cert.RefXProjIdeal.τ) (Cert.RefXProjIdeal.main (F := Ideal))) ⟨m, fun _ => 0, g⟩ (fun r => (∀ c : Dev Cert.RefXProjIdeal.nD,
      r.2.mem ((c.tc : Thread Cert.RefXProjIdeal.nD Cert.RefXProjIdeal.τ).loc Cert.RefXProjIdeal.main_arg0) = m ((c.tc : Thread Cert.RefXProjIdeal.nD Cert.RefXProjIdeal.τ).loc Cert.RefXProjIdeal.main_arg0)
      ∧ r.2.mem ((c.tc : Thread Cert.RefXProjIdeal.nD Cert.RefXProjIdeal.τ).loc Cert.RefXProjIdeal.main_arg1) = m ((c.tc : Thread Cert.RefXProjIdeal.nD Cert.RefXProjIdeal.τ).loc Cert.RefXProjIdeal.main_arg1)
      ∧ r.2.mem ((c.tc : Thread Cert.RefXProjIdeal.nD Cert.RefXProjIdeal.τ).loc Cert.RefXProjIdeal.main_arg2) = m ((c.tc : Thread Cert.RefXProjIdeal.nD Cert.RefXProjIdeal.τ).loc Cert.RefXProjIdeal.main_arg2)
      ∧ r.2.mem ((c.tc : Thread Cert.RefXProjIdeal.nD Cert.RefXProjIdeal.τ).loc Cert.RefXProjIdeal.main_arg3) = m ((c.tc : Thread Cert.RefXProjIdeal.nD Cert.RefXProjIdeal.τ).loc Cert.RefXProjIdeal.main_arg3))
      ∧ r.2.sem = fun _ => 0)

def quiescent_RefXProjIdeal_pre_scales_proj_nonzero [hRefXProjIdeal : Cert.RefXProjIdeal.Facts] [hPre_scales_proj_nonzero : Cert.Pre_scales_proj_nonzero.Facts] : Prop :=
  ∀ (m : (ℓ : Loc Cert.RefXProjIdeal.nD Cert.RefXProjIdeal.τ Cert.RefXProjIdeal.sig) → Buf (Elt Ideal) ℓ) (g : Dev Cert.RefXProjIdeal.nD → PrngReg), Pre_RefXProjIdeal_scales_proj_nonzero m →
    θ_run (Cert.RefXProjIdeal.defs (F := Ideal)) (onTc (τ := Cert.RefXProjIdeal.τ) (Cert.RefXProjIdeal.main (F := Ideal))) ⟨m, fun _ => 0, g⟩ (fun r => (∀ c : Dev Cert.RefXProjIdeal.nD,
      r.2.mem ((c.tc : Thread Cert.RefXProjIdeal.nD Cert.RefXProjIdeal.τ).loc Cert.RefXProjIdeal.main_arg0) = m ((c.tc : Thread Cert.RefXProjIdeal.nD Cert.RefXProjIdeal.τ).loc Cert.RefXProjIdeal.main_arg0)
      ∧ r.2.mem ((c.tc : Thread Cert.RefXProjIdeal.nD Cert.RefXProjIdeal.τ).loc Cert.RefXProjIdeal.main_arg1) = m ((c.tc : Thread Cert.RefXProjIdeal.nD Cert.RefXProjIdeal.τ).loc Cert.RefXProjIdeal.main_arg1)
      ∧ r.2.mem ((c.tc : Thread Cert.RefXProjIdeal.nD Cert.RefXProjIdeal.τ).loc Cert.RefXProjIdeal.main_arg2) = m ((c.tc : Thread Cert.RefXProjIdeal.nD Cert.RefXProjIdeal.τ).loc Cert.RefXProjIdeal.main_arg2)
      ∧ r.2.mem ((c.tc : Thread Cert.RefXProjIdeal.nD Cert.RefXProjIdeal.τ).loc Cert.RefXProjIdeal.main_arg3) = m ((c.tc : Thread Cert.RefXProjIdeal.nD Cert.RefXProjIdeal.τ).loc Cert.RefXProjIdeal.main_arg3))
      ∧ r.2.sem = fun _ => 0)

def quiescent_InX [hInX : Cert.InX.Facts] : Prop :=
  ∀ (m : (ℓ : Loc Cert.InX.nD Cert.InX.τ Cert.InX.sig) → Buf (Elt Bits) ℓ) (g : Dev Cert.InX.nD → PrngReg), Pre_InX m →
    θ_run (Cert.InX.defs (F := Bits)) (onTc (τ := Cert.InX.τ) (Cert.InX.main (F := Bits))) ⟨m, fun _ => 0, g⟩ (fun r => (∀ c : Dev Cert.InX.nD,
      r.2.mem ((c.tc : Thread Cert.InX.nD Cert.InX.τ).loc Cert.InX.main_arg0) = m ((c.tc : Thread Cert.InX.nD Cert.InX.τ).loc Cert.InX.main_arg0)
      ∧ r.2.mem ((c.tc : Thread Cert.InX.nD Cert.InX.τ).loc Cert.InX.main_arg1) = m ((c.tc : Thread Cert.InX.nD Cert.InX.τ).loc Cert.InX.main_arg1)
      ∧ r.2.mem ((c.tc : Thread Cert.InX.nD Cert.InX.τ).loc Cert.InX.main_arg2) = m ((c.tc : Thread Cert.InX.nD Cert.InX.τ).loc Cert.InX.main_arg2)
      ∧ r.2.mem ((c.tc : Thread Cert.InX.nD Cert.InX.τ).loc Cert.InX.main_arg3) = m ((c.tc : Thread Cert.InX.nD Cert.InX.τ).loc Cert.InX.main_arg3)
      ∧ r.2.mem ((c.tc : Thread Cert.InX.nD Cert.InX.τ).loc Cert.InX.main_arg4) = m ((c.tc : Thread Cert.InX.nD Cert.InX.τ).loc Cert.InX.main_arg4)
      ∧ r.2.mem ((c.tc : Thread Cert.InX.nD Cert.InX.τ).loc Cert.InX.main_arg5) = m ((c.tc : Thread Cert.InX.nD Cert.InX.τ).loc Cert.InX.main_arg5))
      ∧ r.2.sem = fun _ => 0)

def quiescent_InXIdeal [hInXIdeal : Cert.InXIdeal.Facts] : Prop :=
  ∀ (m : (ℓ : Loc Cert.InXIdeal.nD Cert.InXIdeal.τ Cert.InXIdeal.sig) → Buf (Elt Ideal) ℓ) (g : Dev Cert.InXIdeal.nD → PrngReg), Pre_InXIdeal m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
      ∧ r.2.mem ((c.tc : Thread Cert.InXIdeal.nD Cert.InXIdeal.τ).loc Cert.InXIdeal.main_arg2) = m ((c.tc : Thread Cert.InXIdeal.nD Cert.InXIdeal.τ).loc Cert.InXIdeal.main_arg2)
      ∧ r.2.mem ((c.tc : Thread Cert.InXIdeal.nD Cert.InXIdeal.τ).loc Cert.InXIdeal.main_arg3) = m ((c.tc : Thread Cert.InXIdeal.nD Cert.InXIdeal.τ).loc Cert.InXIdeal.main_arg3)
      ∧ r.2.mem ((c.tc : Thread Cert.InXIdeal.nD Cert.InXIdeal.τ).loc Cert.InXIdeal.main_arg4) = m ((c.tc : Thread Cert.InXIdeal.nD Cert.InXIdeal.τ).loc Cert.InXIdeal.main_arg4)
      ∧ r.2.mem ((c.tc : Thread Cert.InXIdeal.nD Cert.InXIdeal.τ).loc Cert.InXIdeal.main_arg5) = m ((c.tc : Thread Cert.InXIdeal.nD Cert.InXIdeal.τ).loc Cert.InXIdeal.main_arg5))
      ∧ r.2.sem = fun _ => 0)

def quiescent_InXIdeal_pre_scales_conv_nonzero [hInXIdeal : Cert.InXIdeal.Facts] [hPre_scales_conv_nonzero : Cert.Pre_scales_conv_nonzero.Facts] : Prop :=
  ∀ (m : (ℓ : Loc Cert.InXIdeal.nD Cert.InXIdeal.τ Cert.InXIdeal.sig) → Buf (Elt Ideal) ℓ) (g : Dev Cert.InXIdeal.nD → PrngReg), Pre_InXIdeal_scales_conv_nonzero m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
      ∧ r.2.mem ((c.tc : Thread Cert.InXIdeal.nD Cert.InXIdeal.τ).loc Cert.InXIdeal.main_arg2) = m ((c.tc : Thread Cert.InXIdeal.nD Cert.InXIdeal.τ).loc Cert.InXIdeal.main_arg2)
      ∧ r.2.mem ((c.tc : Thread Cert.InXIdeal.nD Cert.InXIdeal.τ).loc Cert.InXIdeal.main_arg3) = m ((c.tc : Thread Cert.InXIdeal.nD Cert.InXIdeal.τ).loc Cert.InXIdeal.main_arg3)
      ∧ r.2.mem ((c.tc : Thread Cert.InXIdeal.nD Cert.InXIdeal.τ).loc Cert.InXIdeal.main_arg4) = m ((c.tc : Thread Cert.InXIdeal.nD Cert.InXIdeal.τ).loc Cert.InXIdeal.main_arg4)
      ∧ r.2.mem ((c.tc : Thread Cert.InXIdeal.nD Cert.InXIdeal.τ).loc Cert.InXIdeal.main_arg5) = m ((c.tc : Thread Cert.InXIdeal.nD Cert.InXIdeal.τ).loc Cert.InXIdeal.main_arg5))
      ∧ r.2.sem = fun _ => 0)

def quiescent_RefInXIdeal [hRefInXIdeal : Cert.RefInXIdeal.Facts] : Prop :=
  ∀ (m : (ℓ : Loc Cert.RefInXIdeal.nD Cert.RefInXIdeal.τ Cert.RefInXIdeal.sig) → Buf (Elt Ideal) ℓ) (g : Dev Cert.RefInXIdeal.nD → PrngReg), Pre_RefInXIdeal m →
    θ_run (Cert.RefInXIdeal.defs (F := Ideal)) (onTc (τ := Cert.RefInXIdeal.τ) (Cert.RefInXIdeal.main (F := Ideal))) ⟨m, fun _ => 0, g⟩ (fun r => (∀ c : Dev Cert.RefInXIdeal.nD,
      r.2.mem ((c.tc : Thread Cert.RefInXIdeal.nD Cert.RefInXIdeal.τ).loc Cert.RefInXIdeal.main_arg0) = m ((c.tc : Thread Cert.RefInXIdeal.nD Cert.RefInXIdeal.τ).loc Cert.RefInXIdeal.main_arg0)
      ∧ r.2.mem ((c.tc : Thread Cert.RefInXIdeal.nD Cert.RefInXIdeal.τ).loc Cert.RefInXIdeal.main_arg1) = m ((c.tc : Thread Cert.RefInXIdeal.nD Cert.RefInXIdeal.τ).loc Cert.RefInXIdeal.main_arg1)
      ∧ r.2.mem ((c.tc : Thread Cert.RefInXIdeal.nD Cert.RefInXIdeal.τ).loc Cert.RefInXIdeal.main_arg2) = m ((c.tc : Thread Cert.RefInXIdeal.nD Cert.RefInXIdeal.τ).loc Cert.RefInXIdeal.main_arg2)
      ∧ r.2.mem ((c.tc : Thread Cert.RefInXIdeal.nD Cert.RefInXIdeal.τ).loc Cert.RefInXIdeal.main_arg3) = m ((c.tc : Thread Cert.RefInXIdeal.nD Cert.RefInXIdeal.τ).loc Cert.RefInXIdeal.main_arg3)
      ∧ r.2.mem ((c.tc : Thread Cert.RefInXIdeal.nD Cert.RefInXIdeal.τ).loc Cert.RefInXIdeal.main_arg4) = m ((c.tc : Thread Cert.RefInXIdeal.nD Cert.RefInXIdeal.τ).loc Cert.RefInXIdeal.main_arg4)
      ∧ r.2.mem ((c.tc : Thread Cert.RefInXIdeal.nD Cert.RefInXIdeal.τ).loc Cert.RefInXIdeal.main_arg5) = m ((c.tc : Thread Cert.RefInXIdeal.nD Cert.RefInXIdeal.τ).loc Cert.RefInXIdeal.main_arg5))
      ∧ r.2.sem = fun _ => 0)

def quiescent_RefInXIdeal_pre_scales_conv_nonzero [hRefInXIdeal : Cert.RefInXIdeal.Facts] [hPre_scales_conv_nonzero : Cert.Pre_scales_conv_nonzero.Facts] : Prop :=
  ∀ (m : (ℓ : Loc Cert.RefInXIdeal.nD Cert.RefInXIdeal.τ Cert.RefInXIdeal.sig) → Buf (Elt Ideal) ℓ) (g : Dev Cert.RefInXIdeal.nD → PrngReg), Pre_RefInXIdeal_scales_conv_nonzero m →
    θ_run (Cert.RefInXIdeal.defs (F := Ideal)) (onTc (τ := Cert.RefInXIdeal.τ) (Cert.RefInXIdeal.main (F := Ideal))) ⟨m, fun _ => 0, g⟩ (fun r => (∀ c : Dev Cert.RefInXIdeal.nD,
      r.2.mem ((c.tc : Thread Cert.RefInXIdeal.nD Cert.RefInXIdeal.τ).loc Cert.RefInXIdeal.main_arg0) = m ((c.tc : Thread Cert.RefInXIdeal.nD Cert.RefInXIdeal.τ).loc Cert.RefInXIdeal.main_arg0)
      ∧ r.2.mem ((c.tc : Thread Cert.RefInXIdeal.nD Cert.RefInXIdeal.τ).loc Cert.RefInXIdeal.main_arg1) = m ((c.tc : Thread Cert.RefInXIdeal.nD Cert.RefInXIdeal.τ).loc Cert.RefInXIdeal.main_arg1)
      ∧ r.2.mem ((c.tc : Thread Cert.RefInXIdeal.nD Cert.RefInXIdeal.τ).loc Cert.RefInXIdeal.main_arg2) = m ((c.tc : Thread Cert.RefInXIdeal.nD Cert.RefInXIdeal.τ).loc Cert.RefInXIdeal.main_arg2)
      ∧ r.2.mem ((c.tc : Thread Cert.RefInXIdeal.nD Cert.RefInXIdeal.τ).loc Cert.RefInXIdeal.main_arg3) = m ((c.tc : Thread Cert.RefInXIdeal.nD Cert.RefInXIdeal.τ).loc Cert.RefInXIdeal.main_arg3)
      ∧ r.2.mem ((c.tc : Thread Cert.RefInXIdeal.nD Cert.RefInXIdeal.τ).loc Cert.RefInXIdeal.main_arg4) = m ((c.tc : Thread Cert.RefInXIdeal.nD Cert.RefInXIdeal.τ).loc Cert.RefInXIdeal.main_arg4)
      ∧ r.2.mem ((c.tc : Thread Cert.RefInXIdeal.nD Cert.RefInXIdeal.τ).loc Cert.RefInXIdeal.main_arg5) = m ((c.tc : Thread Cert.RefInXIdeal.nD Cert.RefInXIdeal.τ).loc Cert.RefInXIdeal.main_arg5))
      ∧ r.2.sem = fun _ => 0)

def quiescent_DqIn [hDqIn : Cert.DqIn.Facts] : Prop :=
  ∀ (m : (ℓ : Loc Cert.DqIn.nD Cert.DqIn.τ Cert.DqIn.sig) → Buf (Elt Bits) ℓ) (g : Dev Cert.DqIn.nD → PrngReg), Pre_DqIn m →
    θ_run (Cert.DqIn.defs (F := Bits)) (onTc (τ := Cert.DqIn.τ) (Cert.DqIn.main (F := Bits))) ⟨m, fun _ => 0, g⟩ (fun r => (∀ c : Dev Cert.DqIn.nD,
      r.2.mem ((c.tc : Thread Cert.DqIn.nD Cert.DqIn.τ).loc Cert.DqIn.main_arg0) = m ((c.tc : Thread Cert.DqIn.nD Cert.DqIn.τ).loc Cert.DqIn.main_arg0)
      ∧ r.2.mem ((c.tc : Thread Cert.DqIn.nD Cert.DqIn.τ).loc Cert.DqIn.main_arg1) = m ((c.tc : Thread Cert.DqIn.nD Cert.DqIn.τ).loc Cert.DqIn.main_arg1))
      ∧ r.2.sem = fun _ => 0)

def quiescent_DqInIdeal [hDqInIdeal : Cert.DqInIdeal.Facts] : Prop :=
  ∀ (m : (ℓ : Loc Cert.DqInIdeal.nD Cert.DqInIdeal.τ Cert.DqInIdeal.sig) → Buf (Elt Ideal) ℓ) (g : Dev Cert.DqInIdeal.nD → PrngReg), Pre_DqInIdeal m →
    θ_run (Cert.DqInIdeal.defs (F := Ideal)) (onTc (τ := Cert.DqInIdeal.τ) (Cert.DqInIdeal.main (F := Ideal))) ⟨m, fun _ => 0, g⟩ (fun r => (∀ c : Dev Cert.DqInIdeal.nD,
      r.2.mem ((c.tc : Thread Cert.DqInIdeal.nD Cert.DqInIdeal.τ).loc Cert.DqInIdeal.main_arg0) = m ((c.tc : Thread Cert.DqInIdeal.nD Cert.DqInIdeal.τ).loc Cert.DqInIdeal.main_arg0)
      ∧ r.2.mem ((c.tc : Thread Cert.DqInIdeal.nD Cert.DqInIdeal.τ).loc Cert.DqInIdeal.main_arg1) = m ((c.tc : Thread Cert.DqInIdeal.nD Cert.DqInIdeal.τ).loc Cert.DqInIdeal.main_arg1))
      ∧ r.2.sem = fun _ => 0)

def quiescent_RefDqInIdeal [hRefDqInIdeal : Cert.RefDqInIdeal.Facts] : Prop :=
  ∀ (m : (ℓ : Loc Cert.RefDqInIdeal.nD Cert.RefDqInIdeal.τ Cert.RefDqInIdeal.sig) → Buf (Elt Ideal) ℓ) (g : Dev Cert.RefDqInIdeal.nD → PrngReg), Pre_RefDqInIdeal m →
    θ_run (Cert.RefDqInIdeal.defs (F := Ideal)) (onTc (τ := Cert.RefDqInIdeal.τ) (Cert.RefDqInIdeal.main (F := Ideal))) ⟨m, fun _ => 0, g⟩ (fun r => (∀ c : Dev Cert.RefDqInIdeal.nD,
      r.2.mem ((c.tc : Thread Cert.RefDqInIdeal.nD Cert.RefDqInIdeal.τ).loc Cert.RefDqInIdeal.main_arg0) = m ((c.tc : Thread Cert.RefDqInIdeal.nD Cert.RefDqInIdeal.τ).loc Cert.RefDqInIdeal.main_arg0)
      ∧ r.2.mem ((c.tc : Thread Cert.RefDqInIdeal.nD Cert.RefDqInIdeal.τ).loc Cert.RefDqInIdeal.main_arg1) = m ((c.tc : Thread Cert.RefDqInIdeal.nD Cert.RefDqInIdeal.τ).loc Cert.RefDqInIdeal.main_arg1))
      ∧ r.2.sem = fun _ => 0)

def quiescent_DqOut [hDqOut : Cert.DqOut.Facts] : Prop :=
  ∀ (m : (ℓ : Loc Cert.DqOut.nD Cert.DqOut.τ Cert.DqOut.sig) → Buf (Elt Bits) ℓ) (g : Dev Cert.DqOut.nD → PrngReg), Pre_DqOut m →
    θ_run (Cert.DqOut.defs (F := Bits)) (onTc (τ := Cert.DqOut.τ) (Cert.DqOut.main (F := Bits))) ⟨m, fun _ => 0, g⟩ (fun r => (∀ c : Dev Cert.DqOut.nD,
      r.2.mem ((c.tc : Thread Cert.DqOut.nD Cert.DqOut.τ).loc Cert.DqOut.main_arg0) = m ((c.tc : Thread Cert.DqOut.nD Cert.DqOut.τ).loc Cert.DqOut.main_arg0)
      ∧ r.2.mem ((c.tc : Thread Cert.DqOut.nD Cert.DqOut.τ).loc Cert.DqOut.main_arg1) = m ((c.tc : Thread Cert.DqOut.nD Cert.DqOut.τ).loc Cert.DqOut.main_arg1))
      ∧ r.2.sem = fun _ => 0)

def quiescent_DqOutIdeal [hDqOutIdeal : Cert.DqOutIdeal.Facts] : Prop :=
  ∀ (m : (ℓ : Loc Cert.DqOutIdeal.nD Cert.DqOutIdeal.τ Cert.DqOutIdeal.sig) → Buf (Elt Ideal) ℓ) (g : Dev Cert.DqOutIdeal.nD → PrngReg), Pre_DqOutIdeal m →
    θ_run (Cert.DqOutIdeal.defs (F := Ideal)) (onTc (τ := Cert.DqOutIdeal.τ) (Cert.DqOutIdeal.main (F := Ideal))) ⟨m, fun _ => 0, g⟩ (fun r => (∀ c : Dev Cert.DqOutIdeal.nD,
      r.2.mem ((c.tc : Thread Cert.DqOutIdeal.nD Cert.DqOutIdeal.τ).loc Cert.DqOutIdeal.main_arg0) = m ((c.tc : Thread Cert.DqOutIdeal.nD Cert.DqOutIdeal.τ).loc Cert.DqOutIdeal.main_arg0)
      ∧ r.2.mem ((c.tc : Thread Cert.DqOutIdeal.nD Cert.DqOutIdeal.τ).loc Cert.DqOutIdeal.main_arg1) = m ((c.tc : Thread Cert.DqOutIdeal.nD Cert.DqOutIdeal.τ).loc Cert.DqOutIdeal.main_arg1))
      ∧ r.2.sem = fun _ => 0)

def quiescent_RefDqOutIdeal [hRefDqOutIdeal : Cert.RefDqOutIdeal.Facts] : Prop :=
  ∀ (m : (ℓ : Loc Cert.RefDqOutIdeal.nD Cert.RefDqOutIdeal.τ Cert.RefDqOutIdeal.sig) → Buf (Elt Ideal) ℓ) (g : Dev Cert.RefDqOutIdeal.nD → PrngReg), Pre_RefDqOutIdeal m →
    θ_run (Cert.RefDqOutIdeal.defs (F := Ideal)) (onTc (τ := Cert.RefDqOutIdeal.τ) (Cert.RefDqOutIdeal.main (F := Ideal))) ⟨m, fun _ => 0, g⟩ (fun r => (∀ c : Dev Cert.RefDqOutIdeal.nD,
      r.2.mem ((c.tc : Thread Cert.RefDqOutIdeal.nD Cert.RefDqOutIdeal.τ).loc Cert.RefDqOutIdeal.main_arg0) = m ((c.tc : Thread Cert.RefDqOutIdeal.nD Cert.RefDqOutIdeal.τ).loc Cert.RefDqOutIdeal.main_arg0)
      ∧ r.2.mem ((c.tc : Thread Cert.RefDqOutIdeal.nD Cert.RefDqOutIdeal.τ).loc Cert.RefDqOutIdeal.main_arg1) = m ((c.tc : Thread Cert.RefDqOutIdeal.nD Cert.RefDqOutIdeal.τ).loc Cert.RefDqOutIdeal.main_arg1))
      ∧ r.2.sem = fun _ => 0)

def preserves_InZ_InZIdeal : Prop :=
  True

def algebraic_InZIdeal_RefInZIdeal [hInZIdeal : Cert.InZIdeal.Facts] [hRefInZIdeal : Cert.RefInZIdeal.Facts] : Prop :=
  ∀ (m : (ℓ : Loc Cert.InZIdeal.nD Cert.InZIdeal.τ Cert.InZIdeal.sig) → Buf (Elt Ideal) ℓ) (g : Dev Cert.InZIdeal.nD → PrngReg)
    (m' : (ℓ : Loc Cert.RefInZIdeal.nD Cert.RefInZIdeal.τ Cert.RefInZIdeal.sig) → Buf (Elt Ideal) ℓ) (g' : Dev Cert.RefInZIdeal.nD → PrngReg), Pre_InZIdeal m →
    (∀ c : Dev Cert.InZIdeal.nD,
      m' ((c.tc : Thread Cert.RefInZIdeal.nD Cert.RefInZIdeal.τ).loc Cert.RefInZIdeal.main_arg0) = m ((c.tc : Thread Cert.InZIdeal.nD Cert.InZIdeal.τ).loc Cert.InZIdeal.main_arg0)
      ∧ m' ((c.tc : Thread Cert.RefInZIdeal.nD Cert.RefInZIdeal.τ).loc Cert.RefInZIdeal.main_arg1) = m ((c.tc : Thread Cert.InZIdeal.nD Cert.InZIdeal.τ).loc Cert.InZIdeal.main_arg1)
      ∧ m' ((c.tc : Thread Cert.RefInZIdeal.nD Cert.RefInZIdeal.τ).loc Cert.RefInZIdeal.main_arg2) = m ((c.tc : Thread Cert.InZIdeal.nD Cert.InZIdeal.τ).loc Cert.InZIdeal.main_arg2)) →
    ∃ (v0 : (c : Dev Cert.InZIdeal.nD) → Buf (Elt Ideal) ((c.tc : Thread Cert.InZIdeal.nD Cert.InZIdeal.τ).loc Cert.InZIdeal.main_v0)),
      θ_run (Cert.InZIdeal.defs (F := Ideal)) (onTc (τ := Cert.InZIdeal.τ) (Cert.InZIdeal.main (F := Ideal))) ⟨m, fun _ => 0, g⟩ (fun r => ∀ c : Dev Cert.InZIdeal.nD,
          r.2.mem ((c.tc : Thread Cert.InZIdeal.nD Cert.InZIdeal.τ).loc Cert.InZIdeal.main_v0) = v0 c
          ∧ r.2.mem ((c.tc : Thread Cert.InZIdeal.nD Cert.InZIdeal.τ).loc Cert.InZIdeal.main_arg0) = m ((c.tc : Thread Cert.InZIdeal.nD Cert.InZIdeal.τ).loc Cert.InZIdeal.main_arg0)
          ∧ r.2.mem ((c.tc : Thread Cert.InZIdeal.nD Cert.InZIdeal.τ).loc Cert.InZIdeal.main_arg1) = m ((c.tc : Thread Cert.InZIdeal.nD Cert.InZIdeal.τ).loc Cert.InZIdeal.main_arg1)
          ∧ r.2.mem ((c.tc : Thread Cert.InZIdeal.nD Cert.InZIdeal.τ).loc Cert.InZIdeal.main_arg2) = m ((c.tc : Thread Cert.InZIdeal.nD Cert.InZIdeal.τ).loc Cert.InZIdeal.main_arg2))
      ∧ θ_run (Cert.RefInZIdeal.defs (F := Ideal)) (onTc (τ := Cert.RefInZIdeal.τ) (Cert.RefInZIdeal.main (F := Ideal))) ⟨m', fun _ => 0, g'⟩ (fun r => ∀ c : Dev Cert.RefInZIdeal.nD,
          r.2.mem ((c.tc : Thread Cert.RefInZIdeal.nD Cert.RefInZIdeal.τ).loc Cert.RefInZIdeal.main_v8) = v0 c
          ∧ r.2.mem ((c.tc : Thread Cert.RefInZIdeal.nD Cert.RefInZIdeal.τ).loc Cert.RefInZIdeal.main_arg0) = m' ((c.tc : Thread Cert.RefInZIdeal.nD Cert.RefInZIdeal.τ).loc Cert.RefInZIdeal.main_arg0)
          ∧ r.2.mem ((c.tc : Thread Cert.RefInZIdeal.nD Cert.RefInZIdeal.τ).loc Cert.RefInZIdeal.main_arg1) = m' ((c.tc : Thread Cert.RefInZIdeal.nD Cert.RefInZIdeal.τ).loc Cert.RefInZIdeal.main_arg1)
          ∧ r.2.mem ((c.tc : Thread Cert.RefInZIdeal.nD Cert.RefInZIdeal.τ).loc Cert.RefInZIdeal.main_arg2) = m' ((c.tc : Thread Cert.RefInZIdeal.nD Cert.RefInZIdeal.τ).loc Cert.RefInZIdeal.main_arg2))

def preserves_Out_OutIdeal : Prop :=
  True

def algebraic_OutIdeal_RefOutIdeal [hOutIdeal : Cert.OutIdeal.Facts] [hRefOutIdeal : Cert.RefOutIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_OutIdeal m →
    (∀ c : Dev Cert.OutIdeal.nD,
      m' ((c.tc : Thread Cert.RefOutIdeal.nD Cert.RefOutIdeal.τ).loc Cert.RefOutIdeal.main_arg0) = m ((c.tc : Thread Cert.OutIdeal.nD Cert.OutIdeal.τ).loc Cert.OutIdeal.main_arg0)
      ∧ m' ((c.tc : Thread Cert.RefOutIdeal.nD Cert.RefOutIdeal.τ).loc Cert.RefOutIdeal.main_arg1) = m ((c.tc : Thread Cert.OutIdeal.nD Cert.OutIdeal.τ).loc Cert.OutIdeal.main_arg1)
      ∧ m' ((c.tc : Thread Cert.RefOutIdeal.nD Cert.RefOutIdeal.τ).loc Cert.RefOutIdeal.main_arg2) = m ((c.tc : Thread Cert.OutIdeal.nD Cert.OutIdeal.τ).loc Cert.OutIdeal.main_arg2)
      ∧ m' ((c.tc : Thread Cert.RefOutIdeal.nD Cert.RefOutIdeal.τ).loc Cert.RefOutIdeal.main_arg3) = m ((c.tc : Thread Cert.OutIdeal.nD Cert.OutIdeal.τ).loc Cert.OutIdeal.main_arg3)
      ∧ m' ((c.tc : Thread Cert.RefOutIdeal.nD Cert.RefOutIdeal.τ).loc Cert.RefOutIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v12) = v0 c
          ∧ r.2.mem ((c.tc : Thread Cert.RefOutIdeal.nD Cert.RefOutIdeal.τ).loc Cert.RefOutIdeal.main_v10) = v1 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1)
          ∧ r.2.mem ((c.tc : Thread Cert.RefOutIdeal.nD Cert.RefOutIdeal.τ).loc Cert.RefOutIdeal.main_arg2) = m' ((c.tc : Thread Cert.RefOutIdeal.nD Cert.RefOutIdeal.τ).loc Cert.RefOutIdeal.main_arg2)
          ∧ r.2.mem ((c.tc : Thread Cert.RefOutIdeal.nD Cert.RefOutIdeal.τ).loc Cert.RefOutIdeal.main_arg3) = m' ((c.tc : Thread Cert.RefOutIdeal.nD Cert.RefOutIdeal.τ).loc Cert.RefOutIdeal.main_arg3)
          ∧ r.2.mem ((c.tc : Thread Cert.RefOutIdeal.nD Cert.RefOutIdeal.τ).loc Cert.RefOutIdeal.main_arg4) = m' ((c.tc : Thread Cert.RefOutIdeal.nD Cert.RefOutIdeal.τ).loc Cert.RefOutIdeal.main_arg4))

def preserves_Norm_NormIdeal : Prop :=
  True

def algebraic_NormIdeal_RefNormIdeal_pre_scale_in_nonzero [hNormIdeal : Cert.NormIdeal.Facts] [hRefNormIdeal : Cert.RefNormIdeal.Facts] [hPre_scale_in_nonzero : Cert.Pre_scale_in_nonzero.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.RefNormIdeal.nD Cert.RefNormIdeal.τ Cert.RefNormIdeal.sig) → Buf (Elt Ideal) ℓ) (g' : Dev Cert.RefNormIdeal.nD → PrngReg), Pre_NormIdeal_scale_in_nonzero m →
    (∀ c : Dev Cert.NormIdeal.nD,
      m' ((c.tc : Thread Cert.RefNormIdeal.nD Cert.RefNormIdeal.τ).loc Cert.RefNormIdeal.main_arg0) = m ((c.tc : Thread Cert.NormIdeal.nD Cert.NormIdeal.τ).loc Cert.NormIdeal.main_arg0)
      ∧ m' ((c.tc : Thread Cert.RefNormIdeal.nD Cert.RefNormIdeal.τ).loc Cert.RefNormIdeal.main_arg1) = m ((c.tc : Thread Cert.NormIdeal.nD Cert.NormIdeal.τ).loc Cert.NormIdeal.main_arg1)
      ∧ m' ((c.tc : Thread Cert.RefNormIdeal.nD Cert.RefNormIdeal.τ).loc Cert.RefNormIdeal.main_arg2) = m ((c.tc : Thread Cert.NormIdeal.nD Cert.NormIdeal.τ).loc Cert.NormIdeal.main_arg2)
      ∧ m' ((c.tc : Thread Cert.RefNormIdeal.nD Cert.RefNormIdeal.τ).loc Cert.RefNormIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.RefNormIdeal.defs (F := Ideal)) (onTc (τ := Cert.RefNormIdeal.τ) (Cert.RefNormIdeal.main (F := Ideal))) ⟨m', fun _ => 0, g'⟩ (fun r => ∀ c : Dev Cert.RefNormIdeal.nD,
          r.2.mem ((c.tc : Thread Cert.RefNormIdeal.nD Cert.RefNormIdeal.τ).loc Cert.RefNormIdeal.main_v23) = v0 c
          ∧ r.2.mem ((c.tc : Thread Cert.RefNormIdeal.nD Cert.RefNormIdeal.τ).loc Cert.RefNormIdeal.main_arg0) = m' ((c.tc : Thread Cert.RefNormIdeal.nD Cert.RefNormIdeal.τ).loc Cert.RefNormIdeal.main_arg0)
          ∧ r.2.mem ((c.tc : Thread Cert.RefNormIdeal.nD Cert.RefNormIdeal.τ).loc Cert.RefNormIdeal.main_arg1) = m' ((c.tc : Thread Cert.RefNormIdeal.nD Cert.RefNormIdeal.τ).loc Cert.RefNormIdeal.main_arg1)
          ∧ r.2.mem ((c.tc : Thread Cert.RefNormIdeal.nD Cert.RefNormIdeal.τ).loc Cert.RefNormIdeal.main_arg2) = m' ((c.tc : Thread Cert.RefNormIdeal.nD Cert.RefNormIdeal.τ).loc Cert.RefNormIdeal.main_arg2)
          ∧ r.2.mem ((c.tc : Thread Cert.RefNormIdeal.nD Cert.RefNormIdeal.τ).loc Cert.RefNormIdeal.main_arg3) = m' ((c.tc : Thread Cert.RefNormIdeal.nD Cert.RefNormIdeal.τ).loc Cert.RefNormIdeal.main_arg3))

def preserves_XProj_XProjIdeal : Prop :=
  True

def algebraic_XProjIdeal_RefXProjIdeal_pre_scales_proj_nonzero [hXProjIdeal : Cert.XProjIdeal.Facts] [hRefXProjIdeal : Cert.RefXProjIdeal.Facts] [hPre_scales_proj_nonzero : Cert.Pre_scales_proj_nonzero.Facts] : Prop :=
  ∀ (m : (ℓ : Loc Cert.XProjIdeal.nD Cert.XProjIdeal.τ Cert.XProjIdeal.sig) → Buf (Elt Ideal) ℓ) (g : Dev Cert.XProjIdeal.nD → PrngReg)
    (m' : (ℓ : Loc Cert.RefXProjIdeal.nD Cert.RefXProjIdeal.τ Cert.RefXProjIdeal.sig) → Buf (Elt Ideal) ℓ) (g' : Dev Cert.RefXProjIdeal.nD → PrngReg), Pre_XProjIdeal_scales_proj_nonzero m →
    (∀ c : Dev Cert.XProjIdeal.nD,
      m' ((c.tc : Thread Cert.RefXProjIdeal.nD Cert.RefXProjIdeal.τ).loc Cert.RefXProjIdeal.main_arg0) = m ((c.tc : Thread Cert.XProjIdeal.nD Cert.XProjIdeal.τ).loc Cert.XProjIdeal.main_arg0)
      ∧ m' ((c.tc : Thread Cert.RefXProjIdeal.nD Cert.RefXProjIdeal.τ).loc Cert.RefXProjIdeal.main_arg1) = m ((c.tc : Thread Cert.XProjIdeal.nD Cert.XProjIdeal.τ).loc Cert.XProjIdeal.main_arg1)
      ∧ m' ((c.tc : Thread Cert.RefXProjIdeal.nD Cert.RefXProjIdeal.τ).loc Cert.RefXProjIdeal.main_arg2) = m ((c.tc : Thread Cert.XProjIdeal.nD Cert.XProjIdeal.τ).loc Cert.XProjIdeal.main_arg2)
      ∧ m' ((c.tc : Thread Cert.RefXProjIdeal.nD Cert.RefXProjIdeal.τ).loc Cert.RefXProjIdeal.main_arg3) = m ((c.tc : Thread Cert.XProjIdeal.nD Cert.XProjIdeal.τ).loc Cert.XProjIdeal.main_arg3)) →
    ∃ (v0 : (c : Dev Cert.XProjIdeal.nD) → Buf (Elt Ideal) ((c.tc : Thread Cert.XProjIdeal.nD Cert.XProjIdeal.τ).loc Cert.XProjIdeal.main_v1_0)) (v1 : (c : Dev Cert.XProjIdeal.nD) → Buf (Elt Ideal) ((c.tc : Thread Cert.XProjIdeal.nD Cert.XProjIdeal.τ).loc Cert.XProjIdeal.main_v1_1)) (v2 : (c : Dev Cert.XProjIdeal.nD) → Buf (Elt Ideal) ((c.tc : Thread Cert.XProjIdeal.nD Cert.XProjIdeal.τ).loc Cert.XProjIdeal.main_v1_2)) (v3 : (c : Dev Cert.XProjIdeal.nD) → Buf (Elt Ideal) ((c.tc : Thread Cert.XProjIdeal.nD Cert.XProjIdeal.τ).loc Cert.XProjIdeal.main_v1_3)),
      θ_run (Cert.XProjIdeal.defs (F := Ideal)) (onTc (τ := Cert.XProjIdeal.τ) (Cert.XProjIdeal.main (F := Ideal))) ⟨m, fun _ => 0, g⟩ (fun r => ∀ c : Dev Cert.XProjIdeal.nD,
          r.2.mem ((c.tc : Thread Cert.XProjIdeal.nD Cert.XProjIdeal.τ).loc Cert.XProjIdeal.main_v1_0) = v0 c
          ∧ r.2.mem ((c.tc : Thread Cert.XProjIdeal.nD Cert.XProjIdeal.τ).loc Cert.XProjIdeal.main_v1_1) = v1 c
          ∧ r.2.mem ((c.tc : Thread Cert.XProjIdeal.nD Cert.XProjIdeal.τ).loc Cert.XProjIdeal.main_v1_2) = v2 c
          ∧ r.2.mem ((c.tc : Thread Cert.XProjIdeal.nD Cert.XProjIdeal.τ).loc Cert.XProjIdeal.main_v1_3) = v3 c
          ∧ r.2.mem ((c.tc : Thread Cert.XProjIdeal.nD Cert.XProjIdeal.τ).loc Cert.XProjIdeal.main_arg0) = m ((c.tc : Thread Cert.XProjIdeal.nD Cert.XProjIdeal.τ).loc Cert.XProjIdeal.main_arg0)
          ∧ r.2.mem ((c.tc : Thread Cert.XProjIdeal.nD Cert.XProjIdeal.τ).loc Cert.XProjIdeal.main_arg1) = m ((c.tc : Thread Cert.XProjIdeal.nD Cert.XProjIdeal.τ).loc Cert.XProjIdeal.main_arg1)
          ∧ r.2.mem ((c.tc : Thread Cert.XProjIdeal.nD Cert.XProjIdeal.τ).loc Cert.XProjIdeal.main_arg2) = m ((c.tc : Thread Cert.XProjIdeal.nD Cert.XProjIdeal.τ).loc Cert.XProjIdeal.main_arg2)
          ∧ r.2.mem ((c.tc : Thread Cert.XProjIdeal.nD Cert.XProjIdeal.τ).loc Cert.XProjIdeal.main_arg3) = m ((c.tc : Thread Cert.XProjIdeal.nD Cert.XProjIdeal.τ).loc Cert.XProjIdeal.main_arg3))
      ∧ θ_run (Cert.RefXProjIdeal.defs (F := Ideal)) (onTc (τ := Cert.RefXProjIdeal.τ) (Cert.RefXProjIdeal.main (F := Ideal))) ⟨m', fun _ => 0, g'⟩ (fun r => ∀ c : Dev Cert.RefXProjIdeal.nD,
          r.2.mem ((c.tc : Thread Cert.RefXProjIdeal.nD Cert.RefXProjIdeal.τ).loc Cert.RefXProjIdeal.main_v13) = v0 c
          ∧ r.2.mem ((c.tc : Thread Cert.RefXProjIdeal.nD Cert.RefXProjIdeal.τ).loc Cert.RefXProjIdeal.main_v22) = v1 c
          ∧ r.2.mem ((c.tc : Thread Cert.RefXProjIdeal.nD Cert.RefXProjIdeal.τ).loc Cert.RefXProjIdeal.main_v31) = v2 c
          ∧ r.2.mem ((c.tc : Thread Cert.RefXProjIdeal.nD Cert.RefXProjIdeal.τ).loc Cert.RefXProjIdeal.main_v40) = v3 c
          ∧ r.2.mem ((c.tc : Thread Cert.RefXProjIdeal.nD Cert.RefXProjIdeal.τ).loc Cert.RefXProjIdeal.main_arg0) = m' ((c.tc : Thread Cert.RefXProjIdeal.nD Cert.RefXProjIdeal.τ).loc Cert.RefXProjIdeal.main_arg0)
          ∧ r.2.mem ((c.tc : Thread Cert.RefXProjIdeal.nD Cert.RefXProjIdeal.τ).loc Cert.RefXProjIdeal.main_arg1) = m' ((c.tc : Thread Cert.RefXProjIdeal.nD Cert.RefXProjIdeal.τ).loc Cert.RefXProjIdeal.main_arg1)
          ∧ r.2.mem ((c.tc : Thread Cert.RefXProjIdeal.nD Cert.RefXProjIdeal.τ).loc Cert.RefXProjIdeal.main_arg2) = m' ((c.tc : Thread Cert.RefXProjIdeal.nD Cert.RefXProjIdeal.τ).loc Cert.RefXProjIdeal.main_arg2)
          ∧ r.2.mem ((c.tc : Thread Cert.RefXProjIdeal.nD Cert.RefXProjIdeal.τ).loc Cert.RefXProjIdeal.main_arg3) = m' ((c.tc : Thread Cert.RefXProjIdeal.nD Cert.RefXProjIdeal.τ).loc Cert.RefXProjIdeal.main_arg3))

def preserves_InX_InXIdeal : Prop :=
  True

def algebraic_InXIdeal_RefInXIdeal_pre_scales_conv_nonzero [hInXIdeal : Cert.InXIdeal.Facts] [hRefInXIdeal : Cert.RefInXIdeal.Facts] [hPre_scales_conv_nonzero : Cert.Pre_scales_conv_nonzero.Facts] : Prop :=
  ∀ (m : (ℓ : Loc Cert.InXIdeal.nD Cert.InXIdeal.τ Cert.InXIdeal.sig) → Buf (Elt Ideal) ℓ) (g : Dev Cert.InXIdeal.nD → PrngReg)
    (m' : (ℓ : Loc Cert.RefInXIdeal.nD Cert.RefInXIdeal.τ Cert.RefInXIdeal.sig) → Buf (Elt Ideal) ℓ) (g' : Dev Cert.RefInXIdeal.nD → PrngReg), Pre_InXIdeal_scales_conv_nonzero m →
    (∀ c : Dev Cert.InXIdeal.nD,
      m' ((c.tc : Thread Cert.RefInXIdeal.nD Cert.RefInXIdeal.τ).loc Cert.RefInXIdeal.main_arg0) = m ((c.tc : Thread Cert.InXIdeal.nD Cert.InXIdeal.τ).loc Cert.InXIdeal.main_arg0)
      ∧ m' ((c.tc : Thread Cert.RefInXIdeal.nD Cert.RefInXIdeal.τ).loc Cert.RefInXIdeal.main_arg1) = m ((c.tc : Thread Cert.InXIdeal.nD Cert.InXIdeal.τ).loc Cert.InXIdeal.main_arg1)
      ∧ m' ((c.tc : Thread Cert.RefInXIdeal.nD Cert.RefInXIdeal.τ).loc Cert.RefInXIdeal.main_arg2) = m ((c.tc : Thread Cert.InXIdeal.nD Cert.InXIdeal.τ).loc Cert.InXIdeal.main_arg2)
      ∧ m' ((c.tc : Thread Cert.RefInXIdeal.nD Cert.RefInXIdeal.τ).loc Cert.RefInXIdeal.main_arg3) = m ((c.tc : Thread Cert.InXIdeal.nD Cert.InXIdeal.τ).loc Cert.InXIdeal.main_arg3)
      ∧ m' ((c.tc : Thread Cert.RefInXIdeal.nD Cert.RefInXIdeal.τ).loc Cert.RefInXIdeal.main_arg4) = m ((c.tc : Thread Cert.InXIdeal.nD Cert.InXIdeal.τ).loc Cert.InXIdeal.main_arg4)
      ∧ m' ((c.tc : Thread Cert.RefInXIdeal.nD Cert.RefInXIdeal.τ).loc Cert.RefInXIdeal.main_arg5) = m ((c.tc : Thread Cert.InXIdeal.nD Cert.InXIdeal.τ).loc Cert.InXIdeal.main_arg5)) →
    ∃ (v0 : (c : Dev Cert.InXIdeal.nD) → Buf (Elt Ideal) ((c.tc : Thread Cert.InXIdeal.nD Cert.InXIdeal.τ).loc Cert.InXIdeal.main_v2_0)) (v1 : (c : Dev Cert.InXIdeal.nD) → Buf (Elt Ideal) ((c.tc : Thread Cert.InXIdeal.nD Cert.InXIdeal.τ).loc Cert.InXIdeal.main_v2_1)) (v2 : (c : Dev Cert.InXIdeal.nD) → Buf (Elt Ideal) ((c.tc : Thread Cert.InXIdeal.nD Cert.InXIdeal.τ).loc Cert.InXIdeal.main_v2_2)),
      θ_run (Cert.InXIdeal.defs (F := Ideal)) (onTc (τ := Cert.InXIdeal.τ) (Cert.InXIdeal.main (F := Ideal))) ⟨m, fun _ => 0, g⟩ (fun r => ∀ c : Dev Cert.InXIdeal.nD,
          r.2.mem ((c.tc : Thread Cert.InXIdeal.nD Cert.InXIdeal.τ).loc Cert.InXIdeal.main_v2_0) = v0 c
          ∧ r.2.mem ((c.tc : Thread Cert.InXIdeal.nD Cert.InXIdeal.τ).loc Cert.InXIdeal.main_v2_1) = v1 c
          ∧ r.2.mem ((c.tc : Thread Cert.InXIdeal.nD Cert.InXIdeal.τ).loc Cert.InXIdeal.main_v2_2) = v2 c
          ∧ r.2.mem ((c.tc : Thread Cert.InXIdeal.nD Cert.InXIdeal.τ).loc Cert.InXIdeal.main_arg0) = m ((c.tc : Thread Cert.InXIdeal.nD Cert.InXIdeal.τ).loc Cert.InXIdeal.main_arg0)
          ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
          ∧ r.2.mem ((c.tc : Thread Cert.InXIdeal.nD Cert.InXIdeal.τ).loc Cert.InXIdeal.main_arg2) = m ((c.tc : Thread Cert.InXIdeal.nD Cert.InXIdeal.τ).loc Cert.InXIdeal.main_arg2)
          ∧ r.2.mem ((c.tc : Thread Cert.InXIdeal.nD Cert.InXIdeal.τ).loc Cert.InXIdeal.main_arg3) = m ((c.tc : Thread Cert.InXIdeal.nD Cert.InXIdeal.τ).loc Cert.InXIdeal.main_arg3)
          ∧ r.2.mem ((c.tc : Thread Cert.InXIdeal.nD Cert.InXIdeal.τ).loc Cert.InXIdeal.main_arg4) = m ((c.tc : Thread Cert.InXIdeal.nD Cert.InXIdeal.τ).loc Cert.InXIdeal.main_arg4)
          ∧ r.2.mem ((c.tc : Thread Cert.InXIdeal.nD Cert.InXIdeal.τ).loc Cert.InXIdeal.main_arg5) = m ((c.tc : Thread Cert.InXIdeal.nD Cert.InXIdeal.τ).loc Cert.InXIdeal.main_arg5))
      ∧ θ_run (Cert.RefInXIdeal.defs (F := Ideal)) (onTc (τ := Cert.RefInXIdeal.τ) (Cert.RefInXIdeal.main (F := Ideal))) ⟨m', fun _ => 0, g'⟩ (fun r => ∀ c : Dev Cert.RefInXIdeal.nD,
          r.2.mem ((c.tc : Thread Cert.RefInXIdeal.nD Cert.RefInXIdeal.τ).loc Cert.RefInXIdeal.main_v16) = v0 c
          ∧ r.2.mem ((c.tc : Thread Cert.RefInXIdeal.nD Cert.RefInXIdeal.τ).loc Cert.RefInXIdeal.main_v77) = v1 c
          ∧ r.2.mem ((c.tc : Thread Cert.RefInXIdeal.nD Cert.RefInXIdeal.τ).loc Cert.RefInXIdeal.main_v78) = v2 c
          ∧ r.2.mem ((c.tc : Thread Cert.RefInXIdeal.nD Cert.RefInXIdeal.τ).loc Cert.RefInXIdeal.main_arg0) = m' ((c.tc : Thread Cert.RefInXIdeal.nD Cert.RefInXIdeal.τ).loc Cert.RefInXIdeal.main_arg0)
          ∧ r.2.mem ((c.tc : Thread Cert.RefInXIdeal.nD Cert.RefInXIdeal.τ).loc Cert.RefInXIdeal.main_arg1) = m' ((c.tc : Thread Cert.RefInXIdeal.nD Cert.RefInXIdeal.τ).loc Cert.RefInXIdeal.main_arg1)
          ∧ r.2.mem ((c.tc : Thread Cert.RefInXIdeal.nD Cert.RefInXIdeal.τ).loc Cert.RefInXIdeal.main_arg2) = m' ((c.tc : Thread Cert.RefInXIdeal.nD Cert.RefInXIdeal.τ).loc Cert.RefInXIdeal.main_arg2)
          ∧ r.2.mem ((c.tc : Thread Cert.RefInXIdeal.nD Cert.RefInXIdeal.τ).loc Cert.RefInXIdeal.main_arg3) = m' ((c.tc : Thread Cert.RefInXIdeal.nD Cert.RefInXIdeal.τ).loc Cert.RefInXIdeal.main_arg3)
          ∧ r.2.mem ((c.tc : Thread Cert.RefInXIdeal.nD Cert.RefInXIdeal.τ).loc Cert.RefInXIdeal.main_arg4) = m' ((c.tc : Thread Cert.RefInXIdeal.nD Cert.RefInXIdeal.τ).loc Cert.RefInXIdeal.main_arg4)
          ∧ r.2.mem ((c.tc : Thread Cert.RefInXIdeal.nD Cert.RefInXIdeal.τ).loc Cert.RefInXIdeal.main_arg5) = m' ((c.tc : Thread Cert.RefInXIdeal.nD Cert.RefInXIdeal.τ).loc Cert.RefInXIdeal.main_arg5))

def preserves_DqIn_DqInIdeal : Prop :=
  IdealRules.bf16_pair.Statement Cert.DqInIdeal.S128x512 Cert.DqInIdeal.S64x512
  ∧ IdealRules.bf16_pack.Statement Cert.DqInIdeal.S64x512

def algebraic_DqInIdeal_RefDqInIdeal [hDqInIdeal : Cert.DqInIdeal.Facts] [hRefDqInIdeal : Cert.RefDqInIdeal.Facts] : Prop :=
  ∀ (m : (ℓ : Loc Cert.DqInIdeal.nD Cert.DqInIdeal.τ Cert.DqInIdeal.sig) → Buf (Elt Ideal) ℓ) (g : Dev Cert.DqInIdeal.nD → PrngReg)
    (m' : (ℓ : Loc Cert.RefDqInIdeal.nD Cert.RefDqInIdeal.τ Cert.RefDqInIdeal.sig) → Buf (Elt Ideal) ℓ) (g' : Dev Cert.RefDqInIdeal.nD → PrngReg), Pre_DqInIdeal m →
    (∀ c : Dev Cert.DqInIdeal.nD,
      m' ((c.tc : Thread Cert.RefDqInIdeal.nD Cert.RefDqInIdeal.τ).loc Cert.RefDqInIdeal.main_arg0) = m ((c.tc : Thread Cert.DqInIdeal.nD Cert.DqInIdeal.τ).loc Cert.DqInIdeal.main_arg0)
      ∧ m' ((c.tc : Thread Cert.RefDqInIdeal.nD Cert.RefDqInIdeal.τ).loc Cert.RefDqInIdeal.main_arg1) = m ((c.tc : Thread Cert.DqInIdeal.nD Cert.DqInIdeal.τ).loc Cert.DqInIdeal.main_arg1)) →
    ∃ (v0 : (c : Dev Cert.DqInIdeal.nD) → Buf (Elt Ideal) ((c.tc : Thread Cert.DqInIdeal.nD Cert.DqInIdeal.τ).loc Cert.DqInIdeal.main_v1)),
      θ_run (Cert.DqInIdeal.defs (F := Ideal)) (onTc (τ := Cert.DqInIdeal.τ) (Cert.DqInIdeal.main (F := Ideal))) ⟨m, fun _ => 0, g⟩ (fun r => ∀ c : Dev Cert.DqInIdeal.nD,
          r.2.mem ((c.tc : Thread Cert.DqInIdeal.nD Cert.DqInIdeal.τ).loc Cert.DqInIdeal.main_v1) = v0 c
          ∧ r.2.mem ((c.tc : Thread Cert.DqInIdeal.nD Cert.DqInIdeal.τ).loc Cert.DqInIdeal.main_arg0) = m ((c.tc : Thread Cert.DqInIdeal.nD Cert.DqInIdeal.τ).loc Cert.DqInIdeal.main_arg0)
          ∧ r.2.mem ((c.tc : Thread Cert.DqInIdeal.nD Cert.DqInIdeal.τ).loc Cert.DqInIdeal.main_arg1) = m ((c.tc : Thread Cert.DqInIdeal.nD Cert.DqInIdeal.τ).loc Cert.DqInIdeal.main_arg1))
      ∧ θ_run (Cert.RefDqInIdeal.defs (F := Ideal)) (onTc (τ := Cert.RefDqInIdeal.τ) (Cert.RefDqInIdeal.main (F := Ideal))) ⟨m', fun _ => 0, g'⟩ (fun r => ∀ c : Dev Cert.RefDqInIdeal.nD,
          r.2.mem ((c.tc : Thread Cert.RefDqInIdeal.nD Cert.RefDqInIdeal.τ).loc Cert.RefDqInIdeal.main_v23) = v0 c
          ∧ r.2.mem ((c.tc : Thread Cert.RefDqInIdeal.nD Cert.RefDqInIdeal.τ).loc Cert.RefDqInIdeal.main_arg0) = m' ((c.tc : Thread Cert.RefDqInIdeal.nD Cert.RefDqInIdeal.τ).loc Cert.RefDqInIdeal.main_arg0)
          ∧ r.2.mem ((c.tc : Thread Cert.RefDqInIdeal.nD Cert.RefDqInIdeal.τ).loc Cert.RefDqInIdeal.main_arg1) = m' ((c.tc : Thread Cert.RefDqInIdeal.nD Cert.RefDqInIdeal.τ).loc Cert.RefDqInIdeal.main_arg1))

def preserves_DqOut_DqOutIdeal : Prop :=
  IdealRules.bf16_pair.Statement Cert.DqOutIdeal.S128x256 Cert.DqOutIdeal.S64x256
  ∧ IdealRules.bf16_pack.Statement Cert.DqOutIdeal.S64x256

def algebraic_DqOutIdeal_RefDqOutIdeal [hDqOutIdeal : Cert.DqOutIdeal.Facts] [hRefDqOutIdeal : Cert.RefDqOutIdeal.Facts] : Prop :=
  ∀ (m : (ℓ : Loc Cert.DqOutIdeal.nD Cert.DqOutIdeal.τ Cert.DqOutIdeal.sig) → Buf (Elt Ideal) ℓ) (g : Dev Cert.DqOutIdeal.nD → PrngReg)
    (m' : (ℓ : Loc Cert.RefDqOutIdeal.nD Cert.RefDqOutIdeal.τ Cert.RefDqOutIdeal.sig) → Buf (Elt Ideal) ℓ) (g' : Dev Cert.RefDqOutIdeal.nD → PrngReg), Pre_DqOutIdeal m →
    (∀ c : Dev Cert.DqOutIdeal.nD,
      m' ((c.tc : Thread Cert.RefDqOutIdeal.nD Cert.RefDqOutIdeal.τ).loc Cert.RefDqOutIdeal.main_arg0) = m ((c.tc : Thread Cert.DqOutIdeal.nD Cert.DqOutIdeal.τ).loc Cert.DqOutIdeal.main_arg0)
      ∧ m' ((c.tc : Thread Cert.RefDqOutIdeal.nD Cert.RefDqOutIdeal.τ).loc Cert.RefDqOutIdeal.main_arg1) = m ((c.tc : Thread Cert.DqOutIdeal.nD Cert.DqOutIdeal.τ).loc Cert.DqOutIdeal.main_arg1)) →
    ∃ (v0 : (c : Dev Cert.DqOutIdeal.nD) → Buf (Elt Ideal) ((c.tc : Thread Cert.DqOutIdeal.nD Cert.DqOutIdeal.τ).loc Cert.DqOutIdeal.main_v1)),
      θ_run (Cert.DqOutIdeal.defs (F := Ideal)) (onTc (τ := Cert.DqOutIdeal.τ) (Cert.DqOutIdeal.main (F := Ideal))) ⟨m, fun _ => 0, g⟩ (fun r => ∀ c : Dev Cert.DqOutIdeal.nD,
          r.2.mem ((c.tc : Thread Cert.DqOutIdeal.nD Cert.DqOutIdeal.τ).loc Cert.DqOutIdeal.main_v1) = v0 c
          ∧ r.2.mem ((c.tc : Thread Cert.DqOutIdeal.nD Cert.DqOutIdeal.τ).loc Cert.DqOutIdeal.main_arg0) = m ((c.tc : Thread Cert.DqOutIdeal.nD Cert.DqOutIdeal.τ).loc Cert.DqOutIdeal.main_arg0)
          ∧ r.2.mem ((c.tc : Thread Cert.DqOutIdeal.nD Cert.DqOutIdeal.τ).loc Cert.DqOutIdeal.main_arg1) = m ((c.tc : Thread Cert.DqOutIdeal.nD Cert.DqOutIdeal.τ).loc Cert.DqOutIdeal.main_arg1))
      ∧ θ_run (Cert.RefDqOutIdeal.defs (F := Ideal)) (onTc (τ := Cert.RefDqOutIdeal.τ) (Cert.RefDqOutIdeal.main (F := Ideal))) ⟨m', fun _ => 0, g'⟩ (fun r => ∀ c : Dev Cert.RefDqOutIdeal.nD,
          r.2.mem ((c.tc : Thread Cert.RefDqOutIdeal.nD Cert.RefDqOutIdeal.τ).loc Cert.RefDqOutIdeal.main_v23) = v0 c
          ∧ r.2.mem ((c.tc : Thread Cert.RefDqOutIdeal.nD Cert.RefDqOutIdeal.τ).loc Cert.RefDqOutIdeal.main_arg0) = m' ((c.tc : Thread Cert.RefDqOutIdeal.nD Cert.RefDqOutIdeal.τ).loc Cert.RefDqOutIdeal.main_arg0)
          ∧ r.2.mem ((c.tc : Thread Cert.RefDqOutIdeal.nD Cert.RefDqOutIdeal.τ).loc Cert.RefDqOutIdeal.main_arg1) = m' ((c.tc : Thread Cert.RefDqOutIdeal.nD Cert.RefDqOutIdeal.τ).loc Cert.RefDqOutIdeal.main_arg1))

def Claim : Prop :=
  ∃ (hInZ : Cert.InZ.Facts) (hInZIdeal : Cert.InZIdeal.Facts) (hRefInZIdeal : Cert.RefInZIdeal.Facts) (hOut : Cert.Out.Facts) (hOutIdeal : Cert.OutIdeal.Facts) (hRefOutIdeal : Cert.RefOutIdeal.Facts) (hNorm : Cert.Norm.Facts) (hNormIdeal : Cert.NormIdeal.Facts) (hRefNormIdeal : Cert.RefNormIdeal.Facts) (hXProj : Cert.XProj.Facts) (hXProjIdeal : Cert.XProjIdeal.Facts) (hRefXProjIdeal : Cert.RefXProjIdeal.Facts) (hInX : Cert.InX.Facts) (hInXIdeal : Cert.InXIdeal.Facts) (hRefInXIdeal : Cert.RefInXIdeal.Facts) (hDqIn : Cert.DqIn.Facts) (hDqInIdeal : Cert.DqInIdeal.Facts) (hRefDqInIdeal : Cert.RefDqInIdeal.Facts) (hDqOut : Cert.DqOut.Facts) (hDqOutIdeal : Cert.DqOutIdeal.Facts) (hRefDqOutIdeal : Cert.RefDqOutIdeal.Facts) (hPre_scale_in_nonzero : Cert.Pre_scale_in_nonzero.Facts) (hPre_scales_proj_nonzero : Cert.Pre_scales_proj_nonzero.Facts) (hPre_scales_conv_nonzero : Cert.Pre_scales_conv_nonzero.Facts),
    quiescent_InZ (hInZ := hInZ)
    ∧ quiescent_InZIdeal (hInZIdeal := hInZIdeal)
    ∧ quiescent_RefInZIdeal (hRefInZIdeal := hRefInZIdeal)
    ∧ quiescent_Out (hOut := hOut)
    ∧ quiescent_OutIdeal (hOutIdeal := hOutIdeal)
    ∧ quiescent_RefOutIdeal (hRefOutIdeal := hRefOutIdeal)
    ∧ quiescent_Norm (hNorm := hNorm)
    ∧ quiescent_NormIdeal (hNormIdeal := hNormIdeal)
    ∧ quiescent_NormIdeal_pre_scale_in_nonzero (hNormIdeal := hNormIdeal) (hPre_scale_in_nonzero := hPre_scale_in_nonzero)
    ∧ quiescent_RefNormIdeal (hRefNormIdeal := hRefNormIdeal)
    ∧ quiescent_RefNormIdeal_pre_scale_in_nonzero (hRefNormIdeal := hRefNormIdeal) (hPre_scale_in_nonzero := hPre_scale_in_nonzero)
    ∧ quiescent_XProj (hXProj := hXProj)
    ∧ quiescent_XProjIdeal (hXProjIdeal := hXProjIdeal)
    ∧ quiescent_XProjIdeal_pre_scales_proj_nonzero (hXProjIdeal := hXProjIdeal) (hPre_scales_proj_nonzero := hPre_scales_proj_nonzero)
    ∧ quiescent_RefXProjIdeal (hRefXProjIdeal := hRefXProjIdeal)
    ∧ quiescent_RefXProjIdeal_pre_scales_proj_nonzero (hRefXProjIdeal := hRefXProjIdeal) (hPre_scales_proj_nonzero := hPre_scales_proj_nonzero)
    ∧ quiescent_InX (hInX := hInX)
    ∧ quiescent_InXIdeal (hInXIdeal := hInXIdeal)
    ∧ quiescent_InXIdeal_pre_scales_conv_nonzero (hInXIdeal := hInXIdeal) (hPre_scales_conv_nonzero := hPre_scales_conv_nonzero)
    ∧ quiescent_RefInXIdeal (hRefInXIdeal := hRefInXIdeal)
    ∧ quiescent_RefInXIdeal_pre_scales_conv_nonzero (hRefInXIdeal := hRefInXIdeal) (hPre_scales_conv_nonzero := hPre_scales_conv_nonzero)
    ∧ quiescent_DqIn (hDqIn := hDqIn)
    ∧ quiescent_DqInIdeal (hDqInIdeal := hDqInIdeal)
    ∧ quiescent_RefDqInIdeal (hRefDqInIdeal := hRefDqInIdeal)
    ∧ quiescent_DqOut (hDqOut := hDqOut)
    ∧ quiescent_DqOutIdeal (hDqOutIdeal := hDqOutIdeal)
    ∧ quiescent_RefDqOutIdeal (hRefDqOutIdeal := hRefDqOutIdeal)
    ∧ preserves_InZ_InZIdeal
    ∧ algebraic_InZIdeal_RefInZIdeal (hInZIdeal := hInZIdeal) (hRefInZIdeal := hRefInZIdeal)
    ∧ preserves_Out_OutIdeal
    ∧ algebraic_OutIdeal_RefOutIdeal (hOutIdeal := hOutIdeal) (hRefOutIdeal := hRefOutIdeal)
    ∧ preserves_Norm_NormIdeal
    ∧ algebraic_NormIdeal_RefNormIdeal_pre_scale_in_nonzero (hNormIdeal := hNormIdeal) (hRefNormIdeal := hRefNormIdeal) (hPre_scale_in_nonzero := hPre_scale_in_nonzero)
    ∧ preserves_XProj_XProjIdeal
    ∧ algebraic_XProjIdeal_RefXProjIdeal_pre_scales_proj_nonzero (hXProjIdeal := hXProjIdeal) (hRefXProjIdeal := hRefXProjIdeal) (hPre_scales_proj_nonzero := hPre_scales_proj_nonzero)
    ∧ preserves_InX_InXIdeal
    ∧ algebraic_InXIdeal_RefInXIdeal_pre_scales_conv_nonzero (hInXIdeal := hInXIdeal) (hRefInXIdeal := hRefInXIdeal) (hPre_scales_conv_nonzero := hPre_scales_conv_nonzero)
    ∧ preserves_DqIn_DqInIdeal
    ∧ algebraic_DqInIdeal_RefDqInIdeal (hDqInIdeal := hDqInIdeal) (hRefDqInIdeal := hRefDqInIdeal)
    ∧ preserves_DqOut_DqOutIdeal
    ∧ algebraic_DqOutIdeal_RefDqOutIdeal (hDqOutIdeal := hDqOutIdeal) (hRefDqOutIdeal := hRefDqOutIdeal)
-- ==== Pre_scale_in_nonzero.lean ====
abbrev S8 : Shape := ⟨1, ![8]⟩
abbrev S12288x2560 : Shape := ⟨2, ![12288, 2560]⟩
abbrev S2560 : Shape := ⟨1, ![2560]⟩
abbrev S1 : Shape := ⟨1, ![1]⟩
abbrev S_ : Shape := ⟨0, ![]⟩

class Facts : Prop where
  slices_S8_S1_0 : S8.Slices ![0] S1
  bcast_S_S1 : S_.BroadcastsInDim S1 (![] : Fin 0 → Fin S1.rank)

variable [Facts]

def fn {F : FTy → Type} [FloatOps F] (main_arg0 : FVec F S8 .f32) (main_arg1 : FVec F S12288x2560 .bf16) (main_arg2 : FVec F S12288x2560 .bf16) (main_arg3 : FVec F S2560 .f32) : IVec S1 1 :=
  let main_v0 : FVec F S1 .f32 := (extractStridedSlice S1 ![0] · slices_S8_S1_0) main_arg0
  let main_cst : FVec F S_ .f32 := constant S_ .f32 0x00000000#32
  let main_v1 : FVec F S1 .f32 := broadcastInDim S1 ![] bcast_S_S1 main_cst
  let main_v2 : IVec S1 1 := cmpf .une main_v0 main_v1
  main_v2
-- ==== Pre_scales_conv_nonzero.lean ====
abbrev S8 : Shape := ⟨1, ![8]⟩
abbrev S12288x2560 : Shape := ⟨2, ![12288, 2560]⟩
abbrev S2560x10240 : Shape := ⟨2, ![2560, 10240]⟩
abbrev S4x5120 : Shape := ⟨2, ![4, 5120]⟩
abbrev S5120 : Shape := ⟨1, ![5120]⟩
abbrev S2 : Shape := ⟨1, ![2]⟩
abbrev S_ : Shape := ⟨0, ![]⟩

class Facts : Prop where
  slices_S8_S2_1 : S8.Slices ![1] S2
  bcast_S_S2 : S_.BroadcastsInDim S2 (![] : Fin 0 → Fin S2.rank)

variable [Facts]

def fn {F : FTy → Type} [FloatOps F] (main_arg0 : FVec F S8 .f32) (main_arg1 : IVec S12288x2560 8) (main_arg2 : FVec F S2560x10240 .bf16) (main_arg3 : IVec S4x5120 8) (main_arg4 : FVec F S5120 .f32) (main_arg5 : FVec F S5120 .f32) : IVec S2 1 :=
  let main_v0 : FVec F S2 .f32 := (extractStridedSlice S2 ![1] · slices_S8_S2_1) main_arg0
  let main_cst : FVec F S_ .f32 := constant S_ .f32 0x00000000#32
  let main_v1 : FVec F S2 .f32 := broadcastInDim S2 ![] bcast_S_S2 main_cst
  let main_v2 : IVec S2 1 := cmpf .une main_v0 main_v1
  main_v2
-- ==== Pre_scales_proj_nonzero.lean ====
abbrev S8 : Shape := ⟨1, ![8]⟩
abbrev S12288x5120 : Shape := ⟨2, ![12288, 5120]⟩
abbrev S5120x192 : Shape := ⟨2, ![5120, 192]⟩
abbrev S192 : Shape := ⟨1, ![192]⟩
abbrev S3 : Shape := ⟨1, ![3]⟩
abbrev S_ : Shape := ⟨0, ![]⟩

class Facts : Prop where
  slices_S8_S3_3 : S8.Slices ![3] S3
  bcast_S_S3 : S_.BroadcastsInDim S3 (![] : Fin 0 → Fin S3.rank)

variable [Facts]

def fn {F : FTy → Type} [FloatOps F] (main_arg0 : FVec F S8 .f32) (main_arg1 : IVec S12288x5120 8) (main_arg2 : IVec S5120x192 8) (main_arg3 : FVec F S192 .f32) : IVec S3 1 :=
  let main_v0 : FVec F S3 .f32 := (extractStridedSlice S3 ![3] · slices_S8_S3_3) main_arg0
  let main_cst : FVec F S_ .f32 := constant S_ .f32 0x00000000#32
  let main_v1 : FVec F S3 .f32 := broadcastInDim S3 ![] bcast_S_S3 main_cst
  let main_v2 : IVec S3 1 := cmpf .une main_v0 main_v1
  main_v2
-- ==== InZ.lean ====
abbrev S8 : Shape := ⟨1, ![8]⟩
abbrev S12288x2560 : Shape := ⟨2, ![12288, 2560]⟩
abbrev S2560x10240 : Shape := ⟨2, ![2560, 10240]⟩
abbrev S12288x5120 : Shape := ⟨2, ![12288, 5120]⟩
abbrev S512x2560 : Shape := ⟨2, ![512, 2560]⟩
abbrev S2560x256 : Shape := ⟨2, ![2560, 256]⟩
abbrev S512x256 : Shape := ⟨2, ![512, 256]⟩
abbrev S1 : Shape := ⟨1, ![1]⟩

abbrev nBuf : Space → Nat
  | .hbm => 4
  | .vmem => 6
  | .smem => 1
  | _ => 0

abbrev bufTy : (tb : Table) → Fin (tcTables nBuf tb) → BufTy
  | .hbm, ⟨0, _⟩ => ⟨S8, .f32⟩
  | .hbm, ⟨1, _⟩ => ⟨S12288x2560, .i8⟩
  | .hbm, ⟨2, _⟩ => ⟨S2560x10240, .bf16⟩
  | .hbm, ⟨3, _⟩ => ⟨S12288x5120, .f32⟩
  | .local _ .vmem, ⟨0, _⟩ => ⟨S512x2560, .i8⟩
  | .local _ .vmem, ⟨1, _⟩ => ⟨S512x2560, .i8⟩
  | .local _ .vmem, ⟨2, _⟩ => ⟨S2560x256, .bf16⟩
  | .local _ .vmem, ⟨3, _⟩ => ⟨S2560x256, .bf16⟩
  | .local _ .vmem, ⟨4, _⟩ => ⟨S512x256, .f32⟩
  | .local _ .vmem, ⟨5, _⟩ => ⟨S512x256, .f32⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![20, 24], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x2560 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2560x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefInZIdeal.lean ====
abbrev S8 : Shape := ⟨1, ![8]⟩
abbrev S12288x2560 : Shape := ⟨2, ![12288, 2560]⟩
abbrev S2560x10240 : Shape := ⟨2, ![2560, 10240]⟩
abbrev S1 : Shape := ⟨1, ![1]⟩
abbrev S_ : Shape := ⟨0, ![]⟩
abbrev S2560x5120 : Shape := ⟨2, ![2560, 5120]⟩
abbrev S12288x5120 : Shape := ⟨2, ![12288, 5120]⟩

abbrev nBuf : Space → Nat
  | .hbm => 12
  | .vmem => 0
  | .smem => 0
  | _ => 0

abbrev bufTy : (tb : Table) → Fin (tcTables nBuf tb) → BufTy
  | .hbm, ⟨0, _⟩ => ⟨S8, .f32⟩
  | .hbm, ⟨1, _⟩ => ⟨S12288x2560, .i8⟩
  | .hbm, ⟨2, _⟩ => ⟨S2560x10240, .bf16⟩
  | .hbm, ⟨3, _⟩ => ⟨S1, .f32⟩
  | .hbm, ⟨4, _⟩ => ⟨S_, .f32⟩
  | .hbm, ⟨5, _⟩ => ⟨S2560x5120, .bf16⟩
  | .hbm, ⟨6, _⟩ => ⟨S12288x2560, .i32⟩
  | .hbm, ⟨7, _⟩ => ⟨S12288x2560, .f32⟩
  | .hbm, ⟨8, _⟩ => ⟨S12288x2560, .bf16⟩
  | .hbm, ⟨9, _⟩ => ⟨S12288x5120, .f32⟩
  | .hbm, ⟨10, _⟩ => ⟨S12288x5120, .f32⟩
  | .hbm, ⟨11, _⟩ => ⟨S12288x5120, .f32⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Out.lean ====
abbrev S8 : Shape := ⟨1, ![8]⟩
abbrev S12288x5120 : Shape := ⟨2, ![12288, 5120]⟩
abbrev S5120x2560 : Shape := ⟨2, ![5120, 2560]⟩
abbrev S12288x2560 : Shape := ⟨2, ![12288, 2560]⟩
abbrev S512x5120 : Shape := ⟨2, ![512, 5120]⟩
abbrev S5120x256 : Shape := ⟨2, ![5120, 256]⟩
abbrev S512x256 : Shape := ⟨2, ![512, 256]⟩
abbrev S1 : Shape := ⟨1, ![1]⟩

abbrev nBuf : Space → Nat
  | .hbm => 7
  | .vmem => 12
  | .smem => 1
  | _ => 0

abbrev bufTy : (tb : Table) → Fin (tcTables nBuf tb) → BufTy
  | .hbm, ⟨0, _⟩ => ⟨S8, .f32⟩
  | .hbm, ⟨1, _⟩ => ⟨S12288x5120, .i8⟩
  | .hbm, ⟨2, _⟩ => ⟨S5120x2560, .bf16⟩
  | .hbm, ⟨3, _⟩ => ⟨S12288x2560, .bf16⟩
  | .hbm, ⟨4, _⟩ => ⟨S12288x2560, .bf16⟩
  | .hbm, ⟨5, _⟩ => ⟨S12288x2560, .bf16⟩
  | .hbm, ⟨6, _⟩ => ⟨S12288x2560, .f32⟩
  | .local _ .vmem, ⟨0, _⟩ => ⟨S512x5120, .i8⟩
  | .local _ .vmem, ⟨1, _⟩ => ⟨S512x5120, .i8⟩
  | .local _ .vmem, ⟨2, _⟩ => ⟨S5120x256, .bf16⟩
  | .local _ .vmem, ⟨3, _⟩ => ⟨S5120x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .f32⟩
  | .local _ .vmem, ⟨11, _⟩ => ⟨S512x256, .f32⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![10, 24], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x5120 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S5120x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefOutIdeal.lean ====
abbrev S8 : Shape := ⟨1, ![8]⟩
abbrev S12288x5120 : Shape := ⟨2, ![12288, 5120]⟩
abbrev S5120x2560 : Shape := ⟨2, ![5120, 2560]⟩
abbrev S12288x2560 : Shape := ⟨2, ![12288, 2560]⟩
abbrev S1 : Shape := ⟨1, ![1]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8, .f32⟩
  | .hbm, ⟨1, _⟩ => ⟨S12288x5120, .i8⟩
  | .hbm, ⟨2, _⟩ => ⟨S5120x2560, .bf16⟩
  | .hbm, ⟨3, _⟩ => ⟨S12288x2560, .bf16⟩
  | .hbm, ⟨4, _⟩ => ⟨S12288x2560, .bf16⟩
  | .hbm, ⟨5, _⟩ => ⟨S12288x2560, .f32⟩
  | .hbm, ⟨6, _⟩ => ⟨S12288x2560, .f32⟩
  | .hbm, ⟨7, _⟩ => ⟨S12288x2560, .f32⟩
  | .hbm, ⟨8, _⟩ => ⟨S1, .f32⟩
  | .hbm, ⟨9, _⟩ => ⟨S_, .f32⟩
  | .hbm, ⟨10, _⟩ => ⟨S12288x5120, .i32⟩
  | .hbm, ⟨11, _⟩ => ⟨S12288x5120, .f32⟩
  | .hbm, ⟨12, _⟩ => ⟨S12288x5120, .bf16⟩
  | .hbm, ⟨13, _⟩ => ⟨S12288x2560, .f32⟩
  | .hbm, ⟨14, _⟩ => ⟨S12288x2560, .f32⟩
  | .hbm, ⟨15, _⟩ => ⟨S12288x2560, .f32⟩
  | .hbm, ⟨16, _⟩ => ⟨S12288x2560, .f32⟩
  | .hbm, ⟨17, _⟩ => ⟨S12288x2560, .bf16⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Norm.lean ====
abbrev S8 : Shape := ⟨1, ![8]⟩
abbrev S12288x2560 : Shape := ⟨2, ![12288, 2560]⟩
abbrev S2560 : Shape := ⟨1, ![2560]⟩
abbrev S1x2560 : Shape := ⟨2, ![1, 2560]⟩
abbrev S256x2560 : Shape := ⟨2, ![256, 2560]⟩
abbrev S256 : Shape := ⟨1, ![256]⟩
abbrev S256x1 : Shape := ⟨2, ![256, 1]⟩
abbrev S1 : Shape := ⟨1, ![1]⟩
abbrev S1x128 : Shape := ⟨2, ![1, 128]⟩
abbrev S1x1 : Shape := ⟨2, ![1, 1]⟩

abbrev nBuf : Space → Nat
  | .hbm => 6
  | .vmem => 7
  | .smem => 1
  | _ => 0

abbrev bufTy : (tb : Table) → Fin (tcTables nBuf tb) → BufTy
  | .hbm, ⟨0, _⟩ => ⟨S8, .f32⟩
  | .hbm, ⟨1, _⟩ => ⟨S12288x2560, .bf16⟩
  | .hbm, ⟨2, _⟩ => ⟨S12288x2560, .bf16⟩
  | .hbm, ⟨3, _⟩ => ⟨S2560, .f32⟩
  | .hbm, ⟨4, _⟩ => ⟨S1x2560, .f32⟩
  | .hbm, ⟨5, _⟩ => ⟨S12288x2560, .i8⟩
  | .local _ .vmem, ⟨0, _⟩ => ⟨S256x2560, .bf16⟩
  | .local _ .vmem, ⟨1, _⟩ => ⟨S256x2560, .bf16⟩
  | .local _ .vmem, ⟨2, _⟩ => ⟨S256x2560, .bf16⟩
  | .local _ .vmem, ⟨3, _⟩ => ⟨S256x2560, .bf16⟩
  | .local _ .vmem, ⟨4, _⟩ => ⟨S1x2560, .f32⟩
  | .local _ .vmem, ⟨5, _⟩ => ⟨S256x2560, .i8⟩
  | .local _ .vmem, ⟨6, _⟩ => ⟨S256x2560, .i8⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![48], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2560 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefNormIdeal.lean ====
abbrev S8 : Shape := ⟨1, ![8]⟩
abbrev S12288x2560 : Shape := ⟨2, ![12288, 2560]⟩
abbrev S2560 : Shape := ⟨1, ![2560]⟩
abbrev S_ : Shape := ⟨0, ![]⟩
abbrev S12288 : Shape := ⟨1, ![12288]⟩
abbrev S12288x1 : Shape := ⟨2, ![12288, 1]⟩
abbrev S1x2560 : Shape := ⟨2, ![1, 2560]⟩
abbrev S1 : Shape := ⟨1, ![1]⟩

abbrev nBuf : Space → Nat
  | .hbm => 38
  | .vmem => 0
  | .smem => 0
  | _ => 0

abbrev bufTy : (tb : Table) → Fin (tcTables nBuf tb) → BufTy
  | .hbm, ⟨0, _⟩ => ⟨S8, .f32⟩
  | .hbm, ⟨1, _⟩ => ⟨S12288x2560, .bf16⟩
  | .hbm, ⟨2, _⟩ => ⟨S12288x2560, .bf16⟩
  | .hbm, ⟨3, _⟩ => ⟨S2560, .f32⟩
  | .hbm, ⟨4, _⟩ => ⟨S12288x2560, .f32⟩
  | .hbm, ⟨5, _⟩ => ⟨S12288x2560, .f32⟩
  | .hbm, ⟨6, _⟩ => ⟨S12288x2560, .f32⟩
  | .hbm, ⟨7, _⟩ => ⟨S12288x2560, .f32⟩
  | .hbm, ⟨8, _⟩ => ⟨S_, .f32⟩
  | .hbm, ⟨9, _⟩ => ⟨S12288, .f32⟩
  | .hbm, ⟨10, _⟩ => ⟨S12288x1, .f32⟩
  | .hbm, ⟨11, _⟩ => ⟨S_, .f32⟩
  | .hbm, ⟨12, _⟩ => ⟨S12288x1, .f32⟩
  | .hbm, ⟨13, _⟩ => ⟨S12288x1, .f32⟩
  | .hbm, ⟨14, _⟩ => ⟨S_, .f32⟩
  | .hbm, ⟨15, _⟩ => ⟨S12288x1, .f32⟩
  | .hbm, ⟨16, _⟩ => ⟨S12288x1, .f32⟩
  | .hbm, ⟨17, _⟩ => ⟨S12288x1, .f32⟩
  | .hbm, ⟨18, _⟩ => ⟨S12288x2560, .f32⟩
  | .hbm, ⟨19, _⟩ => ⟨S12288x2560, .f32⟩
  | .hbm, ⟨20, _⟩ => ⟨S1x2560, .f32⟩
  | .hbm, ⟨21, _⟩ => ⟨S12288x2560, .f32⟩
  | .hbm, ⟨22, _⟩ => ⟨S12288x2560, .f32⟩
  | .hbm, ⟨23, _⟩ => ⟨S1, .f32⟩
  | .hbm, ⟨24, _⟩ => ⟨S_, .f32⟩
  | .hbm, ⟨25, _⟩ => ⟨S12288x2560, .f32⟩
  | .hbm, ⟨26, _⟩ => ⟨S12288x2560, .f32⟩
  | .hbm, ⟨27, _⟩ => ⟨S12288x2560, .f32⟩
  | .hbm, ⟨28, _⟩ => ⟨S_, .i32⟩
  | .hbm, ⟨29, _⟩ => ⟨S_, .i32⟩
  | .hbm, ⟨30, _⟩ => ⟨S_, .f32⟩
  | .hbm, ⟨31, _⟩ => ⟨S12288x2560, .f32⟩
  | .hbm, ⟨32, _⟩ => ⟨S12288x2560, .f32⟩
  | .hbm, ⟨33, _⟩ => ⟨S_, .f32⟩
  | .hbm, ⟨34, _⟩ => ⟨S12288x2560, .f32⟩
  | .hbm, ⟨35, _⟩ => ⟨S12288x2560, .f32⟩
  | .hbm, ⟨36, _⟩ => ⟨S12288x2560, .i32⟩
  | .hbm, ⟨37, _⟩ => ⟨S12288x2560, .i8⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_c_2 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== XProj.lean ====
abbrev S8 : Shape := ⟨1, ![8]⟩
abbrev S12288x5120 : Shape := ⟨2, ![12288, 5120]⟩
abbrev S5120x192 : Shape := ⟨2, ![5120, 192]⟩
abbrev S192 : Shape := ⟨1, ![192]⟩
abbrev S1x192 : Shape := ⟨2, ![1, 192]⟩
abbrev S12288x192 : Shape := ⟨2, ![12288, 192]⟩
abbrev S12288x160 : Shape := ⟨2, ![12288, 160]⟩
abbrev S12288x16 : Shape := ⟨2, ![12288, 16]⟩
abbrev S512x5120 : Shape := ⟨2, ![512, 5120]⟩
abbrev S512x192 : Shape := ⟨2, ![512, 192]⟩
abbrev S512x160 : Shape := ⟨2, ![512, 160]⟩
abbrev S512x16 : Shape := ⟨2, ![512, 16]⟩
abbrev S1 : Shape := ⟨1, ![1]⟩
abbrev S1x128 : Shape := ⟨2, ![1, 128]⟩
abbrev S1x1 : Shape := ⟨2, ![1, 1]⟩

abbrev nBuf : Space → Nat
  | .hbm => 9
  | .vmem => 12
  | .smem => 1
  | _ => 0

abbrev bufTy : (tb : Table) → Fin (tcTables nBuf tb) → BufTy
  | .hbm, ⟨0, _⟩ => ⟨S8, .f32⟩
  | .hbm, ⟨1, _⟩ => ⟨S12288x5120, .i8⟩
  | .hbm, ⟨2, _⟩ => ⟨S5120x192, .i8⟩
  | .hbm, ⟨3, _⟩ => ⟨S192, .f32⟩
  | .hbm, ⟨4, _⟩ => ⟨S1x192, .f32⟩
  | .hbm, ⟨5, _⟩ => ⟨S12288x192, .f32⟩
  | .hbm, ⟨6, _⟩ => ⟨S12288x160, .i8⟩
  | .hbm, ⟨7, _⟩ => ⟨S12288x16, .i8⟩
  | .hbm, ⟨8, _⟩ => ⟨S12288x16, .i8⟩
  | .local _ .vmem, ⟨0, _⟩ => ⟨S512x5120, .i8⟩
  | .local _ .vmem, ⟨1, _⟩ => ⟨S512x5120, .i8⟩
  | .local _ .vmem, ⟨2, _⟩ => ⟨S5120x192, .i8⟩
  | .local _ .vmem, ⟨3, _⟩ => ⟨S1x192, .f32⟩
  | .local _ .vmem, ⟨4, _⟩ => ⟨S512x192, .f32⟩
  | .local _ .vmem, ⟨5, _⟩ => ⟨S512x192, .f32⟩
  | .local _ .vmem, ⟨6, _⟩ => ⟨S512x160, .i8⟩
  | .local _ .vmem, ⟨7, _⟩ => ⟨S512x160, .i8⟩
  | .local _ .vmem, ⟨8, _⟩ => ⟨S512x16, .i8⟩
  | .local _ .vmem, ⟨9, _⟩ => ⟨S512x16, .i8⟩
  | .local _ .vmem, ⟨10, _⟩ => ⟨S512x16, .i8⟩
  | .local _ .vmem, ⟨11, _⟩ => ⟨S512x16, .i8⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![24], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x5120 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5120x192 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x160 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x16 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x16 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefXProjIdeal.lean ====
abbrev S8 : Shape := ⟨1, ![8]⟩
abbrev S12288x5120 : Shape := ⟨2, ![12288, 5120]⟩
abbrev S5120x192 : Shape := ⟨2, ![5120, 192]⟩
abbrev S192 : Shape := ⟨1, ![192]⟩
abbrev S12288x192 : Shape := ⟨2, ![12288, 192]⟩
abbrev S1 : Shape := ⟨1, ![1]⟩
abbrev S_ : Shape := ⟨0, ![]⟩
abbrev S1x192 : Shape := ⟨2, ![1, 192]⟩
abbrev S12288x160 : Shape := ⟨2, ![12288, 160]⟩
abbrev S12288x16 : Shape := ⟨2, ![12288, 16]⟩

abbrev nBuf : Space → Nat
  | .hbm => 66
  | .vmem => 0
  | .smem => 0
  | _ => 0

abbrev bufTy : (tb : Table) → Fin (tcTables nBuf tb) → BufTy
  | .hbm, ⟨0, _⟩ => ⟨S8, .f32⟩
  | .hbm, ⟨1, _⟩ => ⟨S12288x5120, .i8⟩
  | .hbm, ⟨2, _⟩ => ⟨S5120x192, .i8⟩
  | .hbm, ⟨3, _⟩ => ⟨S192, .f32⟩
  | .hbm, ⟨4, _⟩ => ⟨S12288x5120, .i32⟩
  | .hbm, ⟨5, _⟩ => ⟨S12288x5120, .f32⟩
  | .hbm, ⟨6, _⟩ => ⟨S12288x5120, .bf16⟩
  | .hbm, ⟨7, _⟩ => ⟨S5120x192, .i32⟩
  | .hbm, ⟨8, _⟩ => ⟨S5120x192, .f32⟩
  | .hbm, ⟨9, _⟩ => ⟨S5120x192, .bf16⟩
  | .hbm, ⟨10, _⟩ => ⟨S12288x192, .f32⟩
  | .hbm, ⟨11, _⟩ => ⟨S1, .f32⟩
  | .hbm, ⟨12, _⟩ => ⟨S_, .f32⟩
  | .hbm, ⟨13, _⟩ => ⟨S12288x192, .f32⟩
  | .hbm, ⟨14, _⟩ => ⟨S12288x192, .f32⟩
  | .hbm, ⟨15, _⟩ => ⟨S1x192, .f32⟩
  | .hbm, ⟨16, _⟩ => ⟨S12288x192, .f32⟩
  | .hbm, ⟨17, _⟩ => ⟨S12288x192, .f32⟩
  | .hbm, ⟨18, _⟩ => ⟨S12288x160, .f32⟩
  | .hbm, ⟨19, _⟩ => ⟨S1, .f32⟩
  | .hbm, ⟨20, _⟩ => ⟨S_, .f32⟩
  | .hbm, ⟨21, _⟩ => ⟨S12288x160, .f32⟩
  | .hbm, ⟨22, _⟩ => ⟨S12288x160, .f32⟩
  | .hbm, ⟨23, _⟩ => ⟨S12288x160, .f32⟩
  | .hbm, ⟨24, _⟩ => ⟨S_, .i32⟩
  | .hbm, ⟨25, _⟩ => ⟨S_, .i32⟩
  | .hbm, ⟨26, _⟩ => ⟨S_, .f32⟩
  | .hbm, ⟨27, _⟩ => ⟨S12288x160, .f32⟩
  | .hbm, ⟨28, _⟩ => ⟨S12288x160, .f32⟩
  | .hbm, ⟨29, _⟩ => ⟨S_, .f32⟩
  | .hbm, ⟨30, _⟩ => ⟨S12288x160, .f32⟩
  | .hbm, ⟨31, _⟩ => ⟨S12288x160, .f32⟩
  | .hbm, ⟨32, _⟩ => ⟨S12288x160, .i32⟩
  | .hbm, ⟨33, _⟩ => ⟨S12288x160, .i8⟩
  | .hbm, ⟨34, _⟩ => ⟨S12288x16, .f32⟩
  | .hbm, ⟨35, _⟩ => ⟨S1, .f32⟩
  | .hbm, ⟨36, _⟩ => ⟨S_, .f32⟩
  | .hbm, ⟨37, _⟩ => ⟨S12288x16, .f32⟩
  | .hbm, ⟨38, _⟩ => ⟨S12288x16, .f32⟩
  | .hbm, ⟨39, _⟩ => ⟨S12288x16, .f32⟩
  | .hbm, ⟨40, _⟩ => ⟨S_, .i32⟩
  | .hbm, ⟨41, _⟩ => ⟨S_, .i32⟩
  | .hbm, ⟨42, _⟩ => ⟨S_, .f32⟩
  | .hbm, ⟨43, _⟩ => ⟨S12288x16, .f32⟩
  | .hbm, ⟨44, _⟩ => ⟨S12288x16, .f32⟩
  | .hbm, ⟨45, _⟩ => ⟨S_, .f32⟩
  | .hbm, ⟨46, _⟩ => ⟨S12288x16, .f32⟩
  | .hbm, ⟨47, _⟩ => ⟨S12288x16, .f32⟩
  | .hbm, ⟨48, _⟩ => ⟨S12288x16, .i32⟩
  | .hbm, ⟨49, _⟩ => ⟨S12288x16, .i8⟩
  | .hbm, ⟨50, _⟩ => ⟨S12288x16, .f32⟩
  | .hbm, ⟨51, _⟩ => ⟨S1, .f32⟩
  | .hbm, ⟨52, _⟩ => ⟨S_, .f32⟩
  | .hbm, ⟨53, _⟩ => ⟨S12288x16, .f32⟩
  | .hbm, ⟨54, _⟩ => ⟨S12288x16, .f32⟩
  | .hbm, ⟨55, _⟩ => ⟨S12288x16, .f32⟩
  | .hbm, ⟨56, _⟩ => ⟨S_, .i32⟩
  | .hbm, ⟨57, _⟩ => ⟨S_, .i32⟩
  | .hbm, ⟨58, _⟩ => ⟨S_, .f32⟩
  | .hbm, ⟨59, _⟩ => ⟨S12288x16, .f32⟩
  | .hbm, ⟨60, _⟩ => ⟨S12288x16, .f32⟩
  | .hbm, ⟨61, _⟩ => ⟨S_, .f32⟩
  | .hbm, ⟨62, _⟩ => ⟨S12288x16, .f32⟩
  | .hbm, ⟨63, _⟩ => ⟨S12288x16, .f32⟩
  | .hbm, ⟨64, _⟩ => ⟨S12288x16, .i32⟩
  | .hbm, ⟨65, _⟩ => ⟨S12288x16, .i8⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_1 : Ref sig .tc := ⟨.hbm, 40, rfl⟩
abbrev main_c_2 : Ref sig .tc := ⟨.hbm, 41, rfl⟩
abbrev main_call3_v0 : Ref sig .tc := ⟨.hbm, 42, rfl⟩
abbrev main_call3_v1 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_3 : Ref sig .tc := ⟨.hbm, 56, rfl⟩
abbrev main_c_4 : Ref sig .tc := ⟨.hbm, 57, rfl⟩
abbrev main_call5_v0 : Ref sig .tc := ⟨.hbm, 58, rfl⟩
abbrev main_call5_v1 : Ref sig .tc := ⟨.hbm, 59, rfl⟩
abbrev main_call5_v2 : Ref sig .tc := ⟨.hbm, 60, rfl⟩
abbrev main_call5_v3 : Ref sig .tc := ⟨.hbm, 61, rfl⟩
abbrev main_call5_v4 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩

abbrev nD : Nat := 1
abbrev τ : Topo := Topo.v7x

variable {F : FTy → Type} [FloatOps F]
-- ==== InX.lean ====
abbrev S8 : Shape := ⟨1, ![8]⟩
abbrev S12288x2560 : Shape := ⟨2, ![12288, 2560]⟩
abbrev S2560x10240 : Shape := ⟨2, ![2560, 10240]⟩
abbrev S4x5120 : Shape := ⟨2, ![4, 5120]⟩
abbrev S5120 : Shape := ⟨1, ![5120]⟩
abbrev S1x5120 : Shape := ⟨2, ![1, 5120]⟩
abbrev S12288x5120 : Shape := ⟨2, ![12288, 5120]⟩
abbrev S12288x1280 : Shape := ⟨2, ![12288, 1280]⟩
abbrev S512x2560 : Shape := ⟨2, ![512, 2560]⟩
abbrev S2560x256 : Shape := ⟨2, ![2560, 256]⟩
abbrev S4x256 : Shape := ⟨2, ![4, 256]⟩
abbrev S1x256 : Shape := ⟨2, ![1, 256]⟩
abbrev S512x256 : Shape := ⟨2, ![512, 256]⟩
abbrev S520x256 : Shape := ⟨2, ![520, 256]⟩
abbrev S_ : Shape := ⟨0, ![]⟩
abbrev S1 : Shape := ⟨1, ![1]⟩
abbrev S1x128 : Shape := ⟨2, ![1, 128]⟩
abbrev S1x1 : Shape := ⟨2, ![1, 1]⟩
abbrev S8x256 : Shape := ⟨2, ![8, 256]⟩

abbrev nBuf : Space → Nat
  | .hbm => 11
  | .vmem => 16
  | .smem => 1
  | _ => 0

abbrev bufTy : (tb : Table) → Fin (tcTables nBuf tb) → BufTy
  | .hbm, ⟨0, _⟩ => ⟨S8, .f32⟩
  | .hbm, ⟨1, _⟩ => ⟨S12288x2560, .i8⟩
  | .hbm, ⟨2, _⟩ => ⟨S2560x10240, .bf16⟩
  | .hbm, ⟨3, _⟩ => ⟨S4x5120, .i8⟩
  | .hbm, ⟨4, _⟩ => ⟨S5120, .f32⟩
  | .hbm, ⟨5, _⟩ => ⟨S5120, .f32⟩
  | .hbm, ⟨6, _⟩ => ⟨S1x5120, .f32⟩
  | .hbm, ⟨7, _⟩ => ⟨S1x5120, .f32⟩
  | .hbm, ⟨8, _⟩ => ⟨S12288x5120, .i8⟩
  | .hbm, ⟨9, _⟩ => ⟨S12288x5120, .i8⟩
  | .hbm, ⟨10, _⟩ => ⟨S12288x1280, .f32⟩
  | .local _ .vmem, ⟨0, _⟩ => ⟨S512x2560, .i8⟩
  | .local _ .vmem, ⟨1, _⟩ => ⟨S512x2560, .i8⟩
  | .local _ .vmem, ⟨2, _⟩ => ⟨S2560x256, .bf16⟩
  | .local _ .vmem, ⟨3, _⟩ => ⟨S2560x256, .bf16⟩
  | .local _ .vmem, ⟨4, _⟩ => ⟨S4x256, .i8⟩
  | .local _ .vmem, ⟨5, _⟩ => ⟨S4x256, .i8⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S512x256, .i8⟩
  | .local _ .vmem, ⟨11, _⟩ => ⟨S512x256, .i8⟩
  | .local _ .vmem, ⟨12, _⟩ => ⟨S512x256, .i8⟩
  | .local _ .vmem, ⟨13, _⟩ => ⟨S512x256, .i8⟩
  | .local _ .vmem, ⟨14, _⟩ => ⟨S520x256, .f32⟩
  | .local _ .vmem, ⟨15, _⟩ => ⟨S512x256, .f32⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![20, 24], ![false, false]⟩

def k0_cond2 (i : grid0.Coords) : BitVec 1 :=
  let arg0 : BitVec 32 := BitVec.ofNat 32 (i 0).val
  let c0_i32_31 : BitVec 32 := 0#32
  let v76 : BitVec 1 := Scalar.cmpi .eq arg0 c0_i32_31
  let v77 : BitVec 32 := Scalar.extui v76
  let c0_i32_32 : BitVec 32 := 0#32
  let v78 : BitVec 1 := Scalar.cmpi .ne v77 c0_i32_32
  v78

def k0_off1 (i : grid0.Coords) : Fin 2 → Nat :=
  let arg1 : BitVec 32 := BitVec.ofNat 32 (i 1).val
  let c512_i32 : BitVec 32 := 512#32
  let v75 : BitVec 32 := Scalar.muli arg1 c512_i32
  let c0_i32_47 : BitVec 32 := 0#32
  ![v75.toNat, 0]
def k0_cond3 (i : grid0.Coords) : BitVec 1 :=
  let arg0 : BitVec 32 := BitVec.ofNat 32 (i 0).val
  let c1_i32_33 : BitVec 32 := 1#32
  let v79 : BitVec 1 := Scalar.cmpi .eq arg0 c1_i32_33
  let v80 : BitVec 32 := Scalar.extui v79
  let c0_i32_34 : BitVec 32 := 0#32
  let v81 : BitVec 1 := Scalar.cmpi .ne v80 c0_i32_34
  v81

def k0_off2 (i : grid0.Coords) : Fin 2 → Nat :=
  let arg1 : BitVec 32 := BitVec.ofNat 32 (i 1).val
  let c512_i32 : BitVec 32 := 512#32
  let v75 : BitVec 32 := Scalar.muli arg1 c512_i32
  let c256_i32 : BitVec 32 := 256#32
  ![v75.toNat, 256]
def k0_cond4 (i : grid0.Coords) : BitVec 1 :=
  let arg0 : BitVec 32 := BitVec.ofNat 32 (i 0).val
  let c2_i32 : BitVec 32 := 2#32
  let v82 : BitVec 1 := Scalar.cmpi .eq arg0 c2_i32
  let v83 : BitVec 32 := Scalar.extui v82
  let c0_i32_35 : BitVec 32 := 0#32
  let v84 : BitVec 1 := Scalar.cmpi .ne v83 c0_i32_35
  v84

def k0_off3 (i : grid0.Coords) : Fin 2 → Nat :=
  let arg1 : BitVec 32 := BitVec.ofNat 32 (i 1).val
  let c512_i32 : BitVec 32 := 512#32
  let v75 : BitVec 32 := Scalar.muli arg1 c512_i32
  let c512_i32_47 : BitVec 32 := 512#32
  ![v75.toNat, 512]
def k0_cond5 (i : grid0.Coords) : BitVec 1 :=
  let arg0 : BitVec 32 := BitVec.ofNat 32 (i 0).val
  let c3_i32 : BitVec 32 := 3#32
  let v85 : BitVec 1 := Scalar.cmpi .eq arg0 c3_i32
  let v86 : BitVec 32 := Scalar.extui v85
  let c0_i32_36 : BitVec 32 := 0#32
  let v87 : BitVec 1 := Scalar.cmpi .ne v86 c0_i32_36
  v87

def k0_off4 (i : grid0.Coords) : Fin 2 → Nat :=
  let arg1 : BitVec 32 := BitVec.ofNat 32 (i 1).val
  let c512_i32 : BitVec 32 := 512#32
  let v75 : BitVec 32 := Scalar.muli arg1 c512_i32
  let c768_i32 : BitVec 32 := 768#32
  ![v75.toNat, 768]
def k0_cond6 (i : grid0.Coords) : BitVec 1 :=
  let arg0 : BitVec 32 := BitVec.ofNat 32 (i 0).val
  let c4_i32_37 : BitVec 32 := 4#32
  let v88 : BitVec 1 := Scalar.cmpi .eq arg0 c4_i32_37
  let v89 : BitVec 32 := Scalar.extui v88
  let c0_i32_38 : BitVec 32 := 0#32
  let v90 : BitVec 1 := Scalar.cmpi .ne v89 c0_i32_38
  v90

def k0_off5 (i : grid0.Coords) : Fin 2 → Nat :=
  let arg1 : BitVec 32 := BitVec.ofNat 32 (i 1).val
  let c512_i32 : BitVec 32 := 512#32
  let v75 : BitVec 32 := Scalar.muli arg1 c512_i32
  let c1024_i32 : BitVec 32 := 1024#32
  ![v75.toNat, 1024]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x2560 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2560x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RefInXIdeal.lean ====
abbrev S8 : Shape := ⟨1, ![8]⟩
abbrev S12288x2560 : Shape := ⟨2, ![12288, 2560]⟩
abbrev S2560x10240 : Shape := ⟨2, ![2560, 10240]⟩
abbrev S4x5120 : Shape := ⟨2, ![4, 5120]⟩
abbrev S5120 : Shape := ⟨1, ![5120]⟩
abbrev S1 : Shape := ⟨1, ![1]⟩
abbrev S_ : Shape := ⟨0, ![]⟩
abbrev S2560x5120 : Shape := ⟨2, ![2560, 5120]⟩
abbrev S12288x5120 : Shape := ⟨2, ![12288, 5120]⟩
abbrev S6x2048x5120 : Shape := ⟨3, ![6, 2048, 5120]⟩
abbrev S6x2051x5120 : Shape := ⟨3, ![6, 2051, 5120]⟩
abbrev S1x5120 : Shape := ⟨2, ![1, 5120]⟩
abbrev S1x1x5120 : Shape := ⟨3, ![1, 1, 5120]⟩
abbrev S12288x1280 : Shape := ⟨2, ![12288, 1280]⟩

abbrev nBuf : Space → Nat
  | .hbm => 104
  | .vmem => 0
  | .smem => 0
  | _ => 0

abbrev bufTy : (tb : Table) → Fin (tcTables nBuf tb) → BufTy
  | .hbm, ⟨0, _⟩ => ⟨S8, .f32⟩
  | .hbm, ⟨1, _⟩ => ⟨S12288x2560, .i8⟩
  | .hbm, ⟨2, _⟩ => ⟨S2560x10240, .bf16⟩
  | .hbm, ⟨3, _⟩ => ⟨S4x5120, .i8⟩
  | .hbm, ⟨4, _⟩ => ⟨S5120, .f32⟩
  | .hbm, ⟨5, _⟩ => ⟨S5120, .f32⟩
  | .hbm, ⟨6, _⟩ => ⟨S1, .f32⟩
  | .hbm, ⟨7, _⟩ => ⟨S_, .f32⟩
  | .hbm, ⟨8, _⟩ => ⟨S2560x5120, .bf16⟩
  | .hbm, ⟨9, _⟩ => ⟨S12288x2560, .i32⟩
  | .hbm, ⟨10, _⟩ => ⟨S12288x2560, .f32⟩
  | .hbm, ⟨11, _⟩ => ⟨S12288x2560, .bf16⟩
  | .hbm, ⟨12, _⟩ => ⟨S12288x5120, .f32⟩
  | .hbm, ⟨13, _⟩ => ⟨S12288x5120, .f32⟩
  | .hbm, ⟨14, _⟩ => ⟨S12288x5120, .f32⟩
  | .hbm, ⟨15, _⟩ => ⟨S1, .f32⟩
  | .hbm, ⟨16, _⟩ => ⟨S_, .f32⟩
  | .hbm, ⟨17, _⟩ => ⟨S12288x5120, .f32⟩
  | .hbm, ⟨18, _⟩ => ⟨S12288x5120, .f32⟩
  | .hbm, ⟨19, _⟩ => ⟨S12288x5120, .f32⟩
  | .hbm, ⟨20, _⟩ => ⟨S_, .i32⟩
  | .hbm, ⟨21, _⟩ => ⟨S_, .i32⟩
  | .hbm, ⟨22, _⟩ => ⟨S_, .f32⟩
  | .hbm, ⟨23, _⟩ => ⟨S12288x5120, .f32⟩
  | .hbm, ⟨24, _⟩ => ⟨S12288x5120, .f32⟩
  | .hbm, ⟨25, _⟩ => ⟨S_, .f32⟩
  | .hbm, ⟨26, _⟩ => ⟨S12288x5120, .f32⟩
  | .hbm, ⟨27, _⟩ => ⟨S12288x5120, .f32⟩
  | .hbm, ⟨28, _⟩ => ⟨S12288x5120, .i32⟩
  | .hbm, ⟨29, _⟩ => ⟨S12288x5120, .i8⟩
  | .hbm, ⟨30, _⟩ => ⟨S12288x5120, .i32⟩
  | .hbm, ⟨31, _⟩ => ⟨S12288x5120, .f32⟩
  | .hbm, ⟨32, _⟩ => ⟨S6x2048x5120, .f32⟩
  | .hbm, ⟨33, _⟩ => ⟨S4x5120, .i32⟩
  | .hbm, ⟨34, _⟩ => ⟨S4x5120, .f32⟩
  | .hbm, ⟨35, _⟩ => ⟨S_, .i32⟩
  | .hbm, ⟨36, _⟩ => ⟨S_, .f32⟩
  | .hbm, ⟨37, _⟩ => ⟨S6x2051x5120, .f32⟩
  | .hbm, ⟨38, _⟩ => ⟨S6x2048x5120, .f32⟩
  | .hbm, ⟨39, _⟩ => ⟨S1x5120, .f32⟩
  | .hbm, ⟨40, _⟩ => ⟨S5120, .f32⟩
  | .hbm, ⟨41, _⟩ => ⟨S1x1x5120, .f32⟩
  | .hbm, ⟨42, _⟩ => ⟨S6x2048x5120, .f32⟩
  | .hbm, ⟨43, _⟩ => ⟨S6x2048x5120, .f32⟩
  | .hbm, ⟨44, _⟩ => ⟨S_, .f32⟩
  | .hbm, ⟨45, _⟩ => ⟨S6x2048x5120, .f32⟩
  | .hbm, ⟨46, _⟩ => ⟨S6x2048x5120, .f32⟩
  | .hbm, ⟨47, _⟩ => ⟨S6x2048x5120, .f32⟩
  | .hbm, ⟨48, _⟩ => ⟨S1x5120, .f32⟩
  | .hbm, ⟨49, _⟩ => ⟨S5120, .f32⟩
  | .hbm, ⟨50, _⟩ => ⟨S1x1x5120, .f32⟩
  | .hbm, ⟨51, _⟩ => ⟨S6x2048x5120, .f32⟩
  | .hbm, ⟨52, _⟩ => ⟨S6x2048x5120, .f32⟩
  | .hbm, ⟨53, _⟩ => ⟨S6x2048x5120, .f32⟩
  | .hbm, ⟨54, _⟩ => ⟨S6x2048x5120, .f32⟩
  | .hbm, ⟨55, _⟩ => ⟨S1x5120, .f32⟩
  | .hbm, ⟨56, _⟩ => ⟨S5120, .f32⟩
  | .hbm, ⟨57, _⟩ => ⟨S1x1x5120, .f32⟩
  | .hbm, ⟨58, _⟩ => ⟨S6x2048x5120, .f32⟩
  | .hbm, ⟨59, _⟩ => ⟨S6x2048x5120, .f32⟩
  | .hbm, ⟨60, _⟩ => ⟨S6x2048x5120, .f32⟩
  | .hbm, ⟨61, _⟩ => ⟨S6x2048x5120, .f32⟩
  | .hbm, ⟨62, _⟩ => ⟨S1x5120, .f32⟩
  | .hbm, ⟨63, _⟩ => ⟨S5120, .f32⟩
  | .hbm, ⟨64, _⟩ => ⟨S1x1x5120, .f32⟩
  | .hbm, ⟨65, _⟩ => ⟨S6x2048x5120, .f32⟩
  | .hbm, ⟨66, _⟩ => ⟨S6x2048x5120, .f32⟩
  | .hbm, ⟨67, _⟩ => ⟨S6x2048x5120, .f32⟩
  | .hbm, ⟨68, _⟩ => ⟨S12288x5120, .f32⟩
  | .hbm, ⟨69, _⟩ => ⟨S1, .f32⟩
  | .hbm, ⟨70, _⟩ => ⟨S_, .f32⟩
  | .hbm, ⟨71, _⟩ => ⟨S12288x5120, .f32⟩
  | .hbm, ⟨72, _⟩ => ⟨S12288x5120, .f32⟩
  | .hbm, ⟨73, _⟩ => ⟨S1x5120, .f32⟩
  | .hbm, ⟨74, _⟩ => ⟨S12288x5120, .f32⟩
  | .hbm, ⟨75, _⟩ => ⟨S12288x5120, .f32⟩
  | .hbm, ⟨76, _⟩ => ⟨S1x5120, .f32⟩
  | .hbm, ⟨77, _⟩ => ⟨S12288x5120, .f32⟩
  | .hbm, ⟨78, _⟩ => ⟨S12288x5120, .f32⟩
  | .hbm, ⟨79, _⟩ => ⟨S12288x5120, .f32⟩
  | .hbm, ⟨80, _⟩ => ⟨S12288x5120, .f32⟩
  | .hbm, ⟨81, _⟩ => ⟨S_, .f32⟩
  | .hbm, ⟨82, _⟩ => ⟨S12288x5120, .f32⟩
  | .hbm, ⟨83, _⟩ => ⟨S12288x5120, .f32⟩
  | .hbm, ⟨84, _⟩ => ⟨S_, .f32⟩
  | .hbm, ⟨85, _⟩ => ⟨S12288x5120, .f32⟩
  | .hbm, ⟨86, _⟩ => ⟨S12288x5120, .f32⟩
  | .hbm, ⟨87, _⟩ => ⟨S12288x5120, .f32⟩
  | .hbm, ⟨88, _⟩ => ⟨S1, .f32⟩
  | .hbm, ⟨89, _⟩ => ⟨S_, .f32⟩
  | .hbm, ⟨90, _⟩ => ⟨S12288x5120, .f32⟩
  | .hbm, ⟨91, _⟩ => ⟨S12288x5120, .f32⟩
  | .hbm, ⟨92, _⟩ => ⟨S12288x5120, .f32⟩
  | .hbm, ⟨93, _⟩ => ⟨S_, .i32⟩
  | .hbm, ⟨94, _⟩ => ⟨S_, .i32⟩
  | .hbm, ⟨95, _⟩ => ⟨S_, .f32⟩
  | .hbm, ⟨96, _⟩ => ⟨S12288x5120, .f32⟩
  | .hbm, ⟨97, _⟩ => ⟨S12288x5120, .f32⟩
  | .hbm, ⟨98, _⟩ => ⟨S_, .f32⟩
  | .hbm, ⟨99, _⟩ => ⟨S12288x5120, .f32⟩
  | .hbm, ⟨100, _⟩ => ⟨S12288x5120, .f32⟩
  | .hbm, ⟨101, _⟩ => ⟨S12288x5120, .i32⟩
  | .hbm, ⟨102, _⟩ => ⟨S12288x5120, .i8⟩
  | .hbm, ⟨103, _⟩ => ⟨S12288x1280, .f32⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_c_0 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_1 : Ref sig .tc := ⟨.hbm, 35, rfl⟩
abbrev main_call2_v0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_2 : Ref sig .tc := ⟨.hbm, 81, rfl⟩
abbrev main_v65 : Ref sig .tc := ⟨.hbm, 82, rfl⟩
abbrev main_v66 : Ref sig .tc := ⟨.hbm, 83, rfl⟩
abbrev main_cst_3 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_c_4 : Ref sig .tc := ⟨.hbm, 93, rfl⟩
abbrev main_c_5 : Ref sig .tc := ⟨.hbm, 94, rfl⟩
abbrev main_call4_v0 : Ref sig .tc := ⟨.hbm, 95, rfl⟩
abbrev main_call4_v1 : Ref sig .tc := ⟨.hbm, 96, rfl⟩
abbrev main_call4_v2 : Ref sig .tc := ⟨.hbm, 97, rfl⟩
abbrev main_call4_v3 : Ref sig .tc := ⟨.hbm, 98, rfl⟩
abbrev main_call4_v4 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩

abbrev nD : Nat := 1
abbrev τ : Topo := Topo.v7x

variable {F : FTy → Type} [FloatOps F]
-- ==== DqIn.lean ====
abbrev S1280x10240 : Shape := ⟨2, ![1280, 10240]⟩
abbrev S20x10240 : Shape := ⟨2, ![20, 10240]⟩
abbrev S2560x10240 : Shape := ⟨2, ![2560, 10240]⟩
abbrev S1280x512 : Shape := ⟨2, ![1280, 512]⟩
abbrev S20x512 : Shape := ⟨2, ![20, 512]⟩
abbrev S2560x512 : Shape := ⟨2, ![2560, 512]⟩
abbrev S64x512 : Shape := ⟨2, ![64, 512]⟩
abbrev S1x512 : Shape := ⟨2, ![1, 512]⟩
abbrev S128x512 : Shape := ⟨2, ![128, 512]⟩

abbrev nBuf : Space → Nat
  | .hbm => 4
  | .vmem => 6
  | .smem => 0
  | _ => 0

abbrev bufTy : (tb : Table) → Fin (tcTables nBuf tb) → BufTy
  | .hbm, ⟨0, _⟩ => ⟨S1280x10240, .i8⟩
  | .hbm, ⟨1, _⟩ => ⟨S20x10240, .f32⟩
  | .hbm, ⟨2, _⟩ => ⟨S1280x10240, .i8⟩
  | .hbm, ⟨3, _⟩ => ⟨S2560x10240, .bf16⟩
  | .local _ .vmem, ⟨0, _⟩ => ⟨S1280x512, .i8⟩
  | .local _ .vmem, ⟨1, _⟩ => ⟨S1280x512, .i8⟩
  | .local _ .vmem, ⟨2, _⟩ => ⟨S20x512, .f32⟩
  | .local _ .vmem, ⟨3, _⟩ => ⟨S20x512, .f32⟩
  | .local _ .vmem, ⟨4, _⟩ => ⟨S2560x512, .bf16⟩
  | .local _ .vmem, ⟨5, _⟩ => ⟨S2560x512, .bf16⟩
  | _, _ => ⟨S1280x10240, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1280x512 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2560x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DqInIdeal.lean ====
variable {F : FTy → Type} [FloatOps F]
-- ==== RefDqInIdeal.lean ====
abbrev S1280x10240 : Shape := ⟨2, ![1280, 10240]⟩
abbrev S20x10240 : Shape := ⟨2, ![20, 10240]⟩
abbrev S2 : Shape := ⟨1, ![2]⟩
abbrev S_ : Shape := ⟨0, ![]⟩
abbrev S1280x1x10240 : Shape := ⟨3, ![1280, 1, 10240]⟩
abbrev S1x2x1 : Shape := ⟨3, ![1, 2, 1]⟩
abbrev S1280x2x10240 : Shape := ⟨3, ![1280, 2, 10240]⟩
abbrev S20x128x10240 : Shape := ⟨3, ![20, 128, 10240]⟩
abbrev S20x1x10240 : Shape := ⟨3, ![20, 1, 10240]⟩
abbrev S2560x10240 : Shape := ⟨2, ![2560, 10240]⟩

abbrev nBuf : Space → Nat
  | .hbm => 30
  | .vmem => 0
  | .smem => 0
  | _ => 0

abbrev bufTy : (tb : Table) → Fin (tcTables nBuf tb) → BufTy
  | .hbm, ⟨0, _⟩ => ⟨S1280x10240, .i8⟩
  | .hbm, ⟨1, _⟩ => ⟨S20x10240, .f32⟩
  | .hbm, ⟨2, _⟩ => ⟨S2, .i32⟩
  | .hbm, ⟨3, _⟩ => ⟨S_, .i32⟩
  | .hbm, ⟨4, _⟩ => ⟨S2, .i32⟩
  | .hbm, ⟨5, _⟩ => ⟨S2, .i32⟩
  | .hbm, ⟨6, _⟩ => ⟨S1280x10240, .i32⟩
  | .hbm, ⟨7, _⟩ => ⟨S1280x1x10240, .i32⟩
  | .hbm, ⟨8, _⟩ => ⟨S1x2x1, .i32⟩
  | .hbm, ⟨9, _⟩ => ⟨S1280x2x10240, .i32⟩
  | .hbm, ⟨10, _⟩ => ⟨S1280x2x10240, .i32⟩
  | .hbm, ⟨11, _⟩ => ⟨S1280x2x10240, .i32⟩
  | .hbm, ⟨12, _⟩ => ⟨S_, .i32⟩
  | .hbm, ⟨13, _⟩ => ⟨S1280x2x10240, .i32⟩
  | .hbm, ⟨14, _⟩ => ⟨S1280x2x10240, .i32⟩
  | .hbm, ⟨15, _⟩ => ⟨S_, .i32⟩
  | .hbm, ⟨16, _⟩ => ⟨S1280x2x10240, .i32⟩
  | .hbm, ⟨17, _⟩ => ⟨S1280x2x10240, .i1⟩
  | .hbm, ⟨18, _⟩ => ⟨S_, .i32⟩
  | .hbm, ⟨19, _⟩ => ⟨S1280x2x10240, .i32⟩
  | .hbm, ⟨20, _⟩ => ⟨S1280x2x10240, .i32⟩
  | .hbm, ⟨21, _⟩ => ⟨S1280x2x10240, .i32⟩
  | .hbm, ⟨22, _⟩ => ⟨S1280x2x10240, .f32⟩
  | .hbm, ⟨23, _⟩ => ⟨S1280x2x10240, .bf16⟩
  | .hbm, ⟨24, _⟩ => ⟨S20x128x10240, .bf16⟩
  | .hbm, ⟨25, _⟩ => ⟨S20x10240, .bf16⟩
  | .hbm, ⟨26, _⟩ => ⟨S20x1x10240, .bf16⟩
  | .hbm, ⟨27, _⟩ => ⟨S20x128x10240, .bf16⟩
  | .hbm, ⟨28, _⟩ => ⟨S20x128x10240, .bf16⟩
  | .hbm, ⟨29, _⟩ => ⟨S2560x10240, .bf16⟩
  | _, _ => ⟨S1280x10240, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== DqOut.lean ====
abbrev S2560x2560 : Shape := ⟨2, ![2560, 2560]⟩
abbrev S40x2560 : Shape := ⟨2, ![40, 2560]⟩
abbrev S5120x2560 : Shape := ⟨2, ![5120, 2560]⟩
abbrev S2560x256 : Shape := ⟨2, ![2560, 256]⟩
abbrev S40x256 : Shape := ⟨2, ![40, 256]⟩
abbrev S5120x256 : Shape := ⟨2, ![5120, 256]⟩
abbrev S64x256 : Shape := ⟨2, ![64, 256]⟩
abbrev S1x256 : Shape := ⟨2, ![1, 256]⟩
abbrev S128x256 : Shape := ⟨2, ![128, 256]⟩

abbrev nBuf : Space → Nat
  | .hbm => 4
  | .vmem => 6
  | .smem => 0
  | _ => 0

abbrev bufTy : (tb : Table) → Fin (tcTables nBuf tb) → BufTy
  | .hbm, ⟨0, _⟩ => ⟨S2560x2560, .i8⟩
  | .hbm, ⟨1, _⟩ => ⟨S40x2560, .f32⟩
  | .hbm, ⟨2, _⟩ => ⟨S2560x2560, .i8⟩
  | .hbm, ⟨3, _⟩ => ⟨S5120x2560, .bf16⟩
  | .local _ .vmem, ⟨0, _⟩ => ⟨S2560x256, .i8⟩
  | .local _ .vmem, ⟨1, _⟩ => ⟨S2560x256, .i8⟩
  | .local _ .vmem, ⟨2, _⟩ => ⟨S40x256, .f32⟩
  | .local _ .vmem, ⟨3, _⟩ => ⟨S40x256, .f32⟩
  | .local _ .vmem, ⟨4, _⟩ => ⟨S5120x256, .bf16⟩
  | .local _ .vmem, ⟨5, _⟩ => ⟨S5120x256, .bf16⟩
  | _, _ => ⟨S2560x2560, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2560x256 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S40x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5120x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DqOutIdeal.lean ====
variable {F : FTy → Type} [FloatOps F]
-- ==== RefDqOutIdeal.lean ====
abbrev S2560x2560 : Shape := ⟨2, ![2560, 2560]⟩
abbrev S40x2560 : Shape := ⟨2, ![40, 2560]⟩
abbrev S2 : Shape := ⟨1, ![2]⟩
abbrev S_ : Shape := ⟨0, ![]⟩
abbrev S2560x1x2560 : Shape := ⟨3, ![2560, 1, 2560]⟩
abbrev S1x2x1 : Shape := ⟨3, ![1, 2, 1]⟩
abbrev S2560x2x2560 : Shape := ⟨3, ![2560, 2, 2560]⟩
abbrev S40x128x2560 : Shape := ⟨3, ![40, 128, 2560]⟩
abbrev S40x1x2560 : Shape := ⟨3, ![40, 1, 2560]⟩
abbrev S5120x2560 : Shape := ⟨2, ![5120, 2560]⟩

abbrev nBuf : Space → Nat
  | .hbm => 30
  | .vmem => 0
  | .smem => 0
  | _ => 0

abbrev bufTy : (tb : Table) → Fin (tcTables nBuf tb) → BufTy
  | .hbm, ⟨0, _⟩ => ⟨S2560x2560, .i8⟩
  | .hbm, ⟨1, _⟩ => ⟨S40x2560, .f32⟩
  | .hbm, ⟨2, _⟩ => ⟨S2, .i32⟩
  | .hbm, ⟨3, _⟩ => ⟨S_, .i32⟩
  | .hbm, ⟨4, _⟩ => ⟨S2, .i32⟩
  | .hbm, ⟨5, _⟩ => ⟨S2, .i32⟩
  | .hbm, ⟨6, _⟩ => ⟨S2560x2560, .i32⟩
  | .hbm, ⟨7, _⟩ => ⟨S2560x1x2560, .i32⟩
  | .hbm, ⟨8, _⟩ => ⟨S1x2x1, .i32⟩
  | .hbm, ⟨9, _⟩ => ⟨S2560x2x2560, .i32⟩
  | .hbm, ⟨10, _⟩ => ⟨S2560x2x2560, .i32⟩
  | .hbm, ⟨11, _⟩ => ⟨S2560x2x2560, .i32⟩
  | .hbm, ⟨12, _⟩ => ⟨S_, .i32⟩
  | .hbm, ⟨13, _⟩ => ⟨S2560x2x2560, .i32⟩
  | .hbm, ⟨14, _⟩ => ⟨S2560x2x2560, .i32⟩
  | .hbm, ⟨15, _⟩ => ⟨S_, .i32⟩
  | .hbm, ⟨16, _⟩ => ⟨S2560x2x2560, .i32⟩
  | .hbm, ⟨17, _⟩ => ⟨S2560x2x2560, .i1⟩
  | .hbm, ⟨18, _⟩ => ⟨S_, .i32⟩
  | .hbm, ⟨19, _⟩ => ⟨S2560x2x2560, .i32⟩
  | .hbm, ⟨20, _⟩ => ⟨S2560x2x2560, .i32⟩
  | .hbm, ⟨21, _⟩ => ⟨S2560x2x2560, .i32⟩
  | .hbm, ⟨22, _⟩ => ⟨S2560x2x2560, .f32⟩
  | .hbm, ⟨23, _⟩ => ⟨S2560x2x2560, .bf16⟩
  | .hbm, ⟨24, _⟩ => ⟨S40x128x2560, .bf16⟩
  | .hbm, ⟨25, _⟩ => ⟨S40x2560, .bf16⟩
  | .hbm, ⟨26, _⟩ => ⟨S40x1x2560, .bf16⟩
  | .hbm, ⟨27, _⟩ => ⟨S40x128x2560, .bf16⟩
  | .hbm, ⟨28, _⟩ => ⟨S40x128x2560, .bf16⟩
  | .hbm, ⟨29, _⟩ => ⟨S5120x2560, .bf16⟩
  | _, _ => ⟨S2560x2560, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Proof.Util.lean ====
/-
  Hand-written, untrusted. Small facts that the certificates of the calls share.
-/
module

public import Idealize.ShloMosaic.Lib.Pipeline.Value
public import Idealize.ShloMosaic.Lib.ValueIdx
public import Idealize.ShloMosaic.Lib.Pointwise
public import Idealize.ShloMosaic.PureOps.Ideal.Laws

@[expose] public section

noncomputable section

namespace Cert.Proof

open Idealize.ShloMosaic

/-- The two zero offsets of a rectangle that starts at the origin. -/
theorem hz : (![0, 0] : Fin 2 → Nat) = fun _ => 0 := funext fun a => by fin_cases a <;> rfl

/-- A reshape into a shape of one element reads the operand's one element, whatever the two indices. -/
theorem shapeCast_one {α : Type} {s t : Shape} (h1 : s.numel = 1) (h2 : t.numel = 1) (x : s.Idx → α) (h : s.ShapeCasts t) (j : t.Idx) (k : s.Idx) :
    shapeCast t x h j = x k :=
  shapeCast_apply x h j k (by have := (s.rowMajor k).isLt; have := (t.rowMajor j).isLt; omega)

/-- A scale read from the vector of eight: element `k`. -/
theorem ld_scale (x : Vec Ideal ⟨1, ![8]⟩ .f32) (k : Nat) (hk : k < 8) (inb) (h : 0 < (Rect.unit (s := ⟨1, ![8]⟩) ![k] ![1] inb).shape.numel) :
    View.ld (Val := Elt Ideal) (e' := .f32) x (Rect.unit (s := ⟨1, ![8]⟩) ![k] ![1] inb) (Shape.Idx.first h) = x (ix1 ⟨k, hk⟩) := by
  refine congrArg x (funext fun a => Fin.ext ?_)
  match a with
  | ⟨0, _⟩ =>
    have hl := (Shape.Idx.first h (0 : Fin 1)).isLt
    change (Shape.Idx.first h (0 : Fin 1)).val < 1 at hl
    show k + 1 * (Shape.Idx.first h (0 : Fin 1)).val = k
    omega

/-- An 8-bit code widened to 32 bits with its sign is the same integer. -/
theorem toInt_widen (b : BitVec 8) : (b.signExtend 32).toInt = b.toInt := BitVec.toInt_signExtend_of_le (by decide)

end Cert.Proof

end
-- ==== Proof.InZ.lean ====
/-
  Hand-written, untrusted. `in_z`, one tile of the second half of the input projection per grid point, against the whole
  product computed by the reference `ref_in_z`: both results are the function `value` of the arguments, over the reals.
-/
module

public import proofs.«01_k».proof.Defs
public import proofs.«01_k».proof.Proof.Gen.InZIdeal.Value
public import proofs.«01_k».proof.Proof.Gen.RefInZIdeal.Run
public import proofs.«01_k».proof.Proof.Gen.RefInZIdeal.Read
public import Idealize.ShloMosaic.Lib.Pipeline.Value
public import Idealize.ShloMosaic.Lib.ValueIdx
public import Idealize.ShloMosaic.Lib.Tactic
public import Idealize.ShloMosaic.Lib.Pointwise
public import proofs.«01_k».proof.Proof.Util

@[expose] public section

set_option maxRecDepth 16384

noncomputable section

namespace Cert.Proof.InZ

open Cert.InZIdeal Cert.InZIdeal.Gen Idealize.ShloMosaic Idealize.ShloMosaic.TcCoe Idealize.SL.Sem
open Idealize.ShloMosaic.Pipeline (Dat)

/-- The result at `i`: row `i 0` of the codes against column `5120 + i 1` of the weights, times the scale of the codes. -/
def value (sc : Vec Ideal S8 .f32) (n : Vec Ideal S12288x2560 .i8) (w : Vec Ideal S2560x10240 .bf16) : Vec Ideal S12288x5120 .f32 :=
  fun i => (∑ k : Fin 2560, (((n (ix2 (i 0) k)).toInt : ℝ) : EReal) * w (ix2 k ⟨5120 + (i 1).val, by have h : (i 1).val < 5120 := (i 1).isLt; omega⟩))
    * sc (ix1 0)

/-- The tile a body leaves is its payload at the blocks read whole and the first scale. -/
theorem out_eq (c : Dev nD) (i : grid0.Coords) (arg2 : Memref sig .tc .smem S8 .f32) (harg2 : arg2.IsWhole) (arg3 : Memref sig .tc .vmem S512x2560 .i8) (harg3 : arg3.IsWhole) (arg4 : Memref sig .tc .vmem S2560x256 .bf16) (harg4 : arg4.IsWhole) (arg5 : Memref sig .tc .vmem S512x256 .f32) (harg5 : arg5.IsWhole)
    (x0 : Vec Ideal S8 .f32) (x1 : Vec Ideal S512x2560 .i8) (x2 : Vec Ideal S2560x256 .bf16) :
    out0_A_3 c i arg2 harg2 arg3 harg3 arg4 harg4 arg5 harg5 x0 x1 x2 = k0_pay1 x1 x2 (x0 (ix1 0)) := by
  unfold out0_A_3
  rw [View.read_writes_eq_canon _ _ _ (cover0_A_3 c i arg2 harg2 arg3 harg3 arg4 harg4 arg5 harg5 x0 x1 x2)]
  unfold kernelRun0_A
  dsimp only
  sl_unfold_words
  rw [View.canon_unit_zero (S := S512x256) hz]
  simp only [View.readAt_eq_ld, harg2.read_unread, harg3.read_unread, harg4.read_unread, View.ld_unit_zero (S := S512x2560) hz, View.ld_unit_zero (S := S2560x256) hz]
  exact congrArg (k0_pay1 x1 x2) (ld_scale x0 0 (by decide) _ _)

/-- The payload at an index of the tile: the row against the column, times the scale. -/
theorem pay_apply (x1 : Vec Ideal S512x2560 .i8) (x2 : Vec Ideal S2560x256 .bf16) (s : Elt Ideal .f32) (j : S512x256.Idx) :
    k0_pay1 x1 x2 s j = (∑ k : Fin 2560, (((x1 (ix2 (j 0) k)).toInt : ℝ) : EReal) * x2 (ix2 k (j 1))) * s := by
  unfold k0_pay1
  pointwise
  rfl

/-- The blocks' positions: the codes by row block, the weights by column block (20 blocks on), the result by both. -/
theorem idx_facts : ∀ t : Fin cfg0.N, win0_0.index t 0 = 0 ∧ win0_1.index t 0 = win0_3.index t 0 ∧ win0_1.index t 1 = 0
    ∧ win0_2.index t 0 = 0 ∧ win0_2.index t 1 = 20 + win0_3.index t 1 :=
  (by decide +kernel : ∀ t : Fin grid0.N, win0_0.index t 0 = 0 ∧ win0_1.index t 0 = win0_3.index t 0 ∧ win0_1.index t 1 = 0
    ∧ win0_2.index t 0 = 0 ∧ win0_2.index t 1 = 20 + win0_3.index t 1)

/-- Every block of the result is some point's. -/
theorem idx_onto : ∀ (a : Fin 24) (b : Fin 20), ∃ t : Fin cfg0.N, win0_3.index t 0 = a.val ∧ win0_3.index t 1 = b.val :=
  (by decide +kernel : ∀ (a : Fin 24) (b : Fin 20), ∃ t : Fin grid0.N, win0_3.index t 0 = a.val ∧ win0_3.index t 1 = b.val)

variable (m : (ℓ : Loc nD τ sig) → Buf (Elt Ideal) ℓ) (ρ : Dev nD → PrngReg)

/-- The result as a function of the arguments as launched. -/
abbrev G (c : Dev nD) : Buf (Elt Ideal) ((c : Thread nD τ).loc main_v0) :=
  value (m ((c : Thread nD τ).loc main_arg0)) (m ((c : Thread nD τ).loc main_arg1)) (m ((c : Thread nD τ).loc main_arg2))

/-- What a point writes back is its block of `G`. -/
theorem flushed_eq (c : Dev nD) (t : Fin cfg0.N) :
    (dats m 0 c).flushed 3 t = ((cfg0.win 3).blk t).view.read (Elt Ideal) (G m c) := by
  rw [Value.flushed3_A, out_eq]
  obtain ⟨e0, e1, e2, e3, e4⟩ := idx_facts t
  funext j
  show k0_pay1 (iblk m c 1 t) (iblk m c 2 t) (iblk m c 0 t (ix1 0)) j = _
  rw [pay_apply, View.read_apply]
  unfold G value iblk
  congr 1
  · refine Finset.sum_congr rfl fun k _ => ?_
    congr 1
    · rw [View.read_apply]
      show (((m (c.tc.loc main_arg1) _).toInt : ℝ) : EReal) = _
      congr 4
      funext a
      apply Fin.ext
      match a with
      | ⟨0, _⟩ => show win0_1.index t 0 * 512 + 1 * (j 0).val = win0_3.index t 0 * 512 + 1 * (j 0).val; rw [e1]
      | ⟨1, _⟩ => show win0_1.index t 1 * 2560 + 1 * k.val = k.val; rw [e2]; omega
    · rw [View.read_apply]
      show m (c.tc.loc main_arg2) _ = m (c.tc.loc main_arg2) _
      congr 1
      funext a
      apply Fin.ext
      match a with
      | ⟨0, _⟩ => show win0_2.index t 0 * 2560 + 1 * k.val = k.val; rw [e3]; omega
      | ⟨1, _⟩ => show win0_2.index t 1 * 256 + 1 * (j 1).val = 5120 + (win0_3.index t 1 * 256 + 1 * (j 1).val); rw [e4]; omega
  · rw [View.read_apply]
    show m (c.tc.loc main_arg0) _ = m (c.tc.loc main_arg0) _
    congr 1
    funext a
    apply Fin.ext
    match a with
    | ⟨0, _⟩ => show win0_0.index t 0 * 8 + 1 * 0 = 0; rw [e0]

/-- The blocks cover the result. -/
theorem final (c : Dev nD) : (dats m 0 c).arrAt 3 cfg0.N = G m c :=
  (dats m 0 c).arrAt_eq_of_cover 3 (G m c) (fun t _ => flushed_eq m c t) fun (i : S12288x5120.Idx) => by
    have h0 : (i 0 : Nat) < 12288 := (i 0).isLt
    have h1 : (i 1 : Nat) < 5120 := (i 1).isLt
    obtain ⟨t, ht0, ht1⟩ := idx_onto ⟨(i 0).val / 512, by omega⟩ ⟨(i 1).val / 256, by omega⟩
    dsimp only at ht0 ht1
    refine ⟨t, flush0_3 t, ?_⟩
    show i ∈ ((View.whole main_v0).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512; omega
    | ⟨1, _⟩ => show win0_3.index t 1 * 256 ≤ (i 1 : Nat) ∧ (i 1 : Nat) < win0_3.index t 1 * 256 + 256; omega

/-- The reference's last stage is `value` of its arguments. -/
theorem ref_eq (x0 : Vec Ideal S8 .f32) (x1 : Vec Ideal S12288x2560 .i8) (x2 : Vec Ideal S2560x10240 .bf16) :
    Cert.RefInZIdeal.Read.val_main_v8 (F := Ideal) x0 x1 x2 = value x0 x1 x2 := by
  funext i
  rw [RefInZIdeal.Read.val_main_v8_apply, RefInZIdeal.Read.val_main_v6_apply, RefInZIdeal.Read.val_main_v7_apply]
  unfold value
  show (∑ k : Fin 2560, _) * _ = _
  congr 1
  · refine Finset.sum_congr rfl fun k _ => ?_
    congr 1
    · rw [RefInZIdeal.Read.val_main_v5_apply, RefInZIdeal.Read.val_main_v4_apply, RefInZIdeal.Read.val_main_v3_apply]
      show ((((x1 _).signExtend 32).toInt : ℝ) : EReal) = _
      rw [toInt_widen]
      congr 4
      funext a
      match a with
      | ⟨0, _⟩ => rfl
      | ⟨1, _⟩ => rfl
    · rw [RefInZIdeal.Read.val_main_v2_apply]
      congr 1
      funext a
      match a with
      | ⟨0, _⟩ => rfl
      | ⟨1, _⟩ => rfl
  · unfold RefInZIdeal.Read.val_main_v1
    rw [shapeCast_one rfl rfl _ _ _ (ix1 0), RefInZIdeal.Read.val_main_v0_apply]
    congr 1
    funext a
    match a with
    | ⟨0, _⟩ => rfl

/-- CLAIM: over the reals, the kernel's result and the reference's are equal, whatever the arguments. -/
theorem algebraic : algebraic_InZIdeal_RefInZIdeal := by
  intro m g m' g' hpre hargs
  refine ⟨fun c => G m c, (θ_run defs _ _).mono (fun r h c => ⟨(h c).1.trans (final m c), (h c).2⟩) (Value.run_blocks m g), ?_⟩
  refine (θ_run RefInZIdeal.defs _ _).mono (fun r h c => ?_) (RefInZIdeal.Value.run m' g')
  obtain ⟨h0, h1⟩ := h c
  refine ⟨?_, h1⟩
  rw [h0, RefInZIdeal.Read.val_main_v8_eq, ref_eq]
  obtain ⟨a0, a1, a2⟩ := hargs c
  show value _ _ _ = value _ _ _
  rw [← a0, ← a1, ← a2]

end Cert.Proof.InZ

end
-- ==== Proof.Out.lean ====
/-
  Hand-written, untrusted. `out_proj`, one tile of the output projection per grid point and the same tile added to the two
  residual inputs, against the whole products of the reference `ref_out`: the second result is the function `prod` of the
  arguments and the first the function `total`, over the reals.
-/
module

public import proofs.«01_k».proof.Defs
public import proofs.«01_k».proof.Proof.Gen.OutIdeal.Value
public import proofs.«01_k».proof.Proof.Gen.RefOutIdeal.Run
public import proofs.«01_k».proof.Proof.Gen.RefOutIdeal.Read
public import Idealize.ShloMosaic.Lib.Pipeline.Value
public import Idealize.ShloMosaic.Lib.ValueIdx
public import Idealize.ShloMosaic.Lib.Tactic
public import Idealize.ShloMosaic.Lib.Pointwise
public import proofs.«01_k».proof.Proof.Util

@[expose] public section

set_option maxRecDepth 16384

noncomputable section

namespace Cert.Proof.Out

open Cert.OutIdeal Cert.OutIdeal.Gen Idealize.ShloMosaic Idealize.ShloMosaic.TcCoe Idealize.SL.Sem
open Idealize.ShloMosaic.Pipeline (Dat)

/-- The projection at `i`: row `i 0` of the codes against column `i 1` of the weights, times the scale of the codes. -/
def prod (sc : Vec Ideal S8 .f32) (y : Vec Ideal S12288x5120 .i8) (w : Vec Ideal S5120x2560 .bf16) : Vec Ideal S12288x2560 .f32 :=
  fun i => (∑ k : Fin 5120, (((y (ix2 (i 0) k)).toInt : ℝ) : EReal) * w (ix2 k (i 1))) * sc (ix1 6)

/-- The block's output at `i`: the residual sum plus the projection. -/
def total (sc : Vec Ideal S8 .f32) (y : Vec Ideal S12288x5120 .i8) (w : Vec Ideal S5120x2560 .bf16)
    (x r : Vec Ideal S12288x2560 .bf16) : Vec Ideal S12288x2560 .bf16 :=
  fun i => (x i + r i : EReal) + prod sc y w i

section
variable (c : Dev nD) (i : grid0.Coords) (arg2 : Memref sig .tc .smem S8 .f32) (harg2 : arg2.IsWhole) (arg3 : Memref sig .tc .vmem S512x5120 .i8) (harg3 : arg3.IsWhole) (arg4 : Memref sig .tc .vmem S5120x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S512x256 .f32) (harg8 : arg8.IsWhole)
    (x0 : Vec Ideal S8 .f32) (x1 : Vec Ideal S512x5120 .i8) (x2 : Vec Ideal S5120x256 .bf16) (x3 : Vec Ideal S512x256 .bf16) (x4 : Vec Ideal S512x256 .bf16)

/-- The first tile a body leaves is the second payload at the blocks read whole and the scale. -/
theorem out5_eq : out0_A_5 c i arg2 harg2 arg3 harg3 arg4 harg4 arg5 harg5 arg6 harg6 arg7 harg7 arg8 harg8 x0 x1 x2 x3 x4
    = k0_pay2 x1 x2 (x0 (ix1 6)) x3 x4 := by
  unfold out0_A_5
  rw [View.read_writes_eq_canon _ _ _ (cover0_A_5 c i arg2 harg2 arg3 harg3 arg4 harg4 arg5 harg5 arg6 harg6 arg7 harg7 arg8 harg8 x0 x1 x2 x3 x4)]
  unfold kernelRun0_A
  dsimp only
  sl_unfold_words
  rw [View.canon_unit_zero (S := S512x256) hz]
  simp only [View.readAt_eq_ld, harg2.read_unread, harg3.read_unread, harg4.read_unread, harg5.read_unread, harg6.read_unread, View.ld_unit_zero (S := S512x5120) hz, View.ld_unit_zero (S := S5120x256) hz, View.ld_unit_zero (S := S512x256) hz]
  exact congrArg (fun s => k0_pay2 x1 x2 s x3 x4) (ld_scale x0 6 (by decide) _ _)

/-- The second tile is the first payload. -/
theorem out6_eq : out0_A_6 c i arg2 harg2 arg3 harg3 arg4 harg4 arg5 harg5 arg6 harg6 arg7 harg7 arg8 harg8 x0 x1 x2 x3 x4
    = k0_pay1 x1 x2 (x0 (ix1 6)) := by
  unfold out0_A_6
  rw [View.read_writes_eq_canon _ _ _ (cover0_A_6 c i arg2 harg2 arg3 harg3 arg4 harg4 arg5 harg5 arg6 harg6 arg7 harg7 arg8 harg8 x0 x1 x2 x3 x4)]
  unfold kernelRun0_A
  dsimp only
  sl_unfold_words
  rw [View.canon_unit_zero (S := S512x256) hz]
  simp only [View.readAt_eq_ld, harg2.read_unread, harg3.read_unread, harg4.read_unread, View.ld_unit_zero (S := S512x5120) hz, View.ld_unit_zero (S := S5120x256) hz]
  exact congrArg (k0_pay1 x1 x2) (ld_scale x0 6 (by decide) _ _)

/-- The first payload at an index of the tile: the row against the column, times the scale. -/
theorem pay1_apply (s : Elt Ideal .f32) (j : S512x256.Idx) :
    k0_pay1 x1 x2 s j = (∑ k : Fin 5120, (((x1 (ix2 (j 0) k)).toInt : ℝ) : EReal) * x2 (ix2 k (j 1))) * s := by
  unfold k0_pay1
  pointwise
  rfl

/-- The second payload adds the two residual blocks. -/
theorem pay2_apply (s : Elt Ideal .f32) (j : S512x256.Idx) :
    k0_pay2 x1 x2 s x3 x4 j = (x3 j + x4 j : EReal) + k0_pay1 x1 x2 s j := rfl

end

/-- The blocks' positions: the codes by row block, the weights by column block, the residuals and the results by both. -/
theorem idx_facts : ∀ t : Fin cfg0.N, win0_0.index t 0 = 0 ∧ win0_1.index t 0 = win0_6.index t 0 ∧ win0_1.index t 1 = 0
    ∧ win0_2.index t 0 = 0 ∧ win0_2.index t 1 = win0_6.index t 1
    ∧ win0_3.index t = win0_6.index t ∧ win0_4.index t = win0_6.index t ∧ win0_5.index t = win0_6.index t :=
  (by decide +kernel : ∀ t : Fin grid0.N, win0_0.index t 0 = 0 ∧ win0_1.index t 0 = win0_6.index t 0 ∧ win0_1.index t 1 = 0
    ∧ win0_2.index t 0 = 0 ∧ win0_2.index t 1 = win0_6.index t 1
    ∧ win0_3.index t = win0_6.index t ∧ win0_4.index t = win0_6.index t ∧ win0_5.index t = win0_6.index t)

/-- Every block of a result is some point's. -/
theorem idx_onto : ∀ (a : Fin 24) (b : Fin 10), ∃ t : Fin cfg0.N, win0_6.index t 0 = a.val ∧ win0_6.index t 1 = b.val :=
  (by decide +kernel : ∀ (a : Fin 24) (b : Fin 10), ∃ t : Fin grid0.N, win0_6.index t 0 = a.val ∧ win0_6.index t 1 = b.val)

variable (m : (ℓ : Loc nD τ sig) → Buf (Elt Ideal) ℓ) (ρ : Dev nD → PrngReg)

/-- The second result as a function of the arguments as launched. -/
abbrev G6 (c : Dev nD) : Buf (Elt Ideal) ((c : Thread nD τ).loc main_v0_1) :=
  prod (m ((c : Thread nD τ).loc main_arg0)) (m ((c : Thread nD τ).loc main_arg1)) (m ((c : Thread nD τ).loc main_arg2))

/-- The first result as a function of the arguments as launched. -/
abbrev G5 (c : Dev nD) : Buf (Elt Ideal) ((c : Thread nD τ).loc main_v0_0) :=
  total (m ((c : Thread nD τ).loc main_arg0)) (m ((c : Thread nD τ).loc main_arg1)) (m ((c : Thread nD τ).loc main_arg2))
    (m ((c : Thread nD τ).loc main_arg3)) (m ((c : Thread nD τ).loc main_arg4))

/-- The index of the result arrays at which element `j` of point `t`'s block stands. -/
def at6 (t : Fin cfg0.N) (j : S512x256.Idx) : S12288x2560.Idx := ((cfg0.win 6).blk t).view.emb j

/-- … in coordinates. -/
theorem at6_val (t : Fin cfg0.N) (j : S512x256.Idx) :
    (at6 t j 0).val = win0_6.index t 0 * 512 + 1 * (j 0).val ∧ (at6 t j 1).val = win0_6.index t 1 * 256 + 1 * (j 1).val := ⟨rfl, rfl⟩

/-- The product a point's blocks give is the whole product at the block's place. -/
theorem prod_blk (c : Dev nD) (t : Fin cfg0.N) (j : S512x256.Idx) :
    k0_pay1 (iblk m c 1 t) (iblk m c 2 t) (iblk m c 0 t (ix1 6)) j = G6 m c (at6 t j) := by
  obtain ⟨e0, e1, e2, e3, e4, -⟩ := idx_facts t
  obtain ⟨v0, v1⟩ := at6_val t j
  rw [pay1_apply]
  unfold G6 prod iblk
  congr 1
  · refine Finset.sum_congr rfl fun k _ => ?_
    congr 1
    · rw [View.read_apply]
      show (((m (c.tc.loc main_arg1) _).toInt : ℝ) : EReal) = _
      congr 4
      funext a
      apply Fin.ext
      match a with
      | ⟨0, _⟩ => show win0_1.index t 0 * 512 + 1 * (j 0).val = (at6 t j 0).val; rw [v0, e1]
      | ⟨1, _⟩ => show win0_1.index t 1 * 5120 + 1 * k.val = k.val; rw [e2]; omega
    · rw [View.read_apply]
      show m (c.tc.loc main_arg2) _ = m (c.tc.loc main_arg2) _
      congr 1
      funext a
      apply Fin.ext
      match a with
      | ⟨0, _⟩ => show win0_2.index t 0 * 5120 + 1 * k.val = k.val; rw [e3]; omega
      | ⟨1, _⟩ => show win0_2.index t 1 * 256 + 1 * (j 1).val = (at6 t j 1).val; rw [v1, e4]
  · rw [View.read_apply]
    show m (c.tc.loc main_arg0) _ = m (c.tc.loc main_arg0) _
    congr 1
    funext a
    apply Fin.ext
    match a with
    | ⟨0, _⟩ => show win0_0.index t 0 * 8 + 1 * 6 = 6; rw [e0]

/-- A block of the first residual input, at an index. -/
theorem res3 (c : Dev nD) (t : Fin cfg0.N) (j : S512x256.Idx) :
    (iblk m c 3 t : Vec Ideal S512x256 .bf16) j = m ((c : Thread nD τ).loc main_arg3) (at6 t j) := by
  obtain ⟨-, -, -, -, -, e, -, -⟩ := idx_facts t
  obtain ⟨v0, v1⟩ := at6_val t j
  unfold iblk
  rw [View.read_apply]
  show m (c.tc.loc main_arg3) _ = m (c.tc.loc main_arg3) _
  congr 1

/-- A block of the second residual input, at an index. -/
theorem res4 (c : Dev nD) (t : Fin cfg0.N) (j : S512x256.Idx) :
    (iblk m c 4 t : Vec Ideal S512x256 .bf16) j = m ((c : Thread nD τ).loc main_arg4) (at6 t j) := by
  obtain ⟨-, -, -, -, -, -, e, -⟩ := idx_facts t
  obtain ⟨v0, v1⟩ := at6_val t j
  unfold iblk
  rw [View.read_apply]
  show m (c.tc.loc main_arg4) _ = m (c.tc.loc main_arg4) _
  congr 1

/-- What a point writes back to the second result is its block of `G6`. -/
theorem flushed6_eq (c : Dev nD) (t : Fin cfg0.N) :
    (dats m 0 c).flushed 6 t = ((cfg0.win 6).blk t).view.read (Elt Ideal) (G6 m c) := by
  rw [Value.flushed6_A, out6_eq]
  funext j
  exact prod_blk m c t j

/-- What a point writes back to the first result is its block of `G5`. -/
theorem flushed5_eq (c : Dev nD) (t : Fin cfg0.N) :
    (dats m 0 c).flushed 5 t = ((cfg0.win 5).blk t).view.read (Elt Ideal) (G5 m c) := by
  rw [Value.flushed5_A, out5_eq]
  obtain ⟨-, -, -, -, -, -, -, e⟩ := idx_facts t
  funext j
  show k0_pay2 (iblk m c 1 t) (iblk m c 2 t) (iblk m c 0 t (ix1 6)) (iblk m c 3 t) (iblk m c 4 t) j = _
  rw [pay2_apply, prod_blk, res3, res4, View.read_apply]
  show G5 m c (at6 t j) = G5 m c _
  congr 1

/-- The blocks cover the second result. -/
theorem final6 (c : Dev nD) : (dats m 0 c).arrAt 6 cfg0.N = G6 m c :=
  (dats m 0 c).arrAt_eq_of_cover 6 (G6 m c) (fun t _ => flushed6_eq m c t) fun (i : S12288x2560.Idx) => by
    have h0 : (i 0 : Nat) < 12288 := (i 0).isLt
    have h1 : (i 1 : Nat) < 2560 := (i 1).isLt
    obtain ⟨t, ht0, ht1⟩ := idx_onto ⟨(i 0).val / 512, by omega⟩ ⟨(i 1).val / 256, by omega⟩
    dsimp only at ht0 ht1
    refine ⟨t, flush0_6 t, ?_⟩
    show i ∈ ((View.whole main_v0_1).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512; omega
    | ⟨1, _⟩ => show win0_6.index t 1 * 256 ≤ (i 1 : Nat) ∧ (i 1 : Nat) < win0_6.index t 1 * 256 + 256; omega

/-- The blocks cover the first result. -/
theorem final5 (c : Dev nD) : (dats m 0 c).arrAt 5 cfg0.N = G5 m c :=
  (dats m 0 c).arrAt_eq_of_cover 5 (G5 m c) (fun t _ => flushed5_eq m c t) fun (i : S12288x2560.Idx) => by
    have h0 : (i 0 : Nat) < 12288 := (i 0).isLt
    have h1 : (i 1 : Nat) < 2560 := (i 1).isLt
    obtain ⟨t, ht0, ht1⟩ := idx_onto ⟨(i 0).val / 512, by omega⟩ ⟨(i 1).val / 256, by omega⟩
    obtain ⟨-, -, -, -, -, -, -, e⟩ := idx_facts t
    rw [← e] at ht0 ht1
    dsimp only at ht0 ht1
    refine ⟨t, flush0_5 t, ?_⟩
    show i ∈ ((View.whole main_v0_0).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512; omega
    | ⟨1, _⟩ => show win0_5.index t 1 * 256 ≤ (i 1 : Nat) ∧ (i 1 : Nat) < win0_5.index t 1 * 256 + 256; omega

open RefOutIdeal.Read in
/-- The reference's product is `prod` of its arguments. -/
theorem ref10_eq (x0 : Vec Ideal S8 .f32) (x1 : Vec Ideal S12288x5120 .i8) (x2 : Vec Ideal S5120x2560 .bf16) :
    val_main_v10 (F := Ideal) x0 x1 x2 = prod x0 x1 x2 := by
  funext i
  rw [val_main_v10_apply, val_main_v8_apply, val_main_v9_apply]
  unfold prod
  show (∑ k : Fin 5120, _) * _ = _
  congr 1
  · refine Finset.sum_congr rfl fun k _ => ?_
    congr 1
    · rw [val_main_v7_apply, val_main_v6_apply, val_main_v5_apply]
      show ((((x1 _).signExtend 32).toInt : ℝ) : EReal) = _
      rw [toInt_widen]
      congr 4
      funext a
      match a with
      | ⟨0, _⟩ => rfl
      | ⟨1, _⟩ => rfl
    · congr 1
      funext a
      match a with
      | ⟨0, _⟩ => rfl
      | ⟨1, _⟩ => rfl
  · unfold val_main_v4
    rw [shapeCast_one rfl rfl _ _ _ (ix1 0), val_main_v3_apply]
    congr 1
    funext a
    match a with
    | ⟨0, _⟩ => rfl

open RefOutIdeal.Read in
/-- The reference's sum is `total` of its arguments. -/
theorem ref12_eq (x0 : Vec Ideal S8 .f32) (x1 : Vec Ideal S12288x5120 .i8) (x2 : Vec Ideal S5120x2560 .bf16) (x3 x4 : Vec Ideal S12288x2560 .bf16) :
    val_main_v12 (F := Ideal) x0 x1 x2 x3 x4 = total x0 x1 x2 x3 x4 := by
  funext i
  unfold total
  rw [← ref10_eq]
  rfl

/-- CLAIM: over the reals, the kernel's results and the reference's are equal, whatever the arguments. -/
theorem algebraic : algebraic_OutIdeal_RefOutIdeal := by
  intro m g m' g' hpre hargs
  refine ⟨fun c => G5 m c, fun c => G6 m c,
    (θ_run defs _ _).mono (fun r h c => ⟨(h c).1.trans (final5 m c), (h c).2.1.trans (final6 m c), (h c).2.2⟩) (Value.run_blocks m g), ?_⟩
  refine (θ_run RefOutIdeal.defs _ _).mono (fun r h c => ?_) (RefOutIdeal.Value.run m' g')
  obtain ⟨h0, h1, h2⟩ := h c
  obtain ⟨a0, a1, a2, a3, a4⟩ := hargs c
  refine ⟨?_, ?_, h2⟩
  · rw [h0, RefOutIdeal.Read.val_main_v12_eq, ref12_eq]
    show total _ _ _ _ _ = total _ _ _ _ _
    rw [← a0, ← a1, ← a2, ← a3, ← a4]
  · rw [h1, RefOutIdeal.Read.val_main_v10_eq, ref10_eq]
    show prod _ _ _ = prod _ _ _
    rw [← a0, ← a1, ← a2]

end Cert.Proof.Out

end
-- ==== Proof.Quant.lean ====
/-
  Hand-written, untrusted. The symmetric 8-bit quantiser over the reals, as the reference states it and as the kernels compute
  it: the two give one code where the scale is not zero.
-/
module

public import Idealize.ShloMosaic.PureOps.Ideal
public import Idealize.ShloMosaic.PureOps.Ideal.Laws

@[expose] public section

noncomputable section

namespace Cert.Proof

open Idealize.ShloMosaic

/-- The code of `v` at the scale `s`: the quotient rounded to the nearest integer, ties to even, clipped to [-127, 127]. -/
def code (v s : EReal) : BitVec 8 :=
  Ideal.fptosi 8 (min ((127 : ℝ) : EReal) (max ((-127 : ℝ) : EReal) (Ideal.liftRound Ideal.roundHalfEven (Ideal.div v s))))

/-- Dividing by a scale that is not zero is multiplying by its reciprocal, at the infinities too. -/
theorem mul_recip (v : EReal) {s : EReal} (hs : s ≠ 0) : v * Ideal.div 1 s = Ideal.div v s := by
  unfold Ideal.div
  rw [if_neg hs, if_neg hs, one_mul]

/-- A clipped number converts to 32 bits and keeps its code when the word is cut to 8 bits. -/
theorem fptosi_cut (x : EReal) :
    (Ideal.fptosi 32 (min ((127 : ℝ) : EReal) (max ((-127 : ℝ) : EReal) x))).setWidth 8
      = Ideal.fptosi 8 (min ((127 : ℝ) : EReal) (max ((-127 : ℝ) : EReal) x)) := by
  obtain ⟨r, hr, h1, h2⟩ : ∃ r : ℝ, min ((127 : ℝ) : EReal) (max ((-127 : ℝ) : EReal) x) = (r : EReal) ∧ -127 ≤ r ∧ r ≤ 127 := by
    have ha : ((-127 : ℝ) : EReal) ≤ min ((127 : ℝ) : EReal) (max ((-127 : ℝ) : EReal) x) :=
      le_min (by exact_mod_cast (by norm_num : (-127 : ℝ) ≤ 127)) (le_max_left _ _)
    have hb : min ((127 : ℝ) : EReal) (max ((-127 : ℝ) : EReal) x) ≤ ((127 : ℝ) : EReal) := min_le_left _ _
    generalize min ((127 : ℝ) : EReal) (max ((-127 : ℝ) : EReal) x) = y at ha hb
    induction y with
    | bot => exact absurd ha (by simp)
    | top => exact absurd hb (by simp)
    | coe r => exact ⟨r, rfl, by exact_mod_cast ha, by exact_mod_cast hb⟩
  rw [hr]
  unfold Ideal.fptosi
  rw [Ideal.toIntClamped_coe, Ideal.toIntClamped_coe]
  obtain ⟨n, hn, hl, hu⟩ : ∃ n : ℤ, (if 0 ≤ r then ⌊r⌋ else ⌈r⌉) = n ∧ -127 ≤ n ∧ n ≤ 127 := by
    refine ⟨_, rfl, ?_, ?_⟩
    · split
      · exact Int.le_floor.2 (by push_cast; exact h1)
      · have : (-127 : ℝ) ≤ (⌈r⌉ : ℝ) := h1.trans (Int.le_ceil r)
        exact_mod_cast this
    · split
      · have : (⌊r⌋ : ℝ) ≤ (127 : ℝ) := (Int.floor_le r).trans h2
        exact_mod_cast this
      · exact Int.ceil_le.2 (by push_cast; exact h2)
  rw [hn]
  norm_num
  rw [show max (-2147483648 : ℤ) (min 2147483647 n) = n by omega, show max (-128 : ℤ) (min 127 n) = n by omega]
  apply BitVec.eq_of_toInt_eq
  simp [BitVec.toInt_ofInt, BitVec.toInt_setWidth]
  all_goals (try rw [Int.bmod_def, Int.bmod_def]; omega)

/-- The reference's code: divide, round, clip between the integers -127 and 127, convert to 32 bits, cut to 8. -/
theorem ref_code (v s : EReal) :
    (Ideal.fptosi 32 (min (((127#32).toInt : ℝ) : EReal) (max (((4294967169#32).toInt : ℝ) : EReal) (Ideal.liftRound Ideal.roundHalfEven (Ideal.div v s))))).setWidth 8
      = code v s := by
  rw [show (127#32).toInt = 127 by decide, show (4294967169#32).toInt = -127 by decide]
  push_cast
  exact fptosi_cut _

/-- The word of the kernels' lower bound. -/
theorem ofBits_lo : Ideal.ofBits .f32 0xC2FE0000#32 = ((-127 : ℝ) : EReal) := by
  simp [Ideal.ofBits, Ideal.ieee, -EReal.coe_mul]; norm_num

/-- The word of the kernels' upper bound. -/
theorem ofBits_hi : Ideal.ofBits .f32 0x42FE0000#32 = ((127 : ℝ) : EReal) := by
  simp [Ideal.ofBits, Ideal.ieee, -EReal.coe_mul]; norm_num

/-- The word of the one that a scale divides. -/
theorem ofBits_one : Ideal.ofBits .f32 0x3F800000#32 = (1 : EReal) := by
  simp [Ideal.ofBits, Ideal.ieee, -EReal.coe_mul]; norm_num

/-- The kernels' code: multiply by the reciprocal of the scale, round, clip, convert to 8 bits. -/
theorem kernel_code (v : EReal) {s : EReal} (hs : s ≠ 0) :
    Ideal.fptosi 8 (min (Ideal.ofBits .f32 0x42FE0000#32) (max (Ideal.ofBits .f32 0xC2FE0000#32)
      (Ideal.liftRound Ideal.roundHalfEven (v * Ideal.div (Ideal.ofBits .f32 0x3F800000#32) s)))) = code v s := by
  rw [ofBits_lo, ofBits_hi, ofBits_one, mul_recip v hs]
  rfl

end Cert.Proof

end
-- ==== Proof.Norm.lean ====
/-
  Hand-written, untrusted. `norm`, a block of rows of the residual sum normalised and quantised per grid point, against the
  reference `ref_norm`: where the scale is not zero both results are the function `value` of the arguments, over the reals.
-/
module

public import proofs.«01_k».proof.Defs
public import proofs.«01_k».proof.Proof.Gen.NormIdeal.Value
public import proofs.«01_k».proof.Proof.Gen.RefNormIdeal.Run
public import proofs.«01_k».proof.Proof.Gen.RefNormIdeal.Read
public import proofs.«01_k».proof.Proof.Gen.Pre_scale_in_nonzero
public import Idealize.ShloMosaic.Lib.Pipeline.Value
public import Idealize.ShloMosaic.Lib.ValueIdx
public import Idealize.ShloMosaic.Lib.Tactic
public import Idealize.ShloMosaic.Lib.Pointwise
public import proofs.«01_k».proof.Proof.Util
public import proofs.«01_k».proof.Proof.Quant

@[expose] public section

set_option maxRecDepth 16384

noncomputable section

namespace Cert.Proof.Norm

open Cert.NormIdeal Cert.NormIdeal.Gen Idealize.ShloMosaic Idealize.ShloMosaic.TcCoe Idealize.SL.Sem
open Idealize.ShloMosaic.Pipeline (Dat)

/-- One element `v` of a row `f`, divided by the root of the row's mean square plus the small constant, times its weight. -/
def normed (f : Fin 2560 → EReal) (v w : EReal) : EReal :=
  Ideal.div v (Ideal.sqrt (Ideal.div (∑ k : Fin 2560, f k * f k) (Ideal.ofBits .f32 0x45200000#32) + Ideal.ofBits .f32 0x3727C5AC#32)) * w

/-- The result at `i`: the code, at the first scale, of the normalised residual sum. -/
def value (sc : Vec Ideal S8 .f32) (x r : Vec Ideal S12288x2560 .bf16) (w : Vec Ideal S2560 .f32) : Vec Ideal S12288x2560 .i8 :=
  fun i => code (normed (fun k => (x (ix2 (i 0) k) + r (ix2 (i 0) k) : EReal)) (x i + r i : EReal) (w (ix1 (i 1)))) (sc (ix1 0))

/-- What a point's run leaves in its output block: the payload of the input blocks and the scales. -/
theorem out_eq (c : Dev nD) (i : grid0.Coords) (arg1 : Memref sig .tc .smem S8 .f32) (harg1 : arg1.IsWhole) (arg2 : Memref sig .tc .vmem S256x2560 .bf16) (harg2 : arg2.IsWhole) (arg3 : Memref sig .tc .vmem S256x2560 .bf16) (harg3 : arg3.IsWhole) (arg4 : Memref sig .tc .vmem S1x2560 .f32) (harg4 : arg4.IsWhole) (arg5 : Memref sig .tc .vmem S256x2560 .i8) (harg5 : arg5.IsWhole)
    (x0 : Vec Ideal S8 .f32) (x1 : Vec Ideal S256x2560 .bf16) (x2 : Vec Ideal S256x2560 .bf16) (x3 : Vec Ideal S1x2560 .f32) :
    out0_A_4 c i arg1 harg1 arg2 harg2 arg3 harg3 arg4 harg4 arg5 harg5 x0 x1 x2 x3 = k0_pay1 x1 x2 x3 (x0 (ix1 0)) := by
  unfold out0_A_4
  rw [View.read_writes_eq_canon _ _ _ (cover0_A_4 c i arg1 harg1 arg2 harg2 arg3 harg3 arg4 harg4 arg5 harg5 x0 x1 x2 x3)]
  unfold kernelRun0_A
  dsimp only
  sl_unfold_words
  rw [View.canon_unit_zero (S := S256x2560) hz]
  simp only [View.readAt_eq_ld, harg1.read_unread, harg2.read_unread, harg3.read_unread, harg4.read_unread, View.ld_unit_zero (S := S256x2560) hz, View.ld_unit_zero (S := S1x2560) hz]
  exact congrArg (k0_pay1 x1 x2 x3) (ld_scale x0 0 (by decide) _ _)

/-- The payload at an index, where the scale is not zero. -/
theorem pay_apply (x1 x2 : Vec Ideal S256x2560 .bf16) (x3 : Vec Ideal S1x2560 .f32) {s : EReal} (hs : s ≠ 0) (j : S256x2560.Idx) :
    k0_pay1 x1 x2 x3 s j = code (normed (fun k => (x1 (ix2 (j 0) k) + x2 (ix2 (j 0) k) : EReal)) (x1 j + x2 j : EReal) (x3 (ix2 0 (j 1)))) s := by
  unfold k0_pay1
  pointwise
  rw [← ofBits_one]
  exact kernel_code _ hs

/-- The windows' block indices at each point: every window but the scales' and the weights' moves down the rows with the result's. -/
theorem idx_facts : ∀ t : Fin cfg0.N, win0_0.index t 0 = 0 ∧ win0_1.index t 0 = win0_4.index t 0 ∧ win0_1.index t 1 = 0
    ∧ win0_2.index t 0 = win0_4.index t 0 ∧ win0_2.index t 1 = 0 ∧ win0_3.index t 0 = 0 ∧ win0_3.index t 1 = 0 ∧ win0_4.index t 1 = 0 :=
  (by decide +kernel : ∀ t : Fin grid0.N, win0_0.index t 0 = 0 ∧ win0_1.index t 0 = win0_4.index t 0 ∧ win0_1.index t 1 = 0
    ∧ win0_2.index t 0 = win0_4.index t 0 ∧ win0_2.index t 1 = 0 ∧ win0_3.index t 0 = 0 ∧ win0_3.index t 1 = 0 ∧ win0_4.index t 1 = 0)

/-- Every block of rows of the result is some point's. -/
theorem idx_onto : ∀ (a : Fin 48), ∃ t : Fin cfg0.N, win0_4.index t 0 = a.val :=
  (by decide +kernel : ∀ (a : Fin 48), ∃ t : Fin grid0.N, win0_4.index t 0 = a.val)

/-- A row of a point's block is a row of the array. -/
theorem row_lt (t : Fin cfg0.N) (a : S256x2560.Idx) : win0_4.index t 0 * 256 + (a 0).val < 12288 := by
  have h : ∀ t : Fin cfg0.N, win0_4.index t 0 < 48 := (by decide +kernel : ∀ t : Fin grid0.N, win0_4.index t 0 < 48)
  have := h t
  have : (a 0 : Nat) < 256 := (a 0).isLt
  omega

variable (m : (ℓ : Loc nD τ sig) → Buf (Elt Ideal) ℓ) (ρ : Dev nD → PrngReg)

/-- The result as a function of the arguments as launched. -/
abbrev G (c : Dev nD) : Buf (Elt Ideal) ((c : Thread nD τ).loc main_v1) :=
  value (m ((c : Thread nD τ).loc main_arg0)) (m ((c : Thread nD τ).loc main_arg1)) (m ((c : Thread nD τ).loc main_arg2)) (m ((c : Thread nD τ).loc main_arg3))

/-- The weights the kernel reads are the argument's, as one row. -/
theorem V_w (c : Dev nD) (j : S1x2560.Idx) : V m c main_v0 j = m ((c : Thread nD τ).loc main_arg3) (ix1 (j 1)) := by
  entry_read
  pointwise

/-- What a point writes back is its block of `G`, where the scale is not zero. -/
theorem flushed_eq (c : Dev nD) (hs : (m ((c : Thread nD τ).loc main_arg0) : Vec Ideal S8 .f32) (ix1 0) ≠ (0 : EReal)) (t : Fin cfg0.N) :
    (dats m 0 c).flushed 4 t = ((cfg0.win 4).blk t).view.read (Elt Ideal) (G m c) := by
  rw [Value.flushed4_A, out_eq]
  obtain ⟨e0, e1, e2, e3, e4, e5, e6, e7⟩ := idx_facts t
  have hsc : iblk m c 0 t (ix1 0) = (m ((c : Thread nD τ).loc main_arg0) : Vec Ideal S8 .f32) (ix1 0) := by
    unfold iblk
    rw [View.read_apply]
    show m (c.tc.loc main_arg0) _ = m (c.tc.loc main_arg0) _
    congr 1
    funext a
    apply Fin.ext
    match a with
    | ⟨0, _⟩ => show win0_0.index t 0 * 8 + 1 * 0 = 0; rw [e0]
  funext (j : S256x2560.Idx)
  show k0_pay1 (iblk m c 1 t) (iblk m c 2 t) (iblk m c 3 t) (iblk m c 0 t (ix1 0)) j = _
  rw [hsc]
  refine (pay_apply _ _ _ hs j).trans ?_
  have hx : ∀ a : S256x2560.Idx, iblk m c 1 t a = (m ((c : Thread nD τ).loc main_arg1) : Vec Ideal S12288x2560 .bf16) (ix2 ⟨win0_4.index t 0 * 256 + (a 0).val, row_lt t a⟩ (a 1)) := by
    intro a
    unfold iblk
    rw [View.read_apply]
    show m (c.tc.loc main_arg1) _ = m (c.tc.loc main_arg1) _
    congr 1
    funext b
    apply Fin.ext
    match b with
    | ⟨0, _⟩ => show win0_1.index t 0 * 256 + 1 * (a 0).val = win0_4.index t 0 * 256 + (a 0).val; rw [e1]; omega
    | ⟨1, _⟩ => show win0_1.index t 1 * 2560 + 1 * (a 1).val = (a 1).val; rw [e2]; omega
  have hr : ∀ a : S256x2560.Idx, iblk m c 2 t a = (m ((c : Thread nD τ).loc main_arg2) : Vec Ideal S12288x2560 .bf16) (ix2 ⟨win0_4.index t 0 * 256 + (a 0).val, row_lt t a⟩ (a 1)) := by
    intro a
    unfold iblk
    rw [View.read_apply]
    show m (c.tc.loc main_arg2) _ = m (c.tc.loc main_arg2) _
    congr 1
    funext b
    apply Fin.ext
    match b with
    | ⟨0, _⟩ => show win0_2.index t 0 * 256 + 1 * (a 0).val = win0_4.index t 0 * 256 + (a 0).val; rw [e3]; omega
    | ⟨1, _⟩ => show win0_2.index t 1 * 2560 + 1 * (a 1).val = (a 1).val; rw [e4]; omega
  have hw : ∀ a : S1x2560.Idx, iblk m c 3 t a = (m ((c : Thread nD τ).loc main_arg3) : Vec Ideal S2560 .f32) (ix1 (a 1)) := by
    intro a
    unfold iblk
    rw [View.read_apply]
    refine (V_w m c _).trans ?_
    show m (c.tc.loc main_arg3) _ = m (c.tc.loc main_arg3) _
    congr 1
    funext b
    apply Fin.ext
    match b with
    | ⟨0, _⟩ => show win0_3.index t 1 * 2560 + 1 * (a 1).val = (a 1).val; rw [e6]; omega
  have hj : ((View.whole main_v1).slice ((win0 4).rect t)).emb j = (ix2 ⟨win0_4.index t 0 * 256 + (j 0).val, row_lt t j⟩ (j 1) : S12288x2560.Idx) := by
    funext b
    apply Fin.ext
    match b with
    | ⟨0, _⟩ => show win0_4.index t 0 * 256 + 1 * (j 0).val = win0_4.index t 0 * 256 + (j 0).val; omega
    | ⟨1, _⟩ => show win0_4.index t 1 * 2560 + 1 * (j 1).val = (j 1).val; rw [e7]; omega
  rw [View.read_apply]
  simp only [hx, hr, hw]
  show _ = G m c (((View.whole main_v1).slice ((win0 4).rect t)).emb j)
  rw [hj]
  rfl

/-- The blocks cover the result. -/
theorem final (c : Dev nD) (hs : (m ((c : Thread nD τ).loc main_arg0) : Vec Ideal S8 .f32) (ix1 0) ≠ (0 : EReal)) : (dats m 0 c).arrAt 4 cfg0.N = G m c :=
  (dats m 0 c).arrAt_eq_of_cover 4 (G m c) (fun t _ => flushed_eq m c hs t) fun (i : S12288x2560.Idx) => by
    have h0 : (i 0 : Nat) < 12288 := (i 0).isLt
    have h1 : (i 1 : Nat) < 2560 := (i 1).isLt
    obtain ⟨t, ht0⟩ := idx_onto ⟨(i 0).val / 256, by omega⟩
    obtain ⟨e0, e1, e2, e3, e4, e5, e6, e7⟩ := idx_facts t
    dsimp only at ht0
    refine ⟨t, flush0_4 t, ?_⟩
    show i ∈ ((View.whole main_v1).slice (win0_4.rect t)).set
    rw [View.set_slice_whole, Rect.mem_set_unit]
    intro a
    match a with
    | ⟨0, _⟩ => show win0_4.index t 0 * 256 ≤ (i 0 : Nat) ∧ (i 0 : Nat) < win0_4.index t 0 * 256 + 256; omega
    | ⟨1, _⟩ => show win0_4.index t 1 * 2560 ≤ (i 1 : Nat) ∧ (i 1 : Nat) < win0_4.index t 1 * 2560 + 2560; omega

open Cert.RefNormIdeal.Read in
/-- The reference's last stage is `value` of its arguments. -/
theorem ref_eq (x0 : Vec Ideal S8 .f32) (x1 x2 : Vec Ideal S12288x2560 .bf16) (x3 : Vec Ideal S2560 .f32) :
    val_main_v23 (F := Ideal) x0 x1 x2 x3 = value x0 x1 x2 x3 := by
  funext i
  have hsum : ∀ k, val_main_v2 (F := Ideal) x1 x2 k = (x1 k + x2 k : EReal) := fun _ => rfl
  have hsc : val_main_v18 (F := Ideal) x0 i = x0 (ix1 0) := by
    rw [val_main_v18_apply]
    unfold val_main_v17
    rw [shapeCast_one rfl rfl _ _ _ (ix1 0), val_main_v16_apply]
    congr 1
    funext a
    match a with
    | ⟨0, _⟩ => rfl
  have hw : val_main_v14 (F := Ideal) x3 i = x3 (ix1 (i 1)) := by
    rw [val_main_v14_apply, val_main_v13_apply]
    congr 1
    funext a
    match a with
    | ⟨0, _⟩ => rfl
  have hd : val_main_v11 (F := Ideal) x1 x2 i
      = Ideal.sqrt (Ideal.div (∑ k : Fin 2560, (x1 (ix2 (i 0) k) + x2 (ix2 (i 0) k)) * (x1 (ix2 (i 0) k) + x2 (ix2 (i 0) k))) (Ideal.ofBits .f32 0x45200000#32) + Ideal.ofBits .f32 0x3727C5AC#32) := by
    rw [val_main_v11_apply, val_main_v10_apply, val_main_v9_apply, val_main_v7_apply, val_main_v5_apply, val_main_v4_apply, val_main_v8_apply, val_main_v6_apply]
    have h0 : val_main_cst (F := Ideal) (Shape.Idx.first RefNormIdeal.Gen.h_S_) = (0 : EReal) := by
      rw [val_main_cst_apply]
      exact Ideal.ofBits_zero .f32
    rw [h0, zero_add]
    show Ideal.sqrt (Ideal.div (∑ k : Fin 2560, (x1 _ + x2 _ : EReal) * (x1 _ + x2 _ : EReal)) (Ideal.ofBits .f32 0x45200000#32) + Ideal.ofBits .f32 0x3727C5AC#32) = _
    refine congrArg (fun z => Ideal.sqrt (Ideal.div z _ + _)) (Finset.sum_congr rfl fun k _ => ?_)
    have e : idx_main_v4 (idx_main_v5 (idx_main_v11 i)) k = (ix2 (i 0) k : S12288x2560.Idx) := by
      funext a
      match a with
      | ⟨0, _⟩ => rfl
      | ⟨1, _⟩ => rfl
    rw [e]
  rw [val_main_v23_apply, val_main_v22_apply, val_main_v21_apply, val_main_call1_v2_apply, val_main_v20_apply, val_main_v19_apply, val_main_v15_apply, val_main_v12_apply, hd, hw, hsc, hsum, val_main_call1_v4_apply, val_main_call1_v1_apply]
  exact ref_code _ _

/-- The precondition says the first scale is not zero. -/
theorem scale_ne (x0 : Vec Ideal S8 .f32) (x1 x2 : Vec Ideal S12288x2560 .bf16) (x3 : Vec Ideal S2560 .f32)
    (h : Cert.Pre_scale_in_nonzero.fn (F := Ideal) x0 x1 x2 x3 = fun _ => 1#1) : x0 (ix1 0) ≠ (0 : EReal) := by
  have h0 := congrFun h (ix1 0)
  unfold Cert.Pre_scale_in_nonzero.fn at h0
  pointwise at h0
  intro hx
  simp [hx] at h0

/-- CLAIM: over the reals, where the scale is not zero, the kernel's codes and the reference's are equal. -/
theorem algebraic : algebraic_NormIdeal_RefNormIdeal_pre_scale_in_nonzero := by
  intro m g m' g' hpre hargs
  refine ⟨fun c => G m c, (θ_run defs _ _).mono (fun r h c => ⟨(h c).1.trans (final m c (scale_ne _ _ _ _ (hpre c))), (h c).2⟩) (Value.run_blocks m g), ?_⟩
  refine (θ_run RefNormIdeal.defs _ _).mono (fun r h c => ?_) (RefNormIdeal.Value.run m' g')
  obtain ⟨h0, h1⟩ := h c
  refine ⟨?_, h1⟩
  rw [h0, RefNormIdeal.Read.val_main_v23_eq, ref_eq]
  obtain ⟨a0, a1, a2, a3⟩ := hargs c
  show value _ _ _ _ = value _ _ _ _
  rw [← a0, ← a1, ← a2, ← a3]

end Cert.Proof.Norm

end
-- ==== Proof.XProj.lean ====
/-
  Hand-written, untrusted. `xproj`, the projection of the convolved codes and its quantisation into three groups of codes,
  against the reference `ref_xproj`: where the three scales are not zero all four results are equal, over the reals.
-/
module

public import proofs.«01_k».proof.Defs
public import proofs.«01_k».proof.Proof.Gen.XProjIdeal.Value
public import proofs.«01_k».proof.Proof.Gen.RefXProjIdeal.Run
public import proofs.«01_k».proof.Proof.Gen.RefXProjIdeal.Read
public import proofs.«01_k».proof.Proof.Gen.Pre_scales_proj_nonzero
public import Idealize.ShloMosaic.Lib.Pipeline.Value
public import Idealize.ShloMosaic.Lib.ValueIdx
public import Idealize.ShloMosaic.Lib.Tactic
public import Idealize.ShloMosaic.Lib.Pointwise
public import proofs.«01_k».proof.Proof.Util
public import proofs.«01_k».proof.Proof.Quant

@[expose] public section

set_option maxRecDepth 16384

noncomputable section

namespace Cert.Proof.XProj

open Cert.XProjIdeal Cert.XProjIdeal.Gen Idealize.ShloMosaic Idealize.ShloMosaic.TcCoe Idealize.SL.Sem
open Idealize.ShloMosaic.Pipeline (Dat)

/-- The projection at row `a` and column `b`: the product of the codes, times the codes' scale and the column's. -/
def proj (sc : Vec Ideal S8 .f32) (x : Vec Ideal S12288x5120 .i8) (w : Vec Ideal S5120x192 .i8) (sw : Vec Ideal S192 .f32) (a : Fin 12288) (b : Fin 192) : EReal :=
  (∑ k : Fin 5120, (((x (ix2 a k)).toInt : ℝ) : EReal) * (((w (ix2 k b)).toInt : ℝ) : EReal)) * sc (ix1 2) * sw (ix1 b)

/-- The codes of the `n` columns from `off` on, at the scale `k`. -/
def codes {n : Nat} (off : Nat) (h : off + n ≤ 192) (k : Fin 8) (sc : Vec Ideal S8 .f32) (x : Vec Ideal S12288x5120 .i8) (w : Vec Ideal S5120x192 .i8) (sw : Vec Ideal S192 .f32) :
    Vec Ideal ⟨2, ![12288, n]⟩ .i8 :=
  fun i => code (proj sc x w sw (i 0) ⟨off + (i 1).val, by have : (i 1 : Nat) < n := (i 1).isLt; omega⟩) (sc (ix1 k))

/-- What a point's run leaves in its output block of window 4: the payload of the input blocks and the scales. -/
theorem out_eq4 (c : Dev nD) (i : grid0.Coords) (arg1 : Memref sig .tc .smem S8 .f32) (harg1 : arg1.IsWhole) (arg2 : Memref sig .tc .vmem S512x5120 .i8) (harg2 : arg2.IsWhole) (arg3 : Memref sig .tc .vmem S5120x192 .i8) (harg3 : arg3.IsWhole) (arg4 : Memref sig .tc .vmem S1x192 .f32) (harg4 : arg4.IsWhole) (arg5 : Memref sig .tc .vmem S512x192 .f32) (harg5 : arg5.IsWhole) (arg6 : Memref sig .tc .vmem S512x160 .i8) (harg6 : arg6.IsWhole) (arg7 : Memref sig .tc .vmem S512x16 .i8) (harg7 : arg7.IsWhole) (arg8 : Memref sig .tc .vmem S512x16 .i8) (harg8 : arg8.IsWhole)
    (x0 : Vec Ideal S8 .f32) (x1 : Vec Ideal S512x5120 .i8) (x2 : Vec Ideal S5120x192 .i8) (x3 : Vec Ideal S1x192 .f32) :
    out0_A_4 c i arg1 harg1 arg2 harg2 arg3 harg3 arg4 harg4 arg5 harg5 arg6 harg6 arg7 harg7 arg8 harg8 x0 x1 x2 x3 = k0_pay3 x1 x2 (x0 (ix1 2)) x3 := by
  unfold out0_A_4
  rw [View.read_writes_eq_canon _ _ _ (cover0_A_4 c i arg1 harg1 arg2 harg2 arg3 harg3 arg4 harg4 arg5 harg5 arg6 harg6 arg7 harg7 arg8 harg8 x0 x1 x2 x3)]
  unfold kernelRun0_A
  dsimp only
  sl_unfold_words
  rw [View.canon_unit_zero (S := S512x192) hz]
  simp only [View.readAt_eq_ld, harg1.read_unread, harg2.read_unread, harg3.read_unread, harg4.read_unread, View.ld_unit_zero (S := S512x5120) hz, View.ld_unit_zero (S := S5120x192) hz, View.ld_unit_zero (S := S1x192) hz]
  rw [ld_scale x0 2 (by decide)]
  rfl

/-- What a point's run leaves in its output block of window 5: the payload of the input blocks and the scales. -/
theorem out_eq5 (c : Dev nD) (i : grid0.Coords) (arg1 : Memref sig .tc .smem S8 .f32) (harg1 : arg1.IsWhole) (arg2 : Memref sig .tc .vmem S512x5120 .i8) (harg2 : arg2.IsWhole) (arg3 : Memref sig .tc .vmem S5120x192 .i8) (harg3 : arg3.IsWhole) (arg4 : Memref sig .tc .vmem S1x192 .f32) (harg4 : arg4.IsWhole) (arg5 : Memref sig .tc .vmem S512x192 .f32) (harg5 : arg5.IsWhole) (arg6 : Memref sig .tc .vmem S512x160 .i8) (harg6 : arg6.IsWhole) (arg7 : Memref sig .tc .vmem S512x16 .i8) (harg7 : arg7.IsWhole) (arg8 : Memref sig .tc .vmem S512x16 .i8) (harg8 : arg8.IsWhole)
    (x0 : Vec Ideal S8 .f32) (x1 : Vec Ideal S512x5120 .i8) (x2 : Vec Ideal S5120x192 .i8) (x3 : Vec Ideal S1x192 .f32) :
    out0_A_5 c i arg1 harg1 arg2 harg2 arg3 harg3 arg4 harg4 arg5 harg5 arg6 harg6 arg7 harg7 arg8 harg8 x0 x1 x2 x3 = k0_pay4 x1 x2 (x0 (ix1 2)) x3 (x0 (ix1 3)) := by
  unfold out0_A_5
  rw [View.read_writes_eq_canon _ _ _ (cover0_A_5 c i arg1 harg1 arg2 harg2 arg3 harg3 arg4 harg4 arg5 harg5 arg6 harg6 arg7 harg7 arg8 harg8 x0 x1 x2 x3)]
  unfold kernelRun0_A
  dsimp only
  sl_unfold_words
  rw [View.canon_unit_zero (S := S512x160) hz]
  simp only [View.readAt_eq_ld, harg1.read_unread, harg2.read_unread, harg3.read_unread, harg4.read_unread, View.ld_unit_zero (S := S512x5120) hz, View.ld_unit_zero (S := S5120x192) hz, View.ld_unit_zero (S := S1x192) hz]
  rw [ld_scale x0 2 (by decide), ld_scale x0 3 (by decide)]
  rfl

/-- What a point's run leaves in its output block of window 6: the payload of the input blocks and the scales. -/
theorem out_eq6 (c : Dev nD) (i : grid0.Coords) (arg1 : Memref sig .tc .smem S8 .f32) (harg1 : arg1.IsWhole) (arg2 : Memref sig .tc .vmem S512x5120 .i8) (harg2 : arg2.IsWhole) (arg3 : Memref sig .tc .vmem S5120x192 .i8) (harg3 : arg3.IsWhole) (arg4 : Memref sig .tc .vmem S1x192 .f32) (harg4 : arg4.IsWhole) (arg5 : Memref sig .tc .vmem S512x192 .f32) (harg5 : arg5.IsWhole) (arg6 : Memref sig .tc .vmem S512x160 .i8) (harg6 : arg6.IsWhole) (arg7 : Memref sig .tc .vmem S512x16 .i8) (harg7 : arg7.IsWhole) (arg8 : Memref sig .tc .vmem S512x16 .i8) (harg8 : arg8.IsWhole)
    (x0 : Vec Ideal S8 .f32) (x1 : Vec Ideal S512x5120 .i8) (x2 : Vec Ideal S5120x192 .i8) (x3 : Vec Ideal S1x192 .f32) :
    out0_A_6 c i arg1 harg1 arg2 harg2 arg3 harg3 arg4 harg4 arg5 harg5 arg6 harg6 arg7 harg7 arg8 harg8 x0 x1 x2 x3 = k0_pay1 (k0_pay5 x1 x2 (x0 (ix1 2)) x3 (x0 (ix1 4))) (Scalar.ofBits .f32 0xC2FE0000#32) (Scalar.ofBits .f32 0x42FE0000#32) := by
  unfold out0_A_6
  rw [View.read_writes_eq_canon _ _ _ (cover0_A_6 c i arg1 harg1 arg2 harg2 arg3 harg3 arg4 harg4 arg5 harg5 arg6 harg6 arg7 harg7 arg8 harg8 x0 x1 x2 x3)]
  unfold kernelRun0_A
  dsimp only
  sl_unfold_words
  rw [View.canon_unit_zero (S := S512x16) hz]
  simp only [View.readAt_eq_ld, harg1.read_unread, harg2.read_unread, harg3.read_unread, harg4.read_unread, View.ld_unit_zero (S := S512x5120) hz, View.ld_unit_zero (S := S5120x192) hz, View.ld_unit_zero (S := S1x192) hz]
  rw [ld_scale x0 2 (by decide), ld_scale x0 4 (by decide)]
  rfl

/-- What a point's run leaves in its output block of window 7: the payload of the input blocks and the scales. -/
theorem out_eq7 (c : Dev nD) (i : grid0.Coords) (arg1 : Memref sig .tc .smem S8 .f32) (harg1 : arg1.IsWhole) (arg2 : Memref sig .tc .vmem S512x5120 .i8) (harg2 : arg2.IsWhole) (arg3 : Memref sig .tc .vmem S5120x192 .i8) (harg3 : arg3.IsWhole) (arg4 : Memref sig .tc .vmem S1x192 .f32) (harg4 : arg4.IsWhole) (arg5 : Memref sig .tc .vmem S512x192 .f32) (harg5 : arg5.IsWhole) (arg6 : Memref sig .tc .vmem S512x160 .i8) (harg6 : arg6.IsWhole) (arg7 : Memref sig .tc .vmem S512x16 .i8) (harg7 : arg7.IsWhole) (arg8 : Memref sig .tc .vmem S512x16 .i8) (harg8 : arg8.IsWhole)
    (x0 : Vec Ideal S8 .f32) (x1 : Vec Ideal S512x5120 .i8) (x2 : Vec Ideal S5120x192 .i8) (x3 : Vec Ideal S1x192 .f32) :
    out0_A_7 c i arg1 harg1 arg2 harg2 arg3 harg3 arg4 harg4 arg5 harg5 arg6 harg6 arg7 harg7 arg8 harg8 x0 x1 x2 x3 = k0_pay2 (k0_pay3 x1 x2 (x0 (ix1 2)) x3) (x0 (ix1 5)) := by
  unfold out0_A_7
  rw [View.read_writes_eq_canon _ _ _ (cover0_A_7 c i arg1 harg1 arg2 harg2 arg3 harg3 arg4 harg4 arg5 harg5 arg6 harg6 arg7 harg7 arg8 harg8 x0 x1 x2 x3)]
  unfold kernelRun0_A
  dsimp only
  sl_unfold_words
  rw [View.canon_unit_zero (S := S512x16) hz]
  simp only [View.readAt_eq_ld, harg1.read_unread, harg2.read_unread, harg3.read_unread, harg4.read_unread, View.ld_unit_zero (S := S512x5120) hz, View.ld_unit_zero (S := S5120x192) hz, View.ld_unit_zero (S := S1x192) hz]
  rw [ld_scale x0 2 (by decide), ld_scale x0 5 (by decide)]
  rfl

/-- The projection of a block, at an index. -/
theorem pay3_apply (x1 : Vec Ideal S512x5120 .i8) (x2 : Vec Ideal S5120x192 .i8) (s : EReal) (x3 : Vec Ideal S1x192 .f32) (j : S512x192.Idx) :
    k0_pay3 x1 x2 s x3 j = (∑ k : Fin 5120, (((x1 (ix2 (j 0) k)).toInt : ℝ) : EReal) * (((x2 (ix2 k (j 1))).toInt : ℝ) : EReal)) * s * x3 (ix2 0 (j 1)) := by
  unfold k0_pay3
  pointwise
  rfl

/-- The first group of codes of a block, at an index. -/
theorem pay4_apply (x1 : Vec Ideal S512x5120 .i8) (x2 : Vec Ideal S5120x192 .i8) (s : EReal) (x3 : Vec Ideal S1x192 .f32) {q : EReal} (hq : q ≠ 0) (j : S512x160.Idx) :
    k0_pay4 x1 x2 s x3 q j = code (k0_pay3 x1 x2 s x3 (ix2 (j 0) ⟨0 + (j 1).val, by have : (j 1 : Nat) < 160 := (j 1).isLt; omega⟩)) q := by
  unfold k0_pay4
  generalize k0_pay3 x1 x2 s x3 = y
  pointwise
  rw [← ofBits_one]
  exact kernel_code _ hq

/-- The second group of codes of a block, at an index. -/
theorem pay51_apply (x1 : Vec Ideal S512x5120 .i8) (x2 : Vec Ideal S5120x192 .i8) (s : EReal) (x3 : Vec Ideal S1x192 .f32) {q : EReal} (hq : q ≠ 0) (j : S512x16.Idx) :
    k0_pay1 (k0_pay5 x1 x2 s x3 q) (Scalar.ofBits .f32 0xC2FE0000#32) (Scalar.ofBits .f32 0x42FE0000#32) j = code (k0_pay3 x1 x2 s x3 (ix2 (j 0) ⟨160 + (j 1).val, by have : (j 1 : Nat) < 16 := (j 1).isLt; omega⟩)) q := by
  unfold k0_pay1 k0_pay5
  generalize k0_pay3 x1 x2 s x3 = y
  pointwise
  rw [← ofBits_one]
  exact kernel_code _ hq

/-- The third group of codes of a block, at an index. -/
theorem pay2_apply (y : Vec Ideal S512x192 .f32) {q : EReal} (hq : q ≠ 0) (j : S512x16.Idx) :
    k0_pay2 (F := Ideal) y q j = code (y (ix2 (j 0) ⟨176 + (j 1).val, by have : (j 1 : Nat) < 16 := (j 1).isLt; omega⟩)) q := by
  unfold k0_pay2
  pointwise
  rw [← ofBits_one]
  exact kernel_code _ hq

/-- The windows' block indices at each point: the codes' and the results' move down the rows with the point. -/
theorem idx_facts : ∀ t : Fin cfg0.N, win0_0.index t 0 = 0 ∧ win0_1.index t 0 = t.val ∧ win0_1.index t 1 = 0 ∧ win0_2.index t 0 = 0 ∧ win0_2.index t 1 = 0 ∧ win0_3.index t 0 = 0 ∧ win0_3.index t 1 = 0
    ∧ win0_4.index t 0 = t.val ∧ win0_4.index t 1 = 0 ∧ win0_5.index t 0 = t.val ∧ win0_5.index t 1 = 0
    ∧ win0_6.index t 0 = t.val ∧ win0_6.index t 1 = 0 ∧ win0_7.index t 0 = t.val ∧ win0_7.index t 1 = 0 :=
  (by decide +kernel : ∀ t : Fin grid0.N, win0_0.index t 0 = 0 ∧ win0_1.index t 0 = t.val ∧ win0_1.index t 1 = 0 ∧ win0_2.index t 0 = 0 ∧ win0_2.index t 1 = 0 ∧ win0_3.index t 0 = 0 ∧ win0_3.index t 1 = 0
    ∧ win0_4.index t 0 = t.val ∧ win0_4.index t 1 = 0 ∧ win0_5.index t 0 = t.val ∧ win0_5.index t 1 = 0
    ∧ win0_6.index t 0 = t.val ∧ win0_6.index t 1 = 0 ∧ win0_7.index t 0 = t.val ∧ win0_7.index t 1 = 0)

/-- Row `a` of a point's block is a row of the arrays. -/
theorem row_lt (t : Fin cfg0.N) {a : Nat} (ha : a < 512) : t.val * 512 + a < 12288 := by
  have : t.val < 24 := t.isLt
  omega

variable (m : (ℓ : Loc nD τ sig) → Buf (Elt Ideal) ℓ) (ρ : Dev nD → PrngReg)

/-- The scales, as launched. -/
abbrev sc (c : Dev nD) : Vec Ideal S8 .f32 := m ((c : Thread nD τ).loc main_arg0)

/-- The projection as a function of the arguments as launched. -/
abbrev G (c : Dev nD) (a : Fin 12288) (b : Fin 192) : EReal :=
  proj (sc m c) (m ((c : Thread nD τ).loc main_arg1)) (m ((c : Thread nD τ).loc main_arg2)) (m ((c : Thread nD τ).loc main_arg3)) a b

/-- A group of codes as a function of the arguments as launched. -/
abbrev C (c : Dev nD) {n : Nat} (off : Nat) (h : off + n ≤ 192) (k : Fin 8) : Vec Ideal ⟨2, ![12288, n]⟩ .i8 :=
  codes off h k (sc m c) (m ((c : Thread nD τ).loc main_arg1)) (m ((c : Thread nD τ).loc main_arg2)) (m ((c : Thread nD τ).loc main_arg3))

/-- The columns' scales the kernel reads are the argument's, as one row. -/
theorem V_sw (c : Dev nD) (j : S1x192.Idx) : V m c main_v0 j = m ((c : Thread nD τ).loc main_arg3) (ix1 (j 1)) := by
  entry_read
  pointwise

/-- A scale at a point is the scale as launched. -/
theorem sc_blk (c : Dev nD) (t : Fin cfg0.N) (k : Fin 8) : iblk m c 0 t (ix1 k) = sc m c (ix1 k) := by
  obtain ⟨e0, -⟩ := idx_facts t
  unfold iblk
  rw [View.read_apply]
  show m (c.tc.loc main_arg0) _ = m (c.tc.loc main_arg0) _
  congr 1
  funext a
  apply Fin.ext
  match a with
  | ⟨0, _⟩ => show win0_0.index t 0 * 8 + 1 * k.val = k.val; rw [e0]; omega

/-- The projection of a point's block is `G` at the block's rows. -/
theorem proj_blk (c : Dev nD) (t : Fin cfg0.N) (j : S512x192.Idx) :
    k0_pay3 (F := Ideal) (iblk m c 1 t) (iblk m c 2 t) (iblk m c 0 t (ix1 2)) (iblk m c 3 t) j = G m c ⟨t.val * 512 + (j 0).val, row_lt t (j 0).isLt⟩ (j 1) := by
  obtain ⟨e0, e1, e2, e3, e4, e5, e6, -⟩ := idx_facts t
  refine (pay3_apply _ _ _ _ j).trans ?_
  have hx : ∀ k : Fin 5120, iblk m c 1 t (ix2 (j 0) k) = (m ((c : Thread nD τ).loc main_arg1) : Vec Ideal S12288x5120 .i8) (ix2 ⟨t.val * 512 + (j 0).val, row_lt t (j 0).isLt⟩ k) := by
    intro k
    unfold iblk
    rw [View.read_apply]
    show m (c.tc.loc main_arg1) _ = m (c.tc.loc main_arg1) _
    congr 1
    funext b
    apply Fin.ext
    match b with
    | ⟨0, _⟩ => show win0_1.index t 0 * 512 + 1 * (j 0).val = t.val * 512 + (j 0).val; rw [e1]; omega
    | ⟨1, _⟩ => show win0_1.index t 1 * 5120 + 1 * k.val = k.val; rw [e2]; omega
  have hw : ∀ k : Fin 5120, iblk m c 2 t (ix2 k (j 1)) = (m ((c : Thread nD τ).loc main_arg2) : Vec Ideal S5120x192 .i8) (ix2 k (j 1)) := by
    intro k
    unfold iblk
    rw [View.read_apply]
    show m (c.tc.loc main_arg2) _ = m (c.tc.loc main_arg2) _
    congr 1
    funext b
    apply Fin.ext
    match b with
    | ⟨0, _⟩ => show win0_2.index t 0 * 5120 + 1 * k.val = k.val; rw [e3]; omega
    | ⟨1, _⟩ => show win0_2.index t 1 * 192 + 1 * (j 1).val = (j 1).val; rw [e4]; omega
  have hs : iblk m c 3 t (ix2 0 (j 1)) = (m ((c : Thread nD τ).loc main_arg3) : Vec Ideal S192 .f32) (ix1 (j 1)) := by
    unfold iblk
    rw [View.read_apply]
    refine (V_sw m c _).trans ?_
    show m (c.tc.loc main_arg3) _ = m (c.tc.loc main_arg3) _
    congr 1
    funext b
    apply Fin.ext
    match b with
    | ⟨0, _⟩ => show win0_3.index t 1 * 192 + 1 * (j 1).val = (j 1).val; rw [e6]; omega
  simp only [hx, hw, hs, sc_blk]
  rfl

/-- What a point writes back to window 4 is its block of the projection. -/
theorem flushed_eq4 (c : Dev nD) (t : Fin cfg0.N) :
    (dats m 0 c).flushed 4 t = ((cfg0.win 4).blk t).view.read (Elt Ideal) (fun i : S12288x192.Idx => G m c (i 0) (i 1)) := by
  rw [Value.flushed4_A, out_eq4]
  obtain ⟨-, -, -, -, -, -, -, e0, e1, -⟩ := idx_facts t
  funext (j : S512x192.Idx)
  show k0_pay3 (F := Ideal) (iblk m c 1 t) (iblk m c 2 t) (iblk m c 0 t (ix1 2)) (iblk m c 3 t) j = _
  have hj : ((View.whole main_v1_0).slice ((win0 4).rect t)).emb j = (ix2 ⟨t.val * 512 + (j 0).val, row_lt t (j 0).isLt⟩ (j 1) : S12288x192.Idx) := by
    funext b
    apply Fin.ext
    match b with
    | ⟨0, _⟩ => show win0_4.index t 0 * 512 + 1 * (j 0).val = t.val * 512 + (j 0).val; rw [e0]; omega
    | ⟨1, _⟩ => show win0_4.index t 1 * 192 + 1 * (j 1).val = (j 1).val; rw [e1]; omega
  rw [View.read_apply, proj_blk]
  show _ = (fun i : S12288x192.Idx => G m c (i 0) (i 1)) (((View.whole main_v1_0).slice ((win0 4).rect t)).emb j)
  rw [hj]
  rfl

/-- The blocks of window 4 cover its result. -/
theorem final4 (c : Dev nD) : (dats m 0 c).arrAt 4 cfg0.N = (fun i : S12288x192.Idx => G m c (i 0) (i 1)) :=
  (dats m 0 c).arrAt_eq_of_cover 4 (fun i : S12288x192.Idx => G m c (i 0) (i 1)) (fun t _ => flushed_eq4 m c t) fun (i : S12288x192.Idx) => by
    have h0 : (i 0 : Nat) < 12288 := (i 0).isLt
    have h1 : (i 1 : Nat) < 192 := (i 1).isLt
    have hN : cfg0.N = 24 := rfl
    let t : Fin cfg0.N := ⟨(i 0).val / 512, by omega⟩
    obtain ⟨-, -, -, -, -, -, -, e0, e1, -⟩ := idx_facts t
    have ht : t.val = (i 0).val / 512 := rfl
    refine ⟨t, flush0_4 t, ?_⟩
    show i ∈ ((View.whole main_v1_0).slice (win0_4.rect t)).set
    rw [View.set_slice_whole, Rect.mem_set_unit]
    intro a
    match a with
    | ⟨0, _⟩ => show win0_4.index t 0 * 512 ≤ (i 0 : Nat) ∧ (i 0 : Nat) < win0_4.index t 0 * 512 + 512; omega
    | ⟨1, _⟩ => show win0_4.index t 1 * 192 ≤ (i 1 : Nat) ∧ (i 1 : Nat) < win0_4.index t 1 * 192 + 192; omega

/-- What a point writes back to window 5 is its block of the codes at the scale 3. -/
theorem flushed_eq5 (c : Dev nD) (hs : sc m c (ix1 3) ≠ (0 : EReal)) (t : Fin cfg0.N) :
    (dats m 0 c).flushed 5 t = ((cfg0.win 5).blk t).view.read (Elt Ideal) (C m c (n := 160) 0 (by decide) 3) := by
  rw [Value.flushed5_A, out_eq5]
  obtain ⟨-, -, -, -, -, -, -, -, -, e0, e1, -⟩ := idx_facts t
  funext (j : S512x160.Idx)
  show k0_pay4 (F := Ideal) (iblk m c 1 t) (iblk m c 2 t) (iblk m c 0 t (ix1 2)) (iblk m c 3 t) (iblk m c 0 t (ix1 3)) j = _
  have hj : ((View.whole main_v1_1).slice ((win0 5).rect t)).emb j = (ix2 ⟨t.val * 512 + (j 0).val, row_lt t (j 0).isLt⟩ (j 1) : S12288x160.Idx) := by
    funext b
    apply Fin.ext
    match b with
    | ⟨0, _⟩ => show win0_5.index t 0 * 512 + 1 * (j 0).val = t.val * 512 + (j 0).val; rw [e0]; omega
    | ⟨1, _⟩ => show win0_5.index t 1 * 160 + 1 * (j 1).val = (j 1).val; rw [e1]; omega
  rw [sc_blk m c t 3]
  refine (pay4_apply _ _ _ _ hs j).trans ?_
  rw [View.read_apply, proj_blk]
  show _ = C m c (n := 160) 0 (by decide) 3 (((View.whole main_v1_1).slice ((win0 5).rect t)).emb j)
  rw [hj]
  rfl

/-- The blocks of window 5 cover its result. -/
theorem final5 (c : Dev nD) (hs : sc m c (ix1 3) ≠ (0 : EReal)) : (dats m 0 c).arrAt 5 cfg0.N = (C m c (n := 160) 0 (by decide) 3) :=
  (dats m 0 c).arrAt_eq_of_cover 5 (C m c (n := 160) 0 (by decide) 3) (fun t _ => flushed_eq5 m c hs t) fun (i : S12288x160.Idx) => by
    have h0 : (i 0 : Nat) < 12288 := (i 0).isLt
    have h1 : (i 1 : Nat) < 160 := (i 1).isLt
    have hN : cfg0.N = 24 := rfl
    let t : Fin cfg0.N := ⟨(i 0).val / 512, by omega⟩
    obtain ⟨-, -, -, -, -, -, -, -, -, e0, e1, -⟩ := idx_facts t
    have ht : t.val = (i 0).val / 512 := rfl
    refine ⟨t, flush0_5 t, ?_⟩
    show i ∈ ((View.whole main_v1_1).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512; omega
    | ⟨1, _⟩ => show win0_5.index t 1 * 160 ≤ (i 1 : Nat) ∧ (i 1 : Nat) < win0_5.index t 1 * 160 + 160; omega

/-- What a point writes back to window 6 is its block of the codes at the scale 4. -/
theorem flushed_eq6 (c : Dev nD) (hs : sc m c (ix1 4) ≠ (0 : EReal)) (t : Fin cfg0.N) :
    (dats m 0 c).flushed 6 t = ((cfg0.win 6).blk t).view.read (Elt Ideal) (C m c (n := 16) 160 (by decide) 4) := by
  rw [Value.flushed6_A, out_eq6]
  obtain ⟨-, -, -, -, -, -, -, -, -, -, -, e0, e1, -⟩ := idx_facts t
  funext (j : S512x16.Idx)
  show k0_pay1 (k0_pay5 (F := Ideal) (iblk m c 1 t) (iblk m c 2 t) (iblk m c 0 t (ix1 2)) (iblk m c 3 t) (iblk m c 0 t (ix1 4))) (Scalar.ofBits .f32 0xC2FE0000#32) (Scalar.ofBits .f32 0x42FE0000#32) j = _
  have hj : ((View.whole main_v1_2).slice ((win0 6).rect t)).emb j = (ix2 ⟨t.val * 512 + (j 0).val, row_lt t (j 0).isLt⟩ (j 1) : S12288x16.Idx) := by
    funext b
    apply Fin.ext
    match b with
    | ⟨0, _⟩ => show win0_6.index t 0 * 512 + 1 * (j 0).val = t.val * 512 + (j 0).val; rw [e0]; omega
    | ⟨1, _⟩ => show win0_6.index t 1 * 16 + 1 * (j 1).val = (j 1).val; rw [e1]; omega
  rw [sc_blk m c t 4]
  refine (pay51_apply _ _ _ _ hs j).trans ?_
  rw [View.read_apply, proj_blk]
  show _ = C m c (n := 16) 160 (by decide) 4 (((View.whole main_v1_2).slice ((win0 6).rect t)).emb j)
  rw [hj]
  rfl

/-- The blocks of window 6 cover its result. -/
theorem final6 (c : Dev nD) (hs : sc m c (ix1 4) ≠ (0 : EReal)) : (dats m 0 c).arrAt 6 cfg0.N = (C m c (n := 16) 160 (by decide) 4) :=
  (dats m 0 c).arrAt_eq_of_cover 6 (C m c (n := 16) 160 (by decide) 4) (fun t _ => flushed_eq6 m c hs t) fun (i : S12288x16.Idx) => by
    have h0 : (i 0 : Nat) < 12288 := (i 0).isLt
    have h1 : (i 1 : Nat) < 16 := (i 1).isLt
    have hN : cfg0.N = 24 := rfl
    let t : Fin cfg0.N := ⟨(i 0).val / 512, by omega⟩
    obtain ⟨-, -, -, -, -, -, -, -, -, -, -, e0, e1, -⟩ := idx_facts t
    have ht : t.val = (i 0).val / 512 := rfl
    refine ⟨t, flush0_6 t, ?_⟩
    show i ∈ ((View.whole main_v1_2).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512; omega
    | ⟨1, _⟩ => show win0_6.index t 1 * 16 ≤ (i 1 : Nat) ∧ (i 1 : Nat) < win0_6.index t 1 * 16 + 16; omega

/-- What a point writes back to window 7 is its block of the codes at the scale 5. -/
theorem flushed_eq7 (c : Dev nD) (hs : sc m c (ix1 5) ≠ (0 : EReal)) (t : Fin cfg0.N) :
    (dats m 0 c).flushed 7 t = ((cfg0.win 7).blk t).view.read (Elt Ideal) (C m c (n := 16) 176 (by decide) 5) := by
  rw [Value.flushed7_A, out_eq7]
  obtain ⟨-, -, -, -, -, -, -, -, -, -, -, -, -, e0, e1⟩ := idx_facts t
  funext (j : S512x16.Idx)
  show k0_pay2 (k0_pay3 (F := Ideal) (iblk m c 1 t) (iblk m c 2 t) (iblk m c 0 t (ix1 2)) (iblk m c 3 t)) (iblk m c 0 t (ix1 5)) j = _
  have hj : ((View.whole main_v1_3).slice ((win0 7).rect t)).emb j = (ix2 ⟨t.val * 512 + (j 0).val, row_lt t (j 0).isLt⟩ (j 1) : S12288x16.Idx) := by
    funext b
    apply Fin.ext
    match b with
    | ⟨0, _⟩ => show win0_7.index t 0 * 512 + 1 * (j 0).val = t.val * 512 + (j 0).val; rw [e0]; omega
    | ⟨1, _⟩ => show win0_7.index t 1 * 16 + 1 * (j 1).val = (j 1).val; rw [e1]; omega
  rw [sc_blk m c t 5]
  refine (pay2_apply _ hs j).trans ?_
  rw [View.read_apply, proj_blk]
  show _ = C m c (n := 16) 176 (by decide) 5 (((View.whole main_v1_3).slice ((win0 7).rect t)).emb j)
  rw [hj]
  rfl

/-- The blocks of window 7 cover its result. -/
theorem final7 (c : Dev nD) (hs : sc m c (ix1 5) ≠ (0 : EReal)) : (dats m 0 c).arrAt 7 cfg0.N = (C m c (n := 16) 176 (by decide) 5) :=
  (dats m 0 c).arrAt_eq_of_cover 7 (C m c (n := 16) 176 (by decide) 5) (fun t _ => flushed_eq7 m c hs t) fun (i : S12288x16.Idx) => by
    have h0 : (i 0 : Nat) < 12288 := (i 0).isLt
    have h1 : (i 1 : Nat) < 16 := (i 1).isLt
    have hN : cfg0.N = 24 := rfl
    let t : Fin cfg0.N := ⟨(i 0).val / 512, by omega⟩
    obtain ⟨-, -, -, -, -, -, -, -, -, -, -, -, -, e0, e1⟩ := idx_facts t
    have ht : t.val = (i 0).val / 512 := rfl
    refine ⟨t, flush0_7 t, ?_⟩
    show i ∈ ((View.whole main_v1_3).slice (win0_7.rect t)).set
    rw [View.set_slice_whole, Rect.mem_set_unit]
    intro a
    match a with
    | ⟨0, _⟩ => show win0_7.index t 0 * 512 ≤ (i 0 : Nat) ∧ (i 0 : Nat) < win0_7.index t 0 * 512 + 512; omega
    | ⟨1, _⟩ => show win0_7.index t 1 * 16 ≤ (i 1 : Nat) ∧ (i 1 : Nat) < win0_7.index t 1 * 16 + 16; omega

section Reference

open Cert.RefXProjIdeal.Read

/-- The reference's first result is the projection. -/
theorem ref_proj (x0 : Vec Ideal S8 .f32) (x1 : Vec Ideal S12288x5120 .i8) (x2 : Vec Ideal S5120x192 .i8) (x3 : Vec Ideal S192 .f32) (i : S12288x192.Idx) :
    val_main_v13 (F := Ideal) x0 x1 x2 x3 i = proj x0 x1 x2 x3 (i 0) (i 1) := by
  have hsc : val_main_v9 (F := Ideal) x0 i = x0 (ix1 2) := by
    rw [val_main_v9_apply]
    unfold val_main_v8
    rw [shapeCast_one rfl rfl _ _ _ (ix1 0), val_main_v7_apply]
    congr 1
    funext a
    match a with
    | ⟨0, _⟩ => rfl
  have hw : val_main_v12 (F := Ideal) x3 i = x3 (ix1 (i 1)) := by
    rw [val_main_v12_apply, val_main_v11_apply]
    congr 1
    funext a
    match a with
    | ⟨0, _⟩ => rfl
  have hx : ∀ k : Fin 5120, val_main_v2 (F := Ideal) x1 (lidx_main_v6 i k) = (((x1 (ix2 (i 0) k)).toInt : ℝ) : EReal) := by
    intro k
    have e : lidx_main_v6 i k = (ix2 (i 0) k : S12288x5120.Idx) := by
      funext a
      match a with
      | ⟨0, _⟩ => rfl
      | ⟨1, _⟩ => rfl
    rw [val_main_v2_apply, val_main_v1_apply, val_main_v0_apply, e]
    show ((((x1 (ix2 (i 0) k)).signExtend 32).toInt : ℝ) : EReal) = _
    rw [toInt_widen]
  have hy : ∀ k : Fin 5120, val_main_v5 (F := Ideal) x2 (ridx_main_v6 i k) = (((x2 (ix2 k (i 1))).toInt : ℝ) : EReal) := by
    intro k
    have e : ridx_main_v6 i k = (ix2 k (i 1) : S5120x192.Idx) := by
      funext a
      match a with
      | ⟨0, _⟩ => rfl
      | ⟨1, _⟩ => rfl
    rw [val_main_v5_apply, val_main_v4_apply, val_main_v3_apply, e]
    show ((((x2 (ix2 k (i 1))).signExtend 32).toInt : ℝ) : EReal) = _
    rw [toInt_widen]
  rw [val_main_v13_apply, val_main_v10_apply, hsc, hw, val_main_v6_apply]
  simp only [hx, hy]
  rfl

/-- The reference's first group of codes. -/
theorem ref_codes3 (x0 : Vec Ideal S8 .f32) (x1 : Vec Ideal S12288x5120 .i8) (x2 : Vec Ideal S5120x192 .i8) (x3 : Vec Ideal S192 .f32) :
    val_main_v22 (F := Ideal) x0 x1 x2 x3 = codes (n := 160) 0 (by decide) 3 x0 x1 x2 x3 := by
  funext i
  have hsc : val_main_v17 (F := Ideal) x0 i = x0 (ix1 3) := by
    rw [val_main_v17_apply]
    unfold val_main_v16
    rw [shapeCast_one rfl rfl _ _ _ (ix1 0), val_main_v15_apply]
    congr 1
    funext a
    match a with
    | ⟨0, _⟩ => rfl
  rw [val_main_v22_apply, val_main_v21_apply, val_main_v20_apply, val_main_call1_v2_apply, val_main_v19_apply, val_main_v18_apply, hsc, val_main_v14_apply, ref_proj, val_main_call1_v4_apply, val_main_call1_v1_apply]
  refine (ref_code _ _).trans ?_
  unfold codes
  congr 2
  apply Fin.ext
  show (i 1).val = 0 + (i 1).val
  omega

/-- The reference's second group of codes. -/
theorem ref_codes4 (x0 : Vec Ideal S8 .f32) (x1 : Vec Ideal S12288x5120 .i8) (x2 : Vec Ideal S5120x192 .i8) (x3 : Vec Ideal S192 .f32) :
    val_main_v31 (F := Ideal) x0 x1 x2 x3 = codes (n := 16) 160 (by decide) 4 x0 x1 x2 x3 := by
  funext i
  have hsc : val_main_v26 (F := Ideal) x0 i = x0 (ix1 4) := by
    rw [val_main_v26_apply]
    unfold val_main_v25
    rw [shapeCast_one rfl rfl _ _ _ (ix1 0), val_main_v24_apply]
    congr 1
    funext a
    match a with
    | ⟨0, _⟩ => rfl
  rw [val_main_v31_apply, val_main_v30_apply, val_main_v29_apply, val_main_call3_v2_apply, val_main_v28_apply, val_main_v27_apply, hsc, val_main_v23_apply, ref_proj, val_main_call3_v4_apply, val_main_call3_v1_apply]
  refine (ref_code _ _).trans ?_
  unfold codes
  congr 2

/-- The reference's third group of codes. -/
theorem ref_codes5 (x0 : Vec Ideal S8 .f32) (x1 : Vec Ideal S12288x5120 .i8) (x2 : Vec Ideal S5120x192 .i8) (x3 : Vec Ideal S192 .f32) :
    val_main_v40 (F := Ideal) x0 x1 x2 x3 = codes (n := 16) 176 (by decide) 5 x0 x1 x2 x3 := by
  funext i
  have hsc : val_main_v35 (F := Ideal) x0 i = x0 (ix1 5) := by
    rw [val_main_v35_apply]
    unfold val_main_v34
    rw [shapeCast_one rfl rfl _ _ _ (ix1 0), val_main_v33_apply]
    congr 1
    funext a
    match a with
    | ⟨0, _⟩ => rfl
  rw [val_main_v40_apply, val_main_v39_apply, val_main_v38_apply, val_main_call5_v2_apply, val_main_v37_apply, val_main_v36_apply, hsc, val_main_v32_apply, ref_proj, val_main_call5_v4_apply, val_main_call5_v1_apply]
  refine (ref_code _ _).trans ?_
  unfold codes
  congr 2

end Reference

/-- The precondition says that the three scales are not zero. -/
theorem scales_ne (x0 : Vec Ideal S8 .f32) (x1 : Vec Ideal S12288x5120 .i8) (x2 : Vec Ideal S5120x192 .i8) (x3 : Vec Ideal S192 .f32)
    (h : Cert.Pre_scales_proj_nonzero.fn (F := Ideal) x0 x1 x2 x3 = fun _ => 1#1) :
    x0 (ix1 3) ≠ (0 : EReal) ∧ x0 (ix1 4) ≠ (0 : EReal) ∧ x0 (ix1 5) ≠ (0 : EReal) := by
  have key : ∀ k : Fin 3, x0 (ix1 ⟨3 + k.val, by omega⟩) ≠ (0 : EReal) := by
    intro k
    have h0 := congrFun h (ix1 k)
    unfold Cert.Pre_scales_proj_nonzero.fn at h0
    pointwise at h0
    intro hx
    simp [hx] at h0
  exact ⟨key 0, key 1, key 2⟩

/-- CLAIM: over the reals, where the three scales are not zero, the projection and its three groups of codes are the reference's. -/
theorem algebraic : algebraic_XProjIdeal_RefXProjIdeal_pre_scales_proj_nonzero := by
  intro m g m' g' hpre hargs
  have hne := fun c => scales_ne _ _ _ _ (hpre c)
  refine ⟨fun c => fun i : S12288x192.Idx => G m c (i 0) (i 1), fun c => C m c (n := 160) 0 (by decide) 3, fun c => C m c (n := 16) 160 (by decide) 4, fun c => C m c (n := 16) 176 (by decide) 5,
    (θ_run defs _ _).mono (fun r h c => ⟨(h c).1.trans (final4 m c), (h c).2.1.trans (final5 m c (hne c).1), (h c).2.2.1.trans (final6 m c (hne c).2.1), (h c).2.2.2.1.trans (final7 m c (hne c).2.2), (h c).2.2.2.2⟩) (Value.run_blocks m g), ?_⟩
  refine (θ_run RefXProjIdeal.defs _ _).mono (fun r h c => ?_) (RefXProjIdeal.Value.run m' g')
  obtain ⟨h0, h1, h2, h3, h4⟩ := h c
  obtain ⟨a0, a1, a2, a3⟩ := hargs c
  refine ⟨?_, ?_, ?_, ?_, h4⟩
  · rw [h0, RefXProjIdeal.Read.val_main_v13_eq]
    funext i
    refine (ref_proj _ _ _ _ i).trans ?_
    show proj _ _ _ _ _ _ = proj _ _ _ _ _ _
    rw [a0, a1, a2, a3]
  · rw [h1, RefXProjIdeal.Read.val_main_v22_eq, ref_codes3]
    show codes _ _ _ _ _ _ _ = codes _ _ _ _ _ _ _
    rw [a0, a1, a2, a3]
  · rw [h2, RefXProjIdeal.Read.val_main_v31_eq, ref_codes4]
    show codes _ _ _ _ _ _ _ = codes _ _ _ _ _ _ _
    rw [a0, a1, a2, a3]
  · rw [h3, RefXProjIdeal.Read.val_main_v40_eq, ref_codes5]
    show codes _ _ _ _ _ _ _ = codes _ _ _ _ _ _ _
    rw [a0, a1, a2, a3]

end Cert.Proof.XProj

end
-- ==== Proof.InXSend.lean ====
/-
  Hand-written, untrusted. What the transfer of a point of `in_x` leaves in the array of the scaled convolution.
-/
module

public import proofs.«01_k».proof.Proof.Gen.InXIdeal.Frame

@[expose] public section

set_option maxRecDepth 16384

noncomputable section

namespace Cert.Proof.InX

open Cert.InXIdeal Cert.InXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The array of the scaled convolution after a point with the block `v`: each of the first five columns of blocks has its own
    transfer, and the other columns have none. -/
def sent (c : Dev nD) (i : grid0.Coords) (v : Vec F S512x256 .f32) (f : Buf (Elt F) ((c : Thread nD τ).loc main_v2_2)) : Buf (Elt F) ((c : Thread nD τ).loc main_v2_2) :=
  if h : cond0_1 i then ((Memref.whole main_v2_2).slice (Rect.unit (s := S12288x1280) (k0_off1 i) S512x256.size (k0_off1_inb i h)) (fun _ => rfl)).view.write (Elt F) f v Finset.univ
  else if h : cond0_2 i then ((Memref.whole main_v2_2).slice (Rect.unit (s := S12288x1280) (k0_off2 i) S512x256.size (k0_off2_inb i h)) (fun _ => rfl)).view.write (Elt F) f v Finset.univ
  else if h : cond0_3 i then ((Memref.whole main_v2_2).slice (Rect.unit (s := S12288x1280) (k0_off3 i) S512x256.size (k0_off3_inb i h)) (fun _ => rfl)).view.write (Elt F) f v Finset.univ
  else if h : cond0_4 i then ((Memref.whole main_v2_2).slice (Rect.unit (s := S12288x1280) (k0_off4 i) S512x256.size (k0_off4_inb i h)) (fun _ => rfl)).view.write (Elt F) f v Finset.univ
  else if h : cond0_5 i then ((Memref.whole main_v2_2).slice (Rect.unit (s := S12288x1280) (k0_off5 i) S512x256.size (k0_off5_inb i h)) (fun _ => rfl)).view.write (Elt F) f v Finset.univ
  else f

/-- Reading a block back after it was stored. -/
theorem read_stored (arg12 : Memref sig .tc .vmem S512x256 .f32) (r : Rect S512x256) (h) (fs : arg12.view.ty.Contents (Elt F)) (v : r.shape.Idx → Elt F .f32) :
    (arg12.slice r h).view.read (Elt F) (arg12.view.writes (Elt F) fs [⟨r, v⟩]) = v :=
  View.read_write_univ _ _

/-- The transfer of a point in the first column of blocks. -/
theorem sent_1 (c : Dev nD) (i : grid0.Coords) (v : Vec F S512x256 .f32) (f) (h : cond0_1 i) :
    sent c i v f = ((Memref.whole main_v2_2).slice (Rect.unit (s := S12288x1280) (k0_off1 i) S512x256.size (k0_off1_inb i h)) (fun _ => rfl)).view.write (Elt F) f v Finset.univ := by
  unfold sent; rw [dif_pos h]

/-- The transfer of a point in the second column of blocks. -/
theorem sent_2 (c : Dev nD) (i : grid0.Coords) (v : Vec F S512x256 .f32) (f) (h1 : ¬cond0_1 i) (h : cond0_2 i) :
    sent c i v f = ((Memref.whole main_v2_2).slice (Rect.unit (s := S12288x1280) (k0_off2 i) S512x256.size (k0_off2_inb i h)) (fun _ => rfl)).view.write (Elt F) f v Finset.univ := by
  unfold sent; rw [dif_neg h1, dif_pos h]

/-- The transfer of a point in the third column of blocks. -/
theorem sent_3 (c : Dev nD) (i : grid0.Coords) (v : Vec F S512x256 .f32) (f) (h1 : ¬cond0_1 i) (h2 : ¬cond0_2 i) (h : cond0_3 i) :
    sent c i v f = ((Memref.whole main_v2_2).slice (Rect.unit (s := S12288x1280) (k0_off3 i) S512x256.size (k0_off3_inb i h)) (fun _ => rfl)).view.write (Elt F) f v Finset.univ := by
  unfold sent; rw [dif_neg h1, dif_neg h2, dif_pos h]

/-- The transfer of a point in the fourth column of blocks. -/
theorem sent_4 (c : Dev nD) (i : grid0.Coords) (v : Vec F S512x256 .f32) (f) (h1 : ¬cond0_1 i) (h2 : ¬cond0_2 i) (h3 : ¬cond0_3 i) (h : cond0_4 i) :
    sent c i v f = ((Memref.whole main_v2_2).slice (Rect.unit (s := S12288x1280) (k0_off4 i) S512x256.size (k0_off4_inb i h)) (fun _ => rfl)).view.write (Elt F) f v Finset.univ := by
  unfold sent; rw [dif_neg h1, dif_neg h2, dif_neg h3, dif_pos h]

/-- The transfer of a point in the fifth column of blocks. -/
theorem sent_5 (c : Dev nD) (i : grid0.Coords) (v : Vec F S512x256 .f32) (f) (h1 : ¬cond0_1 i) (h2 : ¬cond0_2 i) (h3 : ¬cond0_3 i) (h4 : ¬cond0_4 i) (h : cond0_5 i) :
    sent c i v f = ((Memref.whole main_v2_2).slice (Rect.unit (s := S12288x1280) (k0_off5 i) S512x256.size (k0_off5_inb i h)) (fun _ => rfl)).view.write (Elt F) f v Finset.univ := by
  unfold sent; rw [dif_neg h1, dif_neg h2, dif_neg h3, dif_neg h4, dif_pos h]

/-- A point in another column of blocks transfers nothing. -/
theorem sent_none (c : Dev nD) (i : grid0.Coords) (v : Vec F S512x256 .f32) (f) (h1 : ¬cond0_1 i) (h2 : ¬cond0_2 i) (h3 : ¬cond0_3 i) (h4 : ¬cond0_4 i) (h5 : ¬cond0_5 i) :
    sent c i v f = f := by
  unfold sent; rw [dif_neg h1, dif_neg h2, dif_neg h3, dif_neg h4, dif_neg h5]

end Cert.Proof.InX

end
-- ==== Proof.InXFirst.lean ====
/-
  Hand-written, untrusted. One run of the body of `in_x` at the start of a sequence, with what it leaves in every buffer it writes.
-/
module

public import proofs.«01_k».proof.Proof.InXSend

@[expose] public section

set_option maxRecDepth 16384

noncomputable section

namespace Cert.Proof.InX

open Cert.InXIdeal Cert.InXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- The body at the start of a sequence: on whole staging buffers, from an array of the scaled convolution that holds `fw0`, it leaves its pieces in
    the two blocks of codes (`L6`, `L7`) and in the rows it carries (`LS0`, with its first rows set to zeros), and in the array what `sent` says for the
    block `v`. -/
def runFirst (c : Dev nD) (i : grid0.Coords) (arg2 : Memref sig .tc .smem S8 .f32) (harg2 : arg2.IsWhole) (arg3 : Memref sig .tc .vmem S512x2560 .i8) (harg3 : arg3.IsWhole) (arg4 : Memref sig .tc .vmem S2560x256 .bf16) (harg4 : arg4.IsWhole) (arg5 : Memref sig .tc .vmem S4x256 .i8) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .i8) (harg8 : arg8.IsWhole) (arg9 : Memref sig .tc .vmem S512x256 .i8) (harg9 : arg9.IsWhole) (arg11 : Memref sig .tc .vmem S520x256 .f32) (harg11 : arg11.IsWhole) (arg12 : Memref sig .tc .vmem S512x256 .f32) (harg12 : arg12.IsWhole) (hc0 : cond0_0 i)
    (hc : (cond0_1 i ∧ ¬cond0_2 i ∧ ¬cond0_3 i ∧ ¬cond0_4 i ∧ ¬cond0_5 i) ∨ (¬cond0_1 i ∧ cond0_2 i ∧ ¬cond0_3 i ∧ ¬cond0_4 i ∧ ¬cond0_5 i) ∨ (¬cond0_1 i ∧ ¬cond0_2 i ∧ cond0_3 i ∧ ¬cond0_4 i ∧ ¬cond0_5 i)
      ∨ (¬cond0_1 i ∧ ¬cond0_2 i ∧ ¬cond0_3 i ∧ cond0_4 i ∧ ¬cond0_5 i) ∨ (¬cond0_1 i ∧ ¬cond0_2 i ∧ ¬cond0_3 i ∧ ¬cond0_4 i ∧ cond0_5 i) ∨ (¬cond0_1 i ∧ ¬cond0_2 i ∧ ¬cond0_3 i ∧ ¬cond0_4 i ∧ ¬cond0_5 i))
    (x0 : Vec F S8 .f32) (x1 : Vec F S512x2560 .i8) (x2 : Vec F S2560x256 .bf16) (x3 : Vec F S4x256 .i8) (x4 : Vec F S1x256 .f32) (x5 : Vec F S1x256 .f32) :
    Σ' (L6 : List (View.Piece (Elt F) S512x256 .i8)), Σ' (L7 : List (View.Piece (Elt F) S512x256 .i8)), Σ' (LS0 : List (View.Piece (Elt F) S520x256 .f32)), { v : Vec F S512x256 .f32 //
      ∀ (fw0 : Buf (Elt F) ((c : Thread nD τ).loc main_v2_2)) (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg11 fullShare d) ∗ (∃ d, owns (c : Thread nD τ) arg12 fullShare d) ∗ semVal ((c : Thread nD τ), SemLoc.dma 15) 0 ∗ hbPt0 c hbM0_0 fw0 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg11.view.loc (c : Thread nD τ) ↦[arg11.view.set]{fullShare} arg11.view.writes (Elt F) f LS0) ∗ (∃ d, owns (c : Thread nD τ) arg12 fullShare d) ∗ semVal ((c : Thread nD τ), SemLoc.dma 15) 0 ∗ hbPt0 c hbM0_0 (sent c i v fw0) ∗ (∃ W', owes (c : Thread nD τ) 0 W')) -∗ K ⟨⟩))
          ⊢ wp frame (wpE (defs₀ (F := F)) Variants.none c none) Set.univ (cc0_in_x i arg2 harg2 arg3 harg3 arg4 harg4 arg5 harg5 arg6 harg6 arg7 harg7 arg8 harg8 arg9 harg9 (Memref.whole main_v2_2) (Memref.isWhole_whole _) arg11 harg11 arg12 harg12 cc0_scratch2) K } := by
  refine ⟨?_, ?_, ?_, ?_, fun fw0 W K => ?run⟩
  case run =>
    simp only [cc0_in_x_eq_skeleton]; unfold cc0_in_x_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, Hq0, Hh0, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    rcases hc with ⟨hc1, hc2, hc3, hc4, hc5⟩ | ⟨hc1, hc2, hc3, hc4, hc5⟩ | ⟨hc1, hc2, hc3, hc4, hc5⟩ | ⟨hc1, hc2, hc3, hc4, hc5⟩ | ⟨hc1, hc2, hc3, hc4, hc5⟩ | ⟨hc1, hc2, hc3, hc4, hc5⟩
    all_goals
      sl_exec (disch := first | sl_exact hc0 | sl_exact hc1 | sl_exact hc2 | sl_exact hc3 | sl_exact hc4 | sl_exact hc5)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; iexact H6
      isplitl [H7]
      · iexists _; iexact H7
      isplitl [HS0]
      · iexists _; iexact HS0
      isplitl [HS1]
      · iexists _; iexists _; isplitr
        swap; · iexact HS1
        ipureintro; rfl
      isplitl [Hq0]
      · iexact Hq0
      isplitl [Hh0]
      · first
          | (rw [sent_1 c i _ fw0  hc1]; sl_unfold_words; rw [read_stored]; iexact Hh0)
          | (rw [sent_2 c i _ fw0 hc1 hc2]; sl_unfold_words; rw [read_stored]; iexact Hh0)
          | (rw [sent_3 c i _ fw0 hc1 hc2 hc3]; sl_unfold_words; rw [read_stored]; iexact Hh0)
          | (rw [sent_4 c i _ fw0 hc1 hc2 hc3 hc4]; sl_unfold_words; rw [read_stored]; iexact Hh0)
          | (rw [sent_5 c i _ fw0 hc1 hc2 hc3 hc4 hc5]; sl_unfold_words; rw [read_stored]; iexact Hh0)
          | (rw [sent_none c i _ fw0 hc1 hc2 hc3 hc4 hc5]; iexact Hh0)
      iexists _; iexact HW

end Cert.Proof.InX

end
-- ==== Proof.InXNext.lean ====
/-
  Hand-written, untrusted. One run of the body of `in_x` at another point, with what it leaves in every buffer it writes.
-/
module

public import proofs.«01_k».proof.Proof.InXFirst

@[expose] public section

set_option maxRecDepth 16384

noncomputable section

namespace Cert.Proof.InX

open Cert.InXIdeal Cert.InXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- The body at another point: on whole staging buffers, from an array of the scaled convolution that holds `fw0`, it leaves its pieces in
    the two blocks of codes (`L6`, `L7`) and in the rows it carries (`LS0`, with what the point before left in it), and in the array what `sent` says for the
    block `v`. -/
def runNext (c : Dev nD) (i : grid0.Coords) (arg2 : Memref sig .tc .smem S8 .f32) (harg2 : arg2.IsWhole) (arg3 : Memref sig .tc .vmem S512x2560 .i8) (harg3 : arg3.IsWhole) (arg4 : Memref sig .tc .vmem S2560x256 .bf16) (harg4 : arg4.IsWhole) (arg5 : Memref sig .tc .vmem S4x256 .i8) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .i8) (harg8 : arg8.IsWhole) (arg9 : Memref sig .tc .vmem S512x256 .i8) (harg9 : arg9.IsWhole) (arg11 : Memref sig .tc .vmem S520x256 .f32) (harg11 : arg11.IsWhole) (arg12 : Memref sig .tc .vmem S512x256 .f32) (harg12 : arg12.IsWhole) (hc0 : ¬cond0_0 i)
    (hc : (cond0_1 i ∧ ¬cond0_2 i ∧ ¬cond0_3 i ∧ ¬cond0_4 i ∧ ¬cond0_5 i) ∨ (¬cond0_1 i ∧ cond0_2 i ∧ ¬cond0_3 i ∧ ¬cond0_4 i ∧ ¬cond0_5 i) ∨ (¬cond0_1 i ∧ ¬cond0_2 i ∧ cond0_3 i ∧ ¬cond0_4 i ∧ ¬cond0_5 i)
      ∨ (¬cond0_1 i ∧ ¬cond0_2 i ∧ ¬cond0_3 i ∧ cond0_4 i ∧ ¬cond0_5 i) ∨ (¬cond0_1 i ∧ ¬cond0_2 i ∧ ¬cond0_3 i ∧ ¬cond0_4 i ∧ cond0_5 i) ∨ (¬cond0_1 i ∧ ¬cond0_2 i ∧ ¬cond0_3 i ∧ ¬cond0_4 i ∧ ¬cond0_5 i))
    (x0 : Vec F S8 .f32) (x1 : Vec F S512x2560 .i8) (x2 : Vec F S2560x256 .bf16) (x3 : Vec F S4x256 .i8) (x4 : Vec F S1x256 .f32) (x5 : Vec F S1x256 .f32) (xs0 : Vec F S520x256 .f32) :
    Σ' (L6 : List (View.Piece (Elt F) S512x256 .i8)), Σ' (L7 : List (View.Piece (Elt F) S512x256 .i8)), Σ' (LS0 : List (View.Piece (Elt F) S520x256 .f32)), { v : Vec F S512x256 .f32 //
      ∀ (fw0 : Buf (Elt F) ((c : Thread nD τ).loc main_v2_2)) (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg11 fullShare xs0 ∗ (∃ d, owns (c : Thread nD τ) arg12 fullShare d) ∗ semVal ((c : Thread nD τ), SemLoc.dma 15) 0 ∗ hbPt0 c hbM0_0 fw0 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg11.view.loc (c : Thread nD τ) ↦[arg11.view.set]{fullShare} arg11.view.writes (Elt F) f LS0) ∗ (∃ d, owns (c : Thread nD τ) arg12 fullShare d) ∗ semVal ((c : Thread nD τ), SemLoc.dma 15) 0 ∗ hbPt0 c hbM0_0 (sent c i v fw0) ∗ (∃ W', owes (c : Thread nD τ) 0 W')) -∗ K ⟨⟩))
          ⊢ wp frame (wpE (defs₀ (F := F)) Variants.none c none) Set.univ (cc0_in_x i arg2 harg2 arg3 harg3 arg4 harg4 arg5 harg5 arg6 harg6 arg7 harg7 arg8 harg8 arg9 harg9 (Memref.whole main_v2_2) (Memref.isWhole_whole _) arg11 harg11 arg12 harg12 cc0_scratch2) K } := by
  refine ⟨?_, ?_, ?_, ?_, fun fw0 W K => ?run⟩
  case run =>
    simp only [cc0_in_x_eq_skeleton]; unfold cc0_in_x_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%ds1, %fs1, -, HS1⟩, Hq0, Hh0, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs0
    rcases hc with ⟨hc1, hc2, hc3, hc4, hc5⟩ | ⟨hc1, hc2, hc3, hc4, hc5⟩ | ⟨hc1, hc2, hc3, hc4, hc5⟩ | ⟨hc1, hc2, hc3, hc4, hc5⟩ | ⟨hc1, hc2, hc3, hc4, hc5⟩ | ⟨hc1, hc2, hc3, hc4, hc5⟩
    all_goals
      sl_exec (disch := first | sl_exact hc0 | sl_exact hc1 | sl_exact hc2 | sl_exact hc3 | sl_exact hc4 | sl_exact hc5)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; iexact H6
      isplitl [H7]
      · iexists _; iexact H7
      isplitl [HS0]
      · iexists _; iexact HS0
      isplitl [HS1]
      · iexists _; iexists _; isplitr
        swap; · iexact HS1
        ipureintro; rfl
      isplitl [Hq0]
      · iexact Hq0
      isplitl [Hh0]
      · first
          | (rw [sent_1 c i _ fw0  hc1]; sl_unfold_words; rw [read_stored]; iexact Hh0)
          | (rw [sent_2 c i _ fw0 hc1 hc2]; sl_unfold_words; rw [read_stored]; iexact Hh0)
          | (rw [sent_3 c i _ fw0 hc1 hc2 hc3]; sl_unfold_words; rw [read_stored]; iexact Hh0)
          | (rw [sent_4 c i _ fw0 hc1 hc2 hc3 hc4]; sl_unfold_words; rw [read_stored]; iexact Hh0)
          | (rw [sent_5 c i _ fw0 hc1 hc2 hc3 hc4 hc5]; sl_unfold_words; rw [read_stored]; iexact Hh0)
          | (rw [sent_none c i _ fw0 hc1 hc2 hc3 hc4 hc5]; iexact Hh0)
      iexists _; iexact HW

end Cert.Proof.InX

end
-- ==== Proof.InXSpec.lean ====
/-
  Hand-written, untrusted. What `in_x` computes, entry by entry over the reals: the projection's codes, their causal depthwise
  convolution inside a sequence of 2048 rows, and the codes of its SiLU.
-/
module

public import Idealize.ShloMosaic.Lib.ValueIdx
public import Idealize.ShloMosaic.Lib.Pointwise
public import Idealize.ShloMosaic.PureOps.Ideal
public import proofs.«01_k».proof.Proof.Quant

@[expose] public section

noncomputable section

namespace Cert.Proof.InX

open Idealize.ShloMosaic

/-- The projection at row `a` and column `b`: the product of the codes and the weight, times the codes' scale. -/
def lin (sc : Vec Ideal ⟨1, ![8]⟩ .f32) (n : Vec Ideal ⟨2, ![12288, 2560]⟩ .i8) (w : Vec Ideal ⟨2, ![2560, 10240]⟩ .bf16) (a : Fin 12288) (b : Fin 5120) : EReal :=
  (∑ k : Fin 2560, (((n (ix2 a k)).toInt : ℝ) : EReal) * w (ix2 k ⟨b.val, by omega⟩)) * sc (ix1 0)

/-- The code of the projection. -/
def q (sc : Vec Ideal ⟨1, ![8]⟩ .f32) (n : Vec Ideal ⟨2, ![12288, 2560]⟩ .i8) (w : Vec Ideal ⟨2, ![2560, 10240]⟩ .bf16) (a : Fin 12288) (b : Fin 5120) : BitVec 8 :=
  code (lin sc n w a b) (sc (ix1 1))

/-- The code `d` rows before row `a`, as a number: zero before the start of the sequence. -/
def past (sc : Vec Ideal ⟨1, ![8]⟩ .f32) (n : Vec Ideal ⟨2, ![12288, 2560]⟩ .i8) (w : Vec Ideal ⟨2, ![2560, 10240]⟩ .bf16) (d : Nat) (a : Fin 12288) (b : Fin 5120) : EReal :=
  if d ≤ a.val % 2048 then (((q sc n w ⟨a.val - d, by omega⟩ b).toInt : ℝ) : EReal) else 0

/-- The convolution's weight for tap `k` at column `b`. -/
def tap (cw : Vec Ideal ⟨2, ![4, 5120]⟩ .i8) (k : Fin 4) (b : Fin 5120) : EReal := (((cw (ix2 k b)).toInt : ℝ) : EReal)

/-- The scaled causal convolution of the codes with four taps. -/
def conv (sc : Vec Ideal ⟨1, ![8]⟩ .f32) (n : Vec Ideal ⟨2, ![12288, 2560]⟩ .i8) (w : Vec Ideal ⟨2, ![2560, 10240]⟩ .bf16) (cw : Vec Ideal ⟨2, ![4, 5120]⟩ .i8)
    (sv : Vec Ideal ⟨1, ![5120]⟩ .f32) (a : Fin 12288) (b : Fin 5120) : EReal :=
  (past sc n w 3 a b * tap cw 0 b + past sc n w 2 a b * tap cw 1 b + past sc n w 1 a b * tap cw 2 b + past sc n w 0 a b * tap cw 3 b) * sc (ix1 1) * sv (ix1 b)

/-- The code of `v` times its logistic. -/
def silucode (v s : EReal) : BitVec 8 := code (v * Ideal.logistic v) s

/-- The code of the SiLU of the convolution with its bias. -/
def xcode (sc : Vec Ideal ⟨1, ![8]⟩ .f32) (n : Vec Ideal ⟨2, ![12288, 2560]⟩ .i8) (w : Vec Ideal ⟨2, ![2560, 10240]⟩ .bf16) (cw : Vec Ideal ⟨2, ![4, 5120]⟩ .i8)
    (sv cb : Vec Ideal ⟨1, ![5120]⟩ .f32) (a : Fin 12288) (b : Fin 5120) : BitVec 8 :=
  silucode (conv sc n w cw sv a b + cb (ix1 b)) (sc (ix1 2))

end Cert.Proof.InX

end
-- ==== Proof.InXPay.lean ====
/-
  Hand-written, untrusted. The values `in_x` computes at a point, entry by entry over the reals: a block of the projection's
  codes, the scaled sum of four taps, and the codes of the SiLU.
-/
module

public import proofs.«01_k».proof.Proof.Gen.InXIdeal.Skeleton
public import Idealize.ShloMosaic.Lib.ValueIdx
public import Idealize.ShloMosaic.Lib.Pointwise
public import proofs.«01_k».proof.Proof.Util
public import proofs.«01_k».proof.Proof.Quant
public import proofs.«01_k».proof.Proof.InXSpec

@[expose] public section

set_option maxRecDepth 16384

noncomputable section

namespace Cert.Proof.InX

open Cert.InXIdeal Cert.InXIdeal.Gen Idealize.ShloMosaic

/-- A clipped number converts to 32 bits and to 8 bits as one integer. -/
theorem fptosi_toInt (x : EReal) :
    (Ideal.fptosi 32 (min ((127 : ℝ) : EReal) (max ((-127 : ℝ) : EReal) x))).toInt
      = (Ideal.fptosi 8 (min ((127 : ℝ) : EReal) (max ((-127 : ℝ) : EReal) x))).toInt := by
  obtain ⟨r, hr, h1, h2⟩ : ∃ r : ℝ, min ((127 : ℝ) : EReal) (max ((-127 : ℝ) : EReal) x) = (r : EReal) ∧ -127 ≤ r ∧ r ≤ 127 := by
    have ha : ((-127 : ℝ) : EReal) ≤ min ((127 : ℝ) : EReal) (max ((-127 : ℝ) : EReal) x) :=
      le_min (by exact_mod_cast (by norm_num : (-127 : ℝ) ≤ 127)) (le_max_left _ _)
    have hb : min ((127 : ℝ) : EReal) (max ((-127 : ℝ) : EReal) x) ≤ ((127 : ℝ) : EReal) := min_le_left _ _
    generalize min ((127 : ℝ) : EReal) (max ((-127 : ℝ) : EReal) x) = y at ha hb
    induction y with
    | bot => exact absurd ha (by simp)
    | top => exact absurd hb (by simp)
    | coe r => exact ⟨r, rfl, by exact_mod_cast ha, by exact_mod_cast hb⟩
  rw [hr]
  unfold Ideal.fptosi
  rw [Ideal.toIntClamped_coe, Ideal.toIntClamped_coe]
  obtain ⟨n, hn, hl, hu⟩ : ∃ n : ℤ, (if 0 ≤ r then ⌊r⌋ else ⌈r⌉) = n ∧ -127 ≤ n ∧ n ≤ 127 := by
    refine ⟨_, rfl, ?_, ?_⟩
    · split
      · exact Int.le_floor.2 (by push_cast; exact h1)
      · have : (-127 : ℝ) ≤ (⌈r⌉ : ℝ) := h1.trans (Int.le_ceil r)
        exact_mod_cast this
    · split
      · have : (⌊r⌋ : ℝ) ≤ (127 : ℝ) := (Int.floor_le r).trans h2
        exact_mod_cast this
      · exact Int.ceil_le.2 (by push_cast; exact h2)
  rw [hn]
  norm_num
  rw [show max (-2147483648 : ℤ) (min 2147483647 n) = n by omega, show max (-128 : ℤ) (min 127 n) = n by omega]
  rw [Int.bmod_def, Int.bmod_def]
  omega

/-- The projection of a block, at an index. -/
def blin (x1 : Vec Ideal S512x2560 .i8) (x2 : Vec Ideal S2560x256 .bf16) (s : EReal) (j : S512x256.Idx) : EReal :=
  (∑ k : Fin 2560, (((x1 (ix2 (j 0) k)).toInt : ℝ) : EReal) * x2 (ix2 k (j 1))) * s

/-- The 32-bit codes of a block, at an index. -/
theorem pay2_apply (x1 : Vec Ideal S512x2560 .i8) (x2 : Vec Ideal S2560x256 .bf16) (s : EReal) {u : EReal} (hu : u ≠ 0) (j : S512x256.Idx) :
    k0_pay2 (F := Ideal) x1 x2 s u j = Ideal.fptosi 32 (min ((127 : ℝ) : EReal) (max ((-127 : ℝ) : EReal) (Ideal.liftRound Ideal.roundHalfEven (Ideal.div (blin x1 x2 s j) u)))) := by
  rw [← mul_recip _ hu, ← ofBits_lo, ← ofBits_hi, ← ofBits_one]
  unfold k0_pay2 blin
  pointwise
  rfl

/-- The 8-bit codes of a block, at an index. -/
theorem pay3_apply (x1 : Vec Ideal S512x2560 .i8) (x2 : Vec Ideal S2560x256 .bf16) (s : EReal) {u : EReal} (hu : u ≠ 0) (j : S512x256.Idx) :
    k0_pay3 (F := Ideal) x1 x2 s u j = code (blin x1 x2 s j) u := by
  unfold k0_pay3
  refine (congrArg (BitVec.setWidth 8) (pay2_apply x1 x2 s hu j)).trans ?_
  exact fptosi_cut _

/-- The codes of a block as numbers, at an index. -/
theorem pay4_apply (x1 : Vec Ideal S512x2560 .i8) (x2 : Vec Ideal S2560x256 .bf16) (s : EReal) {u : EReal} (hu : u ≠ 0) (j : S512x256.Idx) :
    k0_pay4 (F := Ideal) x1 x2 s u j = (((code (blin x1 x2 s j) u).toInt : ℝ) : EReal) := by
  unfold k0_pay4
  refine (congrArg (fun b : BitVec 32 => ((b.toInt : ℝ) : EReal)) (pay2_apply x1 x2 s hu j)).trans ?_
  show (((Ideal.fptosi 32 _).toInt : ℝ) : EReal) = _
  rw [fptosi_toInt]
  rfl

/-- The rows stored at a sequence's start are zero. -/
theorem pay5_apply (j : S8x256.Idx) : k0_pay5 (F := Ideal) j = (0 : EReal) := by
  unfold k0_pay5
  pointwise

/-- The codes stored behind the last rows of the block before, at an index. -/
theorem pay6_apply (v : FVec Ideal S512x256 .f32) (j : S512x256.Idx) : k0_pay6 (F := Ideal) v j = v j := by
  unfold k0_pay6
  pointwise

/-- The last eight rows of a block of codes, at an index. -/
theorem pay7_apply (v : FVec Ideal S512x256 .f32) (j : S8x256.Idx) :
    k0_pay7 (F := Ideal) v j = v (ix2 ⟨504 + (j 0).val, by have : (j 0).val < 8 := (j 0).isLt; omega⟩ (j 1)) := by
  unfold k0_pay7
  pointwise

/-- The scaled sum of the four taps, at an index. -/
theorem pay8_apply (v : FVec Ideal S512x256 .f32) (w3 : Vec Ideal S1x256 .i8) (h0 : Vec Ideal S512x256 .f32) (w0 : Vec Ideal S1x256 .i8) (h1 : Vec Ideal S512x256 .f32)
    (w1 : Vec Ideal S1x256 .i8) (h2 : Vec Ideal S512x256 .f32) (w2 : Vec Ideal S1x256 .i8) (s : EReal) (sv : Vec Ideal S1x256 .f32) (j : S512x256.Idx) :
    k0_pay8 (F := Ideal) v w3 h0 w0 h1 w1 h2 w2 s sv j
      = (((v j : EReal) * ((w3 (ix2 0 (j 1))).toInt : ℝ) + h0 j * ((w0 (ix2 0 (j 1))).toInt : ℝ) + h1 j * ((w1 (ix2 0 (j 1))).toInt : ℝ) + h2 j * ((w2 (ix2 0 (j 1))).toInt : ℝ)) * s) * sv (ix2 0 (j 1)) := by
  unfold k0_pay8
  pointwise
  rfl

/-- The block copied out is the scaled sum itself. -/
theorem pay9_apply (v : FVec Ideal S512x256 .f32) (j : S512x256.Idx) : k0_pay9 (F := Ideal) v j = v j := by
  unfold k0_pay9
  pointwise

/-- The codes of the SiLU, at an index. -/
theorem pay1_apply (v : FVec Ideal S512x256 .f32) (cb : Vec Ideal S1x256 .f32) {s : EReal} (hs : s ≠ 0) (j : S512x256.Idx) :
    k0_pay1 (F := Ideal) (k0_pay10 v cb s) k0_pay11 j = silucode ((v j : EReal) + cb (ix2 0 (j 1))) s := by
  unfold k0_pay1 k0_pay10 k0_pay11 silucode
  pointwise
  rw [← ofBits_one]
  exact kernel_code _ hs

end Cert.Proof.InX

end
-- ==== Proof.InXRun.lean ====
/-
  Hand-written, untrusted. What a point of `in_x` leaves: its two blocks of codes and the last rows of codes that the next point
  reads, each from the point's input blocks and what the point before left.
-/
module

public import proofs.«01_k».proof.Defs
public import proofs.«01_k».proof.Proof.Gen.InXIdeal.Value
public import Idealize.ShloMosaic.Lib.Pipeline.Value
public import Idealize.ShloMosaic.Lib.ValueIdx
public import Idealize.ShloMosaic.Lib.Tactic
public import Idealize.ShloMosaic.Lib.Pointwise
public import Idealize.ShloMosaic.Lib.WritesUnit
public import proofs.«01_k».proof.Proof.Util
public import proofs.«01_k».proof.Proof.InXPay

@[expose] public section

set_option maxRecDepth 16384

noncomputable section

namespace Cert.Proof.InX

open Cert.InXIdeal Cert.InXIdeal.Gen Idealize.ShloMosaic Idealize.ShloMosaic.TcCoe Idealize.SL.Sem
open Idealize.ShloMosaic.Pipeline (Dat)

/-- Row `k` of the block of weights. -/
theorem ld_row (x : Vec Ideal S4x256 .i8) (k : Nat) (hk : k < 4) (inb) :
    View.ld (Val := Elt Ideal) (e' := .i8) x (Rect.unit (s := S4x256) ![k, 0] ![1, 256] inb) = (fun j => x (ix2 ⟨k, hk⟩ (j 1)) : Vec Ideal S1x256 .i8) := by
  funext (j : S1x256.Idx)
  refine congrArg x (funext fun a => Fin.ext ?_)
  have hl : (j 0).val < 1 := (j 0).isLt
  match a with
  | ⟨0, _⟩ =>
    show k + 1 * (j 0).val = k
    omega
  | ⟨1, _⟩ =>
    show 0 + 1 * (j 1).val = (j 1).val
    omega

/-- 512 rows from row `k ≤ 8` on of a buffer whose first eight rows are those of `P` and whose other rows are `v`. -/
def sh (k : Nat) (hk : k ≤ 8) (P : Vec Ideal S520x256 .f32) (v : Vec Ideal S512x256 .f32) : Vec Ideal S512x256 .f32 := fun j =>
  if h : k + (j 0).val < 8 then P (ix2 ⟨k + (j 0).val, by omega⟩ (j 1))
  else v (ix2 ⟨k + (j 0).val - 8, by have : (j 0).val < 512 := (j 0).isLt; omega⟩ (j 1))

/-- A load from row `k` on, after the rows from 8 on were stored over `f`. -/
theorem ld_next (k : Nat) (hk : k ≤ 8) (f : (View.whole cc0_scratch0).ty.Contents (Elt Ideal)) (inb inb8) (v : Vec Ideal S512x256 .f32) :
    View.ld (Val := Elt Ideal) (e' := .f32) ((View.whole cc0_scratch0).read (Elt Ideal) ((View.whole cc0_scratch0).writes (Elt Ideal) f [⟨Rect.unit (s := S520x256) ![8, 0] ![512, 256] inb8, v⟩]))
        (Rect.unit (s := S520x256) ![k, 0] ![512, 256] inb)
      = sh k hk ((View.whole cc0_scratch0).read (Elt Ideal) f) v := by
  funext (j : S512x256.Idx)
  have hj : (j 0).val < 512 := (j 0).isLt
  have e : (Rect.unit (s := S520x256) ![k, 0] ![512, 256] inb).emb j = (ix2 ⟨k + (j 0).val, by omega⟩ (j 1) : S520x256.Idx) := by
    funext a
    apply Fin.ext
    match a with
    | ⟨0, _⟩ => show k + 1 * (j 0).val = k + (j 0).val; omega
    | ⟨1, _⟩ => show 0 + 1 * (j 1).val = (j 1).val; omega
  show (View.whole cc0_scratch0).read (Elt Ideal) _ ((Rect.unit (s := S520x256) ![k, 0] ![512, 256] inb).emb j) = _
  rw [e]
  unfold sh
  by_cases h : k + (j 0).val < 8
  · rw [dif_pos h, View.read_writes_cons_rows_of_not_mem (o := 8) (W := 512) _ _ _ _ _ _ rfl rfl (Or.inl h)]
    rfl
  · rw [dif_neg h]
    exact View.read_writes_cons_rows_of_mem (o := 8) _ _ _ _ _ _ (ix2 ⟨k + (j 0).val - 8, by omega⟩ (j 1)) rfl (by show k + (j 0).val = 8 + (k + (j 0).val - 8); omega) rfl

/-- A load from row `k` on, after zeros were stored into the first eight rows and `v` into the others. -/
theorem ld_reset (k : Nat) (hk : k ≤ 8) (inb inb8 inb0) (v : Vec Ideal S512x256 .f32) (z : Vec Ideal S8x256 .f32) (hz : ∀ j, z j = (0 : EReal)) :
    (View.whole cc0_scratch0).readCov (Val := Elt Ideal) [⟨Rect.unit (s := S520x256) ![8, 0] ![512, 256] inb8, v⟩, ⟨Rect.unit (s := S520x256) ![0, 0] ![8, 256] inb0, z⟩]
        (Rect.unit (s := S520x256) ![k, 0] ![512, 256] inb).toLoadRect
      = sh k hk (fun _ => (0 : EReal)) v := by
  funext (j : S512x256.Idx)
  have hj : (j 0).val < 512 := (j 0).isLt
  have e : (Rect.unit (s := S520x256) ![k, 0] ![512, 256] inb).toLoadRect.idx j = (ix2 ⟨k + (j 0).val, by omega⟩ (j 1) : S520x256.Idx) := by
    funext a
    apply Fin.ext
    match a with
    | ⟨0, _⟩ => show k + 1 * (j 0).val = k + (j 0).val; omega
    | ⟨1, _⟩ => show 0 + 1 * (j 1).val = (j 1).val; omega
  show (View.whole cc0_scratch0).read (Elt Ideal) ((View.whole cc0_scratch0).writes (Elt Ideal) (View.whole cc0_scratch0).junk _) ((Rect.unit (s := S520x256) ![k, 0] ![512, 256] inb).toLoadRect.idx j) = _
  rw [e]
  unfold sh
  by_cases h : k + (j 0).val < 8
  · rw [dif_pos h, View.read_writes_cons_rows_of_not_mem (o := 8) (W := 512) _ _ _ _ _ _ rfl rfl (Or.inl h)]
    have e0 := View.read_writes_cons_rows_of_mem (o := 0) (View.whole cc0_scratch0) (View.whole cc0_scratch0).junk inb0 z [] (ix2 ⟨k + (j 0).val, by omega⟩ (j 1)) (ix2 ⟨k + (j 0).val, h⟩ (j 1) : S8x256.Idx) rfl (Nat.zero_add _).symm rfl
    exact e0.trans (hz _)
  · rw [dif_neg h]
    exact View.read_writes_cons_rows_of_mem (o := 8) _ _ _ _ _ _ (ix2 ⟨k + (j 0).val - 8, by omega⟩ (j 1)) rfl (by show k + (j 0).val = 8 + (k + (j 0).val - 8); omega) rfl

/-- The first eight rows after a last store into them. -/
theorem canon_top (inb) (v : Vec Ideal S8x256 .f32) (L : List (View.Piece (Elt Ideal) S520x256 .f32)) (y : S520x256.Idx) (h : (y 0).val < 8) :
    View.canon (⟨Rect.unit (s := S520x256) ![0, 0] ![8, 256] inb, v⟩ :: L) y = v (ix2 ⟨(y 0).val, h⟩ (y 1)) := by
  have e : (Rect.unit (s := S520x256) ![0, 0] ![8, 256] inb).emb (ix2 ⟨(y 0).val, h⟩ (y 1)) = y := by
    funext a
    apply Fin.ext
    match a with
    | ⟨0, _⟩ => show 0 + 1 * (y 0).val = (y 0).val; omega
    | ⟨1, _⟩ => show 0 + 1 * (y 1).val = (y 1).val; omega
  exact (congrArg _ e.symm).trans (View.canon_cons_emb (Val := Elt Ideal) (Rect.unit (s := S520x256) ![0, 0] ![8, 256] inb) v L (ix2 ⟨(y 0).val, h⟩ (y 1)))

variable (m : (ℓ : Loc nD τ sig) → Buf (Elt Ideal) ℓ)

/-- The codes of a point's block as numbers. -/
def cblk (c : Dev nD) (t : Fin cfg0.N) : FVec Ideal S512x256 .f32 :=
  k0_pay4 (F := Ideal) (iblk m c 1 t) (iblk m c 2 t) (iblk m c 0 t (ix1 0)) (iblk m c 0 t (ix1 1))

/-- What a point finds in the buffer's first rows: zeros at a sequence's start, otherwise what the point before left. -/
def haloIn (c : Dev nD) (t : Fin cfg0.N) : Vec Ideal S520x256 .f32 :=
  if t.val % 4 = 0 then fun _ => (0 : EReal) else (outsAt0 m c (t.val - 1) (Nat.lt_of_le_of_lt (Nat.sub_le _ _) t.isLt)).2.2

/-- A point's block of the scaled convolution. -/
def convblk (c : Dev nD) (t : Fin cfg0.N) : FVec Ideal S512x256 .f32 :=
  k0_pay8 (F := Ideal) (cblk m c t) (fun j => iblk m c 3 t (ix2 3 (j 1))) (sh 5 (by decide) (haloIn m c t) (cblk m c t)) (fun j => iblk m c 3 t (ix2 0 (j 1)))
    (sh 6 (by decide) (haloIn m c t) (cblk m c t)) (fun j => iblk m c 3 t (ix2 1 (j 1))) (sh 7 (by decide) (haloIn m c t) (cblk m c t)) (fun j => iblk m c 3 t (ix2 2 (j 1)))
    (iblk m c 0 t (ix1 1)) (iblk m c 4 t)

/-- Storing the codes keeps them. -/
theorem pay6_eq (v : FVec Ideal S512x256 .f32) : k0_pay6 (F := Ideal) v = v := funext (pay6_apply v)

/-- At a sequence's start: the first block of codes. -/
theorem out6_reset (c : Dev nD) (t : Fin cfg0.N) (h0 : t.val % 4 = 0) :
    (outsAt0 m c t.val t.isLt).1 = k0_pay3 (F := Ideal) (iblk m c 1 t) (iblk m c 2 t) (iblk m c 0 t (ix1 0)) (iblk m c 0 t (ix1 1)) := by
  have hN : t.val < 480 := t.isLt
  by_cases h1 : t.val < 24 <;> by_cases h2 : t.val / 24 % 20 = 1 <;> by_cases h3 : t.val / 24 % 20 = 2 <;> by_cases h4 : t.val / 24 % 20 = 3 <;> by_cases h5 : t.val / 24 % 20 = 4 <;> try (exfalso; omega)
  all_goals first
    | (rw [outsAt0_A m c t h0 h1 h2 h3 h4 h5]; dsimp only; unfold out0_A_6; rw [View.read_writes_eq_canon _ _ _ (by intro y; apply cover0_A_6)]; unfold kernelRun0_A)
    | (rw [outsAt0_C m c t h0 h1 h2 h3 h4 h5]; dsimp only; unfold out0_C_6; rw [View.read_writes_eq_canon _ _ _ (by intro y; apply cover0_C_6)]; unfold kernelRun0_C)
    | (rw [outsAt0_E m c t h0 h1 h2 h3 h4 h5]; dsimp only; unfold out0_E_6; rw [View.read_writes_eq_canon _ _ _ (by intro y; apply cover0_E_6)]; unfold kernelRun0_E)
    | (rw [outsAt0_G m c t h0 h1 h2 h3 h4 h5]; dsimp only; unfold out0_G_6; rw [View.read_writes_eq_canon _ _ _ (by intro y; apply cover0_G_6)]; unfold kernelRun0_G)
    | (rw [outsAt0_I m c t h0 h1 h2 h3 h4 h5]; dsimp only; unfold out0_I_6; rw [View.read_writes_eq_canon _ _ _ (by intro y; apply cover0_I_6)]; unfold kernelRun0_I)
    | (rw [outsAt0_K m c t h0 h1 h2 h3 h4 h5]; dsimp only; unfold out0_K_6; rw [View.read_writes_eq_canon _ _ _ (by intro y; apply cover0_K_6)]; unfold kernelRun0_K)
  all_goals
    dsimp only
    sl_unfold_words
    rw [View.canon_unit_zero (S := S512x256) hz]
    simp only [View.readAt_eq_ld, (hs0_0 t).read_unread, (hs0_1 t).read_unread, (hs0_2 t).read_unread, (hs0_3 t).read_unread, (hs0_4 t).read_unread, (hs0_5 t).read_unread, View.ld_unit_zero (S := S512x2560) hz, View.ld_unit_zero (S := S2560x256) hz, View.ld_unit_zero (S := S1x256) hz]
    rw [ld_scale (iblk m c 0 t) 0 (by decide), ld_scale (iblk m c 0 t) 1 (by decide)]
    rfl

/-- After another point: the first block of codes. -/
theorem out6_next (c : Dev nD) (t : Fin cfg0.N) (h0 : ¬t.val % 4 = 0) :
    (outsAt0 m c t.val t.isLt).1 = k0_pay3 (F := Ideal) (iblk m c 1 t) (iblk m c 2 t) (iblk m c 0 t (ix1 0)) (iblk m c 0 t (ix1 1)) := by
  have hN : t.val < 480 := t.isLt
  by_cases h1 : t.val < 24 <;> by_cases h2 : t.val / 24 % 20 = 1 <;> by_cases h3 : t.val / 24 % 20 = 2 <;> by_cases h4 : t.val / 24 % 20 = 3 <;> by_cases h5 : t.val / 24 % 20 = 4 <;> try (exfalso; omega)
  all_goals first
    | (rw [outsAt0_B m c t h0 h1 h2 h3 h4 h5]; dsimp only; unfold out0_B_6; rw [View.read_writes_eq_canon _ _ _ (by intro y; apply cover0_B_6)]; unfold kernelRun0_B)
    | (rw [outsAt0_D m c t h0 h1 h2 h3 h4 h5]; dsimp only; unfold out0_D_6; rw [View.read_writes_eq_canon _ _ _ (by intro y; apply cover0_D_6)]; unfold kernelRun0_D)
    | (rw [outsAt0_F m c t h0 h1 h2 h3 h4 h5]; dsimp only; unfold out0_F_6; rw [View.read_writes_eq_canon _ _ _ (by intro y; apply cover0_F_6)]; unfold kernelRun0_F)
    | (rw [outsAt0_H m c t h0 h1 h2 h3 h4 h5]; dsimp only; unfold out0_H_6; rw [View.read_writes_eq_canon _ _ _ (by intro y; apply cover0_H_6)]; unfold kernelRun0_H)
    | (rw [outsAt0_J m c t h0 h1 h2 h3 h4 h5]; dsimp only; unfold out0_J_6; rw [View.read_writes_eq_canon _ _ _ (by intro y; apply cover0_J_6)]; unfold kernelRun0_J)
    | (rw [outsAt0_L m c t h0 h1 h2 h3 h4 h5]; dsimp only; unfold out0_L_6; rw [View.read_writes_eq_canon _ _ _ (by intro y; apply cover0_L_6)]; unfold kernelRun0_L)
  all_goals
    dsimp only
    sl_unfold_words
    rw [View.canon_unit_zero (S := S512x256) hz]
    simp only [View.readAt_eq_ld, (hs0_0 t).read_unread, (hs0_1 t).read_unread, (hs0_2 t).read_unread, (hs0_3 t).read_unread, (hs0_4 t).read_unread, (hs0_5 t).read_unread, View.ld_unit_zero (S := S512x2560) hz, View.ld_unit_zero (S := S2560x256) hz, View.ld_unit_zero (S := S1x256) hz]
    rw [ld_scale (iblk m c 0 t) 0 (by decide), ld_scale (iblk m c 0 t) 1 (by decide)]
    rfl

/-- At a sequence's start: the second block of codes. -/
theorem out7_reset (c : Dev nD) (t : Fin cfg0.N) (h0 : t.val % 4 = 0) :
    (outsAt0 m c t.val t.isLt).2.1 = k0_pay1 (F := Ideal) (k0_pay10 (convblk m c t) (iblk m c 5 t) (iblk m c 0 t (ix1 2))) k0_pay11 := by
  have hN : t.val < 480 := t.isLt
  by_cases h1 : t.val < 24 <;> by_cases h2 : t.val / 24 % 20 = 1 <;> by_cases h3 : t.val / 24 % 20 = 2 <;> by_cases h4 : t.val / 24 % 20 = 3 <;> by_cases h5 : t.val / 24 % 20 = 4 <;> try (exfalso; omega)
  all_goals first
    | (rw [outsAt0_A m c t h0 h1 h2 h3 h4 h5]; dsimp only; unfold out0_A_7; rw [View.read_writes_eq_canon _ _ _ (by intro y; apply cover0_A_7)]; unfold kernelRun0_A)
    | (rw [outsAt0_C m c t h0 h1 h2 h3 h4 h5]; dsimp only; unfold out0_C_7; rw [View.read_writes_eq_canon _ _ _ (by intro y; apply cover0_C_7)]; unfold kernelRun0_C)
    | (rw [outsAt0_E m c t h0 h1 h2 h3 h4 h5]; dsimp only; unfold out0_E_7; rw [View.read_writes_eq_canon _ _ _ (by intro y; apply cover0_E_7)]; unfold kernelRun0_E)
    | (rw [outsAt0_G m c t h0 h1 h2 h3 h4 h5]; dsimp only; unfold out0_G_7; rw [View.read_writes_eq_canon _ _ _ (by intro y; apply cover0_G_7)]; unfold kernelRun0_G)
    | (rw [outsAt0_I m c t h0 h1 h2 h3 h4 h5]; dsimp only; unfold out0_I_7; rw [View.read_writes_eq_canon _ _ _ (by intro y; apply cover0_I_7)]; unfold kernelRun0_I)
    | (rw [outsAt0_K m c t h0 h1 h2 h3 h4 h5]; dsimp only; unfold out0_K_7; rw [View.read_writes_eq_canon _ _ _ (by intro y; apply cover0_K_7)]; unfold kernelRun0_K)
  all_goals
    dsimp only
    sl_unfold_words
    rw [View.canon_unit_zero (S := S512x256) hz]
    simp only [View.readAt_eq_ld, (hs0_0 t).read_unread, (hs0_1 t).read_unread, (hs0_2 t).read_unread, (hs0_3 t).read_unread, (hs0_4 t).read_unread, (hs0_5 t).read_unread, View.ld_unit_zero (S := S512x2560) hz, View.ld_unit_zero (S := S2560x256) hz, View.ld_unit_zero (S := S1x256) hz]
    rw [ld_scale (iblk m c 0 t) 0 (by decide), ld_scale (iblk m c 0 t) 1 (by decide), ld_scale (iblk m c 0 t) 2 (by decide), ld_row (iblk m c 3 t) 0 (by decide), ld_row (iblk m c 3 t) 1 (by decide), ld_row (iblk m c 3 t) 2 (by decide), ld_row (iblk m c 3 t) 3 (by decide), pay6_eq,
      ld_reset 5 (by decide) _ _ _ _ _ pay5_apply, ld_reset 6 (by decide) _ _ _ _ _ pay5_apply, ld_reset 7 (by decide) _ _ _ _ _ pay5_apply]
    unfold convblk haloIn
    rw [if_pos h0]
    rfl

/-- After another point: the second block of codes. -/
theorem out7_next (c : Dev nD) (t : Fin cfg0.N) (h0 : ¬t.val % 4 = 0) :
    (outsAt0 m c t.val t.isLt).2.1 = k0_pay1 (F := Ideal) (k0_pay10 (convblk m c t) (iblk m c 5 t) (iblk m c 0 t (ix1 2))) k0_pay11 := by
  have hN : t.val < 480 := t.isLt
  by_cases h1 : t.val < 24 <;> by_cases h2 : t.val / 24 % 20 = 1 <;> by_cases h3 : t.val / 24 % 20 = 2 <;> by_cases h4 : t.val / 24 % 20 = 3 <;> by_cases h5 : t.val / 24 % 20 = 4 <;> try (exfalso; omega)
  all_goals first
    | (rw [outsAt0_B m c t h0 h1 h2 h3 h4 h5]; dsimp only; unfold out0_B_7; rw [View.read_writes_eq_canon _ _ _ (by intro y; apply cover0_B_7)]; unfold kernelRun0_B)
    | (rw [outsAt0_D m c t h0 h1 h2 h3 h4 h5]; dsimp only; unfold out0_D_7; rw [View.read_writes_eq_canon _ _ _ (by intro y; apply cover0_D_7)]; unfold kernelRun0_D)
    | (rw [outsAt0_F m c t h0 h1 h2 h3 h4 h5]; dsimp only; unfold out0_F_7; rw [View.read_writes_eq_canon _ _ _ (by intro y; apply cover0_F_7)]; unfold kernelRun0_F)
    | (rw [outsAt0_H m c t h0 h1 h2 h3 h4 h5]; dsimp only; unfold out0_H_7; rw [View.read_writes_eq_canon _ _ _ (by intro y; apply cover0_H_7)]; unfold kernelRun0_H)
    | (rw [outsAt0_J m c t h0 h1 h2 h3 h4 h5]; dsimp only; unfold out0_J_7; rw [View.read_writes_eq_canon _ _ _ (by intro y; apply cover0_J_7)]; unfold kernelRun0_J)
    | (rw [outsAt0_L m c t h0 h1 h2 h3 h4 h5]; dsimp only; unfold out0_L_7; rw [View.read_writes_eq_canon _ _ _ (by intro y; apply cover0_L_7)]; unfold kernelRun0_L)
  all_goals
    dsimp only
    sl_unfold_words
    rw [View.canon_unit_zero (S := S512x256) hz]
    simp only [View.readAt_eq_ld, (hs0_0 t).read_unread, (hs0_1 t).read_unread, (hs0_2 t).read_unread, (hs0_3 t).read_unread, (hs0_4 t).read_unread, (hs0_5 t).read_unread, View.ld_unit_zero (S := S512x2560) hz, View.ld_unit_zero (S := S2560x256) hz, View.ld_unit_zero (S := S1x256) hz]
    rw [ld_scale (iblk m c 0 t) 0 (by decide), ld_scale (iblk m c 0 t) 1 (by decide), ld_scale (iblk m c 0 t) 2 (by decide), ld_row (iblk m c 3 t) 0 (by decide), ld_row (iblk m c 3 t) 1 (by decide), ld_row (iblk m c 3 t) 2 (by decide), ld_row (iblk m c 3 t) 3 (by decide), pay6_eq,
      ld_next 5 (by decide), ld_next 6 (by decide), ld_next 7 (by decide), (Memref.isWhole_whole cc0_scratch0).read_unread]
    unfold convblk haloIn
    rw [if_neg h0]
    rfl

/-- At a sequence's start: the rows left for the next point. -/
theorem halo_reset (c : Dev nD) (t : Fin cfg0.N) (h0 : t.val % 4 = 0) (y : S520x256.Idx) (hy : (y 0).val < 8) :
    (outsAt0 m c t.val t.isLt).2.2 y = cblk m c t (ix2 ⟨504 + (y 0).val, by omega⟩ (y 1)) := by
  have hN : t.val < 480 := t.isLt
  by_cases h1 : t.val < 24 <;> by_cases h2 : t.val / 24 % 20 = 1 <;> by_cases h3 : t.val / 24 % 20 = 2 <;> by_cases h4 : t.val / 24 % 20 = 3 <;> by_cases h5 : t.val / 24 % 20 = 4 <;> try (exfalso; omega)
  all_goals first
    | (rw [outsAt0_A m c t h0 h1 h2 h3 h4 h5]; dsimp only; unfold sout0_A_0; rw [View.read_writes_eq_canon _ _ _ (by intro y; apply scover0_A_0)]; unfold kernelRun0_A)
    | (rw [outsAt0_C m c t h0 h1 h2 h3 h4 h5]; dsimp only; unfold sout0_C_0; rw [View.read_writes_eq_canon _ _ _ (by intro y; apply scover0_C_0)]; unfold kernelRun0_C)
    | (rw [outsAt0_E m c t h0 h1 h2 h3 h4 h5]; dsimp only; unfold sout0_E_0; rw [View.read_writes_eq_canon _ _ _ (by intro y; apply scover0_E_0)]; unfold kernelRun0_E)
    | (rw [outsAt0_G m c t h0 h1 h2 h3 h4 h5]; dsimp only; unfold sout0_G_0; rw [View.read_writes_eq_canon _ _ _ (by intro y; apply scover0_G_0)]; unfold kernelRun0_G)
    | (rw [outsAt0_I m c t h0 h1 h2 h3 h4 h5]; dsimp only; unfold sout0_I_0; rw [View.read_writes_eq_canon _ _ _ (by intro y; apply scover0_I_0)]; unfold kernelRun0_I)
    | (rw [outsAt0_K m c t h0 h1 h2 h3 h4 h5]; dsimp only; unfold sout0_K_0; rw [View.read_writes_eq_canon _ _ _ (by intro y; apply scover0_K_0)]; unfold kernelRun0_K)
  all_goals
    dsimp only
    sl_unfold_words
    refine (canon_top _ _ _ y hy).trans ((pay7_apply _ _).trans ?_)
    simp only [View.readAt_eq_ld, (hs0_0 t).read_unread, (hs0_1 t).read_unread, (hs0_2 t).read_unread, (hs0_3 t).read_unread, (hs0_4 t).read_unread, (hs0_5 t).read_unread, View.ld_unit_zero (S := S512x2560) hz, View.ld_unit_zero (S := S2560x256) hz, View.ld_unit_zero (S := S1x256) hz]
    rw [ld_scale (iblk m c 0 t) 0 (by decide), ld_scale (iblk m c 0 t) 1 (by decide)]
    rfl

/-- After another point: the rows left for the next point. -/
theorem halo_next (c : Dev nD) (t : Fin cfg0.N) (h0 : ¬t.val % 4 = 0) (y : S520x256.Idx) (hy : (y 0).val < 8) :
    (outsAt0 m c t.val t.isLt).2.2 y = cblk m c t (ix2 ⟨504 + (y 0).val, by omega⟩ (y 1)) := by
  have hN : t.val < 480 := t.isLt
  by_cases h1 : t.val < 24 <;> by_cases h2 : t.val / 24 % 20 = 1 <;> by_cases h3 : t.val / 24 % 20 = 2 <;> by_cases h4 : t.val / 24 % 20 = 3 <;> by_cases h5 : t.val / 24 % 20 = 4 <;> try (exfalso; omega)
  all_goals first
    | (rw [outsAt0_B m c t h0 h1 h2 h3 h4 h5]; dsimp only; unfold sout0_B_0; rw [View.read_writes_eq_canon _ _ _ (by intro y; apply scover0_B_0)]; unfold kernelRun0_B)
    | (rw [outsAt0_D m c t h0 h1 h2 h3 h4 h5]; dsimp only; unfold sout0_D_0; rw [View.read_writes_eq_canon _ _ _ (by intro y; apply scover0_D_0)]; unfold kernelRun0_D)
    | (rw [outsAt0_F m c t h0 h1 h2 h3 h4 h5]; dsimp only; unfold sout0_F_0; rw [View.read_writes_eq_canon _ _ _ (by intro y; apply scover0_F_0)]; unfold kernelRun0_F)
    | (rw [outsAt0_H m c t h0 h1 h2 h3 h4 h5]; dsimp only; unfold sout0_H_0; rw [View.read_writes_eq_canon _ _ _ (by intro y; apply scover0_H_0)]; unfold kernelRun0_H)
    | (rw [outsAt0_J m c t h0 h1 h2 h3 h4 h5]; dsimp only; unfold sout0_J_0; rw [View.read_writes_eq_canon _ _ _ (by intro y; apply scover0_J_0)]; unfold kernelRun0_J)
    | (rw [outsAt0_L m c t h0 h1 h2 h3 h4 h5]; dsimp only; unfold sout0_L_0; rw [View.read_writes_eq_canon _ _ _ (by intro y; apply scover0_L_0)]; unfold kernelRun0_L)
  all_goals
    dsimp only
    sl_unfold_words
    refine (canon_top _ _ _ y hy).trans ((pay7_apply _ _).trans ?_)
    simp only [View.readAt_eq_ld, (hs0_0 t).read_unread, (hs0_1 t).read_unread, (hs0_2 t).read_unread, (hs0_3 t).read_unread, (hs0_4 t).read_unread, (hs0_5 t).read_unread, View.ld_unit_zero (S := S512x2560) hz, View.ld_unit_zero (S := S2560x256) hz, View.ld_unit_zero (S := S1x256) hz]
    rw [ld_scale (iblk m c 0 t) 0 (by decide), ld_scale (iblk m c 0 t) 1 (by decide)]
    rfl

/-- A point's first block of codes. -/
theorem out6_eq (c : Dev nD) (t : Fin cfg0.N) :
    (outsAt0 m c t.val t.isLt).1 = k0_pay3 (F := Ideal) (iblk m c 1 t) (iblk m c 2 t) (iblk m c 0 t (ix1 0)) (iblk m c 0 t (ix1 1)) := by
  by_cases h0 : t.val % 4 = 0
  · exact out6_reset m c t h0
  · exact out6_next m c t h0

/-- A point's second block of codes. -/
theorem out7_eq (c : Dev nD) (t : Fin cfg0.N) :
    (outsAt0 m c t.val t.isLt).2.1 = k0_pay1 (F := Ideal) (k0_pay10 (convblk m c t) (iblk m c 5 t) (iblk m c 0 t (ix1 2))) k0_pay11 := by
  by_cases h0 : t.val % 4 = 0
  · exact out7_reset m c t h0
  · exact out7_next m c t h0

/-- The rows a point leaves for the next one: the last eight rows of its codes. -/
theorem halo_eq (c : Dev nD) (t : Fin cfg0.N) (y : S520x256.Idx) (hy : (y 0).val < 8) :
    (outsAt0 m c t.val t.isLt).2.2 y = cblk m c t (ix2 ⟨504 + (y 0).val, by omega⟩ (y 1)) := by
  by_cases h0 : t.val % 4 = 0
  · exact halo_reset m c t h0 y hy
  · exact halo_next m c t h0 y hy

end Cert.Proof.InX

end
-- ==== Proof.InXLeft.lean ====
/-
  Hand-written, untrusted. What a point of `in_x` leaves in each buffer it writes: the blocks of codes and the carried rows as before,
  and the block of the scaled convolution that its transfer sends.
-/
module

public import proofs.«01_k».proof.Proof.InXNext
public import proofs.«01_k».proof.Proof.InXRun

@[expose] public section

set_option maxRecDepth 16384

noncomputable section

namespace Cert.Proof.InX

open Cert.InXIdeal Cert.InXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ)

/-- A point is in one of the first five columns of blocks or in none of them. -/
theorem column (t : Fin cfg0.N) :
    (cond0_1 (grid0.coords t) ∧ ¬cond0_2 (grid0.coords t) ∧ ¬cond0_3 (grid0.coords t) ∧ ¬cond0_4 (grid0.coords t) ∧ ¬cond0_5 (grid0.coords t))
      ∨ (¬cond0_1 (grid0.coords t) ∧ cond0_2 (grid0.coords t) ∧ ¬cond0_3 (grid0.coords t) ∧ ¬cond0_4 (grid0.coords t) ∧ ¬cond0_5 (grid0.coords t))
      ∨ (¬cond0_1 (grid0.coords t) ∧ ¬cond0_2 (grid0.coords t) ∧ cond0_3 (grid0.coords t) ∧ ¬cond0_4 (grid0.coords t) ∧ ¬cond0_5 (grid0.coords t))
      ∨ (¬cond0_1 (grid0.coords t) ∧ ¬cond0_2 (grid0.coords t) ∧ ¬cond0_3 (grid0.coords t) ∧ cond0_4 (grid0.coords t) ∧ ¬cond0_5 (grid0.coords t))
      ∨ (¬cond0_1 (grid0.coords t) ∧ ¬cond0_2 (grid0.coords t) ∧ ¬cond0_3 (grid0.coords t) ∧ ¬cond0_4 (grid0.coords t) ∧ cond0_5 (grid0.coords t))
      ∨ (¬cond0_1 (grid0.coords t) ∧ ¬cond0_2 (grid0.coords t) ∧ ¬cond0_3 (grid0.coords t) ∧ ¬cond0_4 (grid0.coords t) ∧ ¬cond0_5 (grid0.coords t)) := by
  have hN : t.val < 480 := t.isLt
  rw [hcond0_1 t, hcond0_2 t, hcond0_3 t, hcond0_4 t, hcond0_5 t]
  omega

/-- The run at a sequence's start. -/
def firstAt (c : Dev nD) (t : Fin cfg0.N) (h0 : t.val % 4 = 0) :=
  runFirst (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (column t) (iblk m c 0 t) (iblk m c 1 t) (iblk m c 2 t) (iblk m c 3 t) (iblk m c 4 t) (iblk m c 5 t)

/-- The run at another point, with what the point before left in the carried rows. -/
def nextAt (c : Dev nD) (t : Fin cfg0.N) (h0 : ¬t.val % 4 = 0) :=
  runNext (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (column t) (iblk m c 0 t) (iblk m c 1 t) (iblk m c 2 t) (iblk m c 3 t) (iblk m c 4 t) (iblk m c 5 t)
    (outsAt0 m c (t.val - 1) (Nat.lt_of_le_of_lt (Nat.sub_le _ _) t.isLt)).2.2

set_option maxHeartbeats 4000000 in
/-- What the pieces of a point at a sequence's start leave: its codes and its carried rows. -/
theorem first_left (c : Dev nD) (t : Fin cfg0.N) (h0 : t.val % 4 = 0) (f6 : (ms0_6 t).view.ty.Contents (Elt Ideal)) (f7 : (ms0_7 t).view.ty.Contents (Elt Ideal)) (fs : scM0_0.view.ty.Contents (Elt Ideal)) :
    (ms0_6 t).view.read (Elt Ideal) ((ms0_6 t).view.writes (Elt Ideal) f6 (firstAt m c t h0).1) = (outsAt0 m c t.val t.isLt).1
      ∧ (ms0_7 t).view.read (Elt Ideal) ((ms0_7 t).view.writes (Elt Ideal) f7 (firstAt m c t h0).2.1) = (outsAt0 m c t.val t.isLt).2.1
      ∧ scM0_0.view.read (Elt Ideal) (scM0_0.view.writes (Elt Ideal) fs (firstAt m c t h0).2.2.1) = (outsAt0 m c t.val t.isLt).2.2 := by
  have hN : t.val < 480 := t.isLt
  by_cases h1 : t.val < 24 <;> by_cases h2 : t.val / 24 % 20 = 1 <;> by_cases h3 : t.val / 24 % 20 = 2 <;> by_cases h4 : t.val / 24 % 20 = 3 <;> by_cases h5 : t.val / 24 % 20 = 4 <;> try (exfalso; omega)
  all_goals first
    | (rw [outsAt0_A m c t h0 h1 h2 h3 h4 h5]; dsimp only; unfold out0_A_6 out0_A_7 sout0_A_0
       refine ⟨Eq.trans (b := _) ?_ (View.read_writes_of_cover (ms0_6 t).view f6 _ _ _ (by intro y; apply cover0_A_6)), Eq.trans (b := _) ?_ (View.read_writes_of_cover (ms0_7 t).view f7 _ _ _ (by intro y; apply cover0_A_7)), Eq.trans (b := _) ?_ (View.read_writes_of_cover scM0_0.view fs _ _ _ (by intro y; apply scover0_A_0))⟩ <;> rfl)
    | (rw [outsAt0_C m c t h0 h1 h2 h3 h4 h5]; dsimp only; unfold out0_C_6 out0_C_7 sout0_C_0
       refine ⟨Eq.trans (b := _) ?_ (View.read_writes_of_cover (ms0_6 t).view f6 _ _ _ (by intro y; apply cover0_C_6)), Eq.trans (b := _) ?_ (View.read_writes_of_cover (ms0_7 t).view f7 _ _ _ (by intro y; apply cover0_C_7)), Eq.trans (b := _) ?_ (View.read_writes_of_cover scM0_0.view fs _ _ _ (by intro y; apply scover0_C_0))⟩ <;> rfl)
    | (rw [outsAt0_E m c t h0 h1 h2 h3 h4 h5]; dsimp only; unfold out0_E_6 out0_E_7 sout0_E_0
       refine ⟨Eq.trans (b := _) ?_ (View.read_writes_of_cover (ms0_6 t).view f6 _ _ _ (by intro y; apply cover0_E_6)), Eq.trans (b := _) ?_ (View.read_writes_of_cover (ms0_7 t).view f7 _ _ _ (by intro y; apply cover0_E_7)), Eq.trans (b := _) ?_ (View.read_writes_of_cover scM0_0.view fs _ _ _ (by intro y; apply scover0_E_0))⟩ <;> rfl)
    | (rw [outsAt0_G m c t h0 h1 h2 h3 h4 h5]; dsimp only; unfold out0_G_6 out0_G_7 sout0_G_0
       refine ⟨Eq.trans (b := _) ?_ (View.read_writes_of_cover (ms0_6 t).view f6 _ _ _ (by intro y; apply cover0_G_6)), Eq.trans (b := _) ?_ (View.read_writes_of_cover (ms0_7 t).view f7 _ _ _ (by intro y; apply cover0_G_7)), Eq.trans (b := _) ?_ (View.read_writes_of_cover scM0_0.view fs _ _ _ (by intro y; apply scover0_G_0))⟩ <;> rfl)
    | (rw [outsAt0_I m c t h0 h1 h2 h3 h4 h5]; dsimp only; unfold out0_I_6 out0_I_7 sout0_I_0
       refine ⟨Eq.trans (b := _) ?_ (View.read_writes_of_cover (ms0_6 t).view f6 _ _ _ (by intro y; apply cover0_I_6)), Eq.trans (b := _) ?_ (View.read_writes_of_cover (ms0_7 t).view f7 _ _ _ (by intro y; apply cover0_I_7)), Eq.trans (b := _) ?_ (View.read_writes_of_cover scM0_0.view fs _ _ _ (by intro y; apply scover0_I_0))⟩ <;> rfl)
    | (rw [outsAt0_K m c t h0 h1 h2 h3 h4 h5]; dsimp only; unfold out0_K_6 out0_K_7 sout0_K_0
       refine ⟨Eq.trans (b := _) ?_ (View.read_writes_of_cover (ms0_6 t).view f6 _ _ _ (by intro y; apply cover0_K_6)), Eq.trans (b := _) ?_ (View.read_writes_of_cover (ms0_7 t).view f7 _ _ _ (by intro y; apply cover0_K_7)), Eq.trans (b := _) ?_ (View.read_writes_of_cover scM0_0.view fs _ _ _ (by intro y; apply scover0_K_0))⟩ <;> rfl)

set_option maxHeartbeats 4000000 in
/-- What the pieces of another point leave: its codes and its carried rows. -/
theorem next_left (c : Dev nD) (t : Fin cfg0.N) (h0 : ¬t.val % 4 = 0) (f6 : (ms0_6 t).view.ty.Contents (Elt Ideal)) (f7 : (ms0_7 t).view.ty.Contents (Elt Ideal)) (fs : scM0_0.view.ty.Contents (Elt Ideal)) :
    (ms0_6 t).view.read (Elt Ideal) ((ms0_6 t).view.writes (Elt Ideal) f6 (nextAt m c t h0).1) = (outsAt0 m c t.val t.isLt).1
      ∧ (ms0_7 t).view.read (Elt Ideal) ((ms0_7 t).view.writes (Elt Ideal) f7 (nextAt m c t h0).2.1) = (outsAt0 m c t.val t.isLt).2.1
      ∧ scM0_0.view.read (Elt Ideal) (scM0_0.view.writes (Elt Ideal) fs (nextAt m c t h0).2.2.1) = (outsAt0 m c t.val t.isLt).2.2 := by
  have hN : t.val < 480 := t.isLt
  by_cases h1 : t.val < 24 <;> by_cases h2 : t.val / 24 % 20 = 1 <;> by_cases h3 : t.val / 24 % 20 = 2 <;> by_cases h4 : t.val / 24 % 20 = 3 <;> by_cases h5 : t.val / 24 % 20 = 4 <;> try (exfalso; omega)
  all_goals first
    | (rw [outsAt0_B m c t h0 h1 h2 h3 h4 h5]; dsimp only; unfold out0_B_6 out0_B_7 sout0_B_0
       refine ⟨Eq.trans (b := _) ?_ (View.read_writes_of_cover (ms0_6 t).view f6 _ _ _ (by intro y; apply cover0_B_6)), Eq.trans (b := _) ?_ (View.read_writes_of_cover (ms0_7 t).view f7 _ _ _ (by intro y; apply cover0_B_7)), Eq.trans (b := _) ?_ (View.read_writes_of_cover scM0_0.view fs _ _ _ (by intro y; apply scover0_B_0))⟩ <;> rfl)
    | (rw [outsAt0_D m c t h0 h1 h2 h3 h4 h5]; dsimp only; unfold out0_D_6 out0_D_7 sout0_D_0
       refine ⟨Eq.trans (b := _) ?_ (View.read_writes_of_cover (ms0_6 t).view f6 _ _ _ (by intro y; apply cover0_D_6)), Eq.trans (b := _) ?_ (View.read_writes_of_cover (ms0_7 t).view f7 _ _ _ (by intro y; apply cover0_D_7)), Eq.trans (b := _) ?_ (View.read_writes_of_cover scM0_0.view fs _ _ _ (by intro y; apply scover0_D_0))⟩ <;> rfl)
    | (rw [outsAt0_F m c t h0 h1 h2 h3 h4 h5]; dsimp only; unfold out0_F_6 out0_F_7 sout0_F_0
       refine ⟨Eq.trans (b := _) ?_ (View.read_writes_of_cover (ms0_6 t).view f6 _ _ _ (by intro y; apply cover0_F_6)), Eq.trans (b := _) ?_ (View.read_writes_of_cover (ms0_7 t).view f7 _ _ _ (by intro y; apply cover0_F_7)), Eq.trans (b := _) ?_ (View.read_writes_of_cover scM0_0.view fs _ _ _ (by intro y; apply scover0_F_0))⟩ <;> rfl)
    | (rw [outsAt0_H m c t h0 h1 h2 h3 h4 h5]; dsimp only; unfold out0_H_6 out0_H_7 sout0_H_0
       refine ⟨Eq.trans (b := _) ?_ (View.read_writes_of_cover (ms0_6 t).view f6 _ _ _ (by intro y; apply cover0_H_6)), Eq.trans (b := _) ?_ (View.read_writes_of_cover (ms0_7 t).view f7 _ _ _ (by intro y; apply cover0_H_7)), Eq.trans (b := _) ?_ (View.read_writes_of_cover scM0_0.view fs _ _ _ (by intro y; apply scover0_H_0))⟩ <;> rfl)
    | (rw [outsAt0_J m c t h0 h1 h2 h3 h4 h5]; dsimp only; unfold out0_J_6 out0_J_7 sout0_J_0
       refine ⟨Eq.trans (b := _) ?_ (View.read_writes_of_cover (ms0_6 t).view f6 _ _ _ (by intro y; apply cover0_J_6)), Eq.trans (b := _) ?_ (View.read_writes_of_cover (ms0_7 t).view f7 _ _ _ (by intro y; apply cover0_J_7)), Eq.trans (b := _) ?_ (View.read_writes_of_cover scM0_0.view fs _ _ _ (by intro y; apply scover0_J_0))⟩ <;> rfl)
    | (rw [outsAt0_L m c t h0 h1 h2 h3 h4 h5]; dsimp only; unfold out0_L_6 out0_L_7 sout0_L_0
       refine ⟨Eq.trans (b := _) ?_ (View.read_writes_of_cover (ms0_6 t).view f6 _ _ _ (by intro y; apply cover0_L_6)), Eq.trans (b := _) ?_ (View.read_writes_of_cover (ms0_7 t).view f7 _ _ _ (by intro y; apply cover0_L_7)), Eq.trans (b := _) ?_ (View.read_writes_of_cover scM0_0.view fs _ _ _ (by intro y; apply scover0_L_0))⟩ <;> rfl)

/-- The block a point at a sequence's start sends: its block of the scaled convolution. -/
theorem first_sends (c : Dev nD) (t : Fin cfg0.N) (h0 : t.val % 4 = 0) : (firstAt m c t h0).2.2.2.1 = convblk m c t := by
  unfold firstAt runFirst
  dsimp only
  sl_unfold_words
  refine (funext (pay9_apply _)).trans ?_
  simp only [View.readAt_eq_ld, (hs0_0 t).read_unread, (hs0_1 t).read_unread, (hs0_2 t).read_unread, (hs0_3 t).read_unread, (hs0_4 t).read_unread, (hs0_5 t).read_unread, View.ld_unit_zero (S := S512x2560) hz, View.ld_unit_zero (S := S2560x256) hz, View.ld_unit_zero (S := S1x256) hz]
  rw [ld_scale (iblk m c 0 t) 0 (by decide), ld_scale (iblk m c 0 t) 1 (by decide), ld_row (iblk m c 3 t) 0 (by decide), ld_row (iblk m c 3 t) 1 (by decide), ld_row (iblk m c 3 t) 2 (by decide), ld_row (iblk m c 3 t) 3 (by decide), pay6_eq,
    ld_reset 5 (by decide) _ _ _ _ _ pay5_apply, ld_reset 6 (by decide) _ _ _ _ _ pay5_apply, ld_reset 7 (by decide) _ _ _ _ _ pay5_apply]
  unfold convblk haloIn
  rw [if_pos h0]
  rfl

/-- The block another point sends: its block of the scaled convolution. -/
theorem next_sends (c : Dev nD) (t : Fin cfg0.N) (h0 : ¬t.val % 4 = 0) : (nextAt m c t h0).2.2.2.1 = convblk m c t := by
  unfold nextAt runNext
  dsimp only
  sl_unfold_words
  refine (funext (pay9_apply _)).trans ?_
  simp only [View.readAt_eq_ld, (hs0_0 t).read_unread, (hs0_1 t).read_unread, (hs0_2 t).read_unread, (hs0_3 t).read_unread, (hs0_4 t).read_unread, (hs0_5 t).read_unread, View.ld_unit_zero (S := S512x2560) hz, View.ld_unit_zero (S := S2560x256) hz, View.ld_unit_zero (S := S1x256) hz]
  rw [ld_scale (iblk m c 0 t) 0 (by decide), ld_scale (iblk m c 0 t) 1 (by decide), ld_row (iblk m c 3 t) 0 (by decide), ld_row (iblk m c 3 t) 1 (by decide), ld_row (iblk m c 3 t) 2 (by decide), ld_row (iblk m c 3 t) 3 (by decide), pay6_eq,
    ld_next 5 (by decide), ld_next 6 (by decide), ld_next 7 (by decide), (Memref.isWhole_whole cc0_scratch0).read_unread]
  unfold convblk haloIn
  rw [if_neg h0]
  rfl

end Cert.Proof.InX

end
-- ==== Proof.InXBody.lean ====
/-
  Hand-written, untrusted. The run of `in_x` with the array of the scaled convolution named: after `n` points it holds what the
  transfers of those points left in it, one after the other.
-/
module

public import proofs.«01_k».proof.Proof.InXLeft
public import Idealize.ShloMosaic.Lib.Pipeline.FrameValue

@[expose] public section

set_option maxRecDepth 16384

noncomputable section

namespace Cert.Proof.InX

open Cert.InXIdeal Cert.InXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

/-- The array of the scaled convolution after the first `n` points. -/
def convArr (c : Dev nD) : ℕ → Buf (Elt Ideal) ((c : Thread nD τ).loc main_v2_2)
  | 0 => V m c main_v2_2
  | n + 1 => if h : n < cfg0.N then sent c (grid0.coords ⟨n, h⟩) (convblk m c ⟨n, h⟩) (convArr c n) else convArr c n

/-- The array after one more point. -/
theorem convArr_succ (c : Dev nD) (t : Fin cfg0.N) : convArr m c (t.val + 1) = sent c (grid0.coords t) (convblk m c t) (convArr m c t.val) :=
  dif_pos t.isLt

/-- The invariant before point `n`: the carried rows at what the point before left (at anything before the first point), the other
    scratch at anything, and the array of the scaled convolution at what the points so far left. -/
def PhiV (c : Dev nD) : (n : ℕ) → n ≤ cfg0.N → sProp 𝕄
  | 0, _ => iprop(iprop((∃ d, owns (c : Thread nD τ) scM0_0 fullShare d) ∗ (∃ d, owns (c : Thread nD τ) scM0_1 fullShare d)) ∗ (∃ r, prngReg c r) ∗ iprop(semVal ((c : Thread nD τ), SemLoc.dma 15) 0) ∗ iprop(emp) ∗ iprop(hbPt0 c hbM0_0 (convArr m c 0)))
  | n + 1, hn => iprop(iprop(owns (c : Thread nD τ) scM0_0 fullShare ((outsAt0 m c n hn).2.2) ∗ (∃ d, owns (c : Thread nD τ) scM0_1 fullShare d)) ∗ (∃ r, prngReg c r) ∗ iprop(semVal ((c : Thread nD τ), SemLoc.dma 15) 0) ∗ iprop(emp) ∗ iprop(hbPt0 c hbM0_0 (convArr m c (n + 1))))

/-- The invariant before the first point. -/
theorem PhiV_zero (c : Dev nD) (n : ℕ) (h : n ≤ cfg0.N) (hz : n = 0) : PhiV m c n h = iprop(iprop((∃ d, owns (c : Thread nD τ) scM0_0 fullShare d) ∗ (∃ d, owns (c : Thread nD τ) scM0_1 fullShare d)) ∗ (∃ r, prngReg c r) ∗ iprop(semVal ((c : Thread nD τ), SemLoc.dma 15) 0) ∗ iprop(emp) ∗ iprop(hbPt0 c hbM0_0 (convArr m c 0))) := by
  subst hz; rfl

/-- The invariant after a point. -/
theorem PhiV_succ (c : Dev nD) (n : ℕ) (hn : n < cfg0.N) :
    PhiV m c (n + 1) hn = iprop(iprop(owns (c : Thread nD τ) scM0_0 fullShare ((outsAt0 m c n hn).2.2) ∗ (∃ d, owns (c : Thread nD τ) scM0_1 fullShare d)) ∗ (∃ r, prngReg c r) ∗ iprop(semVal ((c : Thread nD τ), SemLoc.dma 15) 0) ∗ iprop(emp) ∗ iprop(hbPt0 c hbM0_0 (convArr m c (n + 1)))) := rfl

/-- The invariant before a point that is not the first. -/
theorem PhiV_pos (c : Dev nD) (n : ℕ) (h : n ≤ cfg0.N) (hz : n ≠ 0) :
    PhiV m c n h = iprop(iprop(owns (c : Thread nD τ) scM0_0 fullShare ((outsAt0 m c (n - 1) (by omega)).2.2) ∗ (∃ d, owns (c : Thread nD τ) scM0_1 fullShare d)) ∗ (∃ r, prngReg c r) ∗ iprop(semVal ((c : Thread nD τ), SemLoc.dma 15) 0) ∗ iprop(emp) ∗ iprop(hbPt0 c hbM0_0 (convArr m c n))) := by
  cases n with
  | zero => exact absurd rfl hz
  | succ n => rfl

/-- The pipeline's data: arrays and blocks as before, with the invariant `PhiV`. -/
def datsV (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiV m c t.val (Nat.le_of_lt_succ t.isLt)
  q _ := fullShare
  owed _ := 0

/-- The arrays are those the region finds. -/
theorem A_eqV (c : Dev nD) (w : Fin cfg0.W) : (datsV m 0 c).A w = V m c (Pipeline.arrRef spec0 w) := by
  dsimp only [datsV]

/-- The invariant at a point's start. -/
theorem PhiV_castSucc (c : Dev nD) (t : Fin cfg0.N) :
    (datsV m 0 c).Φ t.castSucc = PhiV m c t.val (Nat.le_of_lt t.isLt) := by
  dsimp only [datsV]; exact Pipeline.Dat.Φ_castSucc (PhiV m c) t

/-- Window 0 after a point. -/
theorem afterV_0 (c : Dev nD) (t : Fin cfg0.N) : (datsV m 0 c).after 0 t = iblk m c 0 t := by dsimp only [datsV]
/-- Window 1 after a point. -/
theorem afterV_1 (c : Dev nD) (t : Fin cfg0.N) : (datsV m 0 c).after 1 t = iblk m c 1 t := by dsimp only [datsV]
/-- Window 2 after a point. -/
theorem afterV_2 (c : Dev nD) (t : Fin cfg0.N) : (datsV m 0 c).after 2 t = iblk m c 2 t := by dsimp only [datsV]
/-- Window 3 after a point. -/
theorem afterV_3 (c : Dev nD) (t : Fin cfg0.N) : (datsV m 0 c).after 3 t = iblk m c 3 t := by dsimp only [datsV]
/-- Window 4 after a point. -/
theorem afterV_4 (c : Dev nD) (t : Fin cfg0.N) : (datsV m 0 c).after 4 t = iblk m c 4 t := by dsimp only [datsV]
/-- Window 5 after a point. -/
theorem afterV_5 (c : Dev nD) (t : Fin cfg0.N) : (datsV m 0 c).after 5 t = iblk m c 5 t := by dsimp only [datsV]
/-- Window 6 after a point. -/
theorem afterV_6 (c : Dev nD) (t : Fin cfg0.N) : (datsV m 0 c).after 6 t = (outsAt0 m c t.val t.isLt).1 := by dsimp only [datsV]
/-- Window 7 after a point. -/
theorem afterV_7 (c : Dev nD) (t : Fin cfg0.N) : (datsV m 0 c).after 7 t = (outsAt0 m c t.val t.isLt).2.1 := by dsimp only [datsV]

/-- Window 0 before a point: its block. -/
theorem beforeV_0 (c : Dev nD) (t : Fin cfg0.N) (d) : (datsV m 0 c).before 0 t d = iblk m c 0 t :=
  before0_0_of m (datsV m 0 c) (A_eqV m c 0) (afterV_0 m c) t d
/-- Window 1 before a point: its block. -/
theorem beforeV_1 (c : Dev nD) (t : Fin cfg0.N) (d) : (datsV m 0 c).before 1 t d = iblk m c 1 t :=
  before0_1_of m (datsV m 0 c) (A_eqV m c 1) (afterV_1 m c) t d
/-- Window 2 before a point: its block. -/
theorem beforeV_2 (c : Dev nD) (t : Fin cfg0.N) (d) : (datsV m 0 c).before 2 t d = iblk m c 2 t :=
  before0_2_of m (datsV m 0 c) (A_eqV m c 2) (afterV_2 m c) t d
/-- Window 3 before a point: its block. -/
theorem beforeV_3 (c : Dev nD) (t : Fin cfg0.N) (d) : (datsV m 0 c).before 3 t d = iblk m c 3 t :=
  before0_3_of m (datsV m 0 c) (A_eqV m c 3) (afterV_3 m c) t d
/-- Window 4 before a point: its block. -/
theorem beforeV_4 (c : Dev nD) (t : Fin cfg0.N) (d) : (datsV m 0 c).before 4 t d = iblk m c 4 t :=
  before0_4_of m (datsV m 0 c) (A_eqV m c 4) (afterV_4 m c) t d
/-- Window 5 before a point: its block. -/
theorem beforeV_5 (c : Dev nD) (t : Fin cfg0.N) (d) : (datsV m 0 c).before 5 t d = iblk m c 5 t :=
  before0_5_of m (datsV m 0 c) (A_eqV m c 5) (afterV_5 m c) t d

/-- What the body is called with at a point. -/
def preV (c : Dev nD) (t : Fin cfg0.N) : sProp 𝕄 :=
  iprop((datsV m 0 c).Φ t.castSucc ∗ (datsV m 0 c).owesAt () t.castSucc
    ∗ (∃ d, owns (c : Thread nD τ) (ms0_0 t) fullShare ((datsV m 0 c).before 0 t d))
    ∗ (∃ d, owns (c : Thread nD τ) (ms0_1 t) fullShare ((datsV m 0 c).before 1 t d))
    ∗ (∃ d, owns (c : Thread nD τ) (ms0_2 t) fullShare ((datsV m 0 c).before 2 t d))
    ∗ (∃ d, owns (c : Thread nD τ) (ms0_3 t) fullShare ((datsV m 0 c).before 3 t d))
    ∗ (∃ d, owns (c : Thread nD τ) (ms0_4 t) fullShare ((datsV m 0 c).before 4 t d))
    ∗ (∃ d, owns (c : Thread nD τ) (ms0_5 t) fullShare ((datsV m 0 c).before 5 t d))
    ∗ (∃ d, owns (c : Thread nD τ) (ms0_6 t) fullShare ((datsV m 0 c).before 6 t d))
    ∗ (∃ d, owns (c : Thread nD τ) (ms0_7 t) fullShare ((datsV m 0 c).before 7 t d)))

/-- What the body returns at a point. -/
def postV (c : Dev nD) (t : Fin cfg0.N) : sProp 𝕄 :=
  iprop((datsV m 0 c).Φ t.succ ∗ (datsV m 0 c).owesAt () t.succ
    ∗ owns (c : Thread nD τ) (ms0_0 t) fullShare ((datsV m 0 c).after 0 t)
    ∗ owns (c : Thread nD τ) (ms0_1 t) fullShare ((datsV m 0 c).after 1 t)
    ∗ owns (c : Thread nD τ) (ms0_2 t) fullShare ((datsV m 0 c).after 2 t)
    ∗ owns (c : Thread nD τ) (ms0_3 t) fullShare ((datsV m 0 c).after 3 t)
    ∗ owns (c : Thread nD τ) (ms0_4 t) fullShare ((datsV m 0 c).after 4 t)
    ∗ owns (c : Thread nD τ) (ms0_5 t) fullShare ((datsV m 0 c).after 5 t)
    ∗ owns (c : Thread nD τ) (ms0_6 t) fullShare ((datsV m 0 c).after 6 t)
    ∗ owns (c : Thread nD τ) (ms0_7 t) fullShare ((datsV m 0 c).after 7 t))

set_option maxHeartbeats 4000000 in
/-- The body at a sequence's start, from the invariant with the carried rows at anything. -/
theorem sound_first (c : Dev nD) (t : Fin cfg0.N) (h0 : t.val % 4 = 0) :
    iprop(iprop(iprop((∃ d, owns (c : Thread nD τ) scM0_0 fullShare d) ∗ (∃ d, owns (c : Thread nD τ) scM0_1 fullShare d)) ∗ (∃ r, prngReg c r) ∗ iprop(semVal ((c : Thread nD τ), SemLoc.dma 15) 0) ∗ iprop(emp) ∗ iprop(hbPt0 c hbM0_0 (convArr m c t.val))) ∗ (datsV m 0 c).owesAt () t.castSucc
    ∗ (∃ d, owns (c : Thread nD τ) (ms0_0 t) fullShare ((datsV m 0 c).before 0 t d))
    ∗ (∃ d, owns (c : Thread nD τ) (ms0_1 t) fullShare ((datsV m 0 c).before 1 t d))
    ∗ (∃ d, owns (c : Thread nD τ) (ms0_2 t) fullShare ((datsV m 0 c).before 2 t d))
    ∗ (∃ d, owns (c : Thread nD τ) (ms0_3 t) fullShare ((datsV m 0 c).before 3 t d))
    ∗ (∃ d, owns (c : Thread nD τ) (ms0_4 t) fullShare ((datsV m 0 c).before 4 t d))
    ∗ (∃ d, owns (c : Thread nD τ) (ms0_5 t) fullShare ((datsV m 0 c).before 5 t d))
    ∗ (∃ d, owns (c : Thread nD τ) (ms0_6 t) fullShare ((datsV m 0 c).before 6 t d))
    ∗ (∃ d, owns (c : Thread nD τ) (ms0_7 t) fullShare ((datsV m 0 c).before 7 t d)))
      ⊢ wp frame (wpE (defs₀ (F := Ideal)) Variants.none c none) Set.univ (bodyAt0 t) (fun _ => postV m c t) := by
  unfold postV bodyAt0
  simp only [beforeV_0, beforeV_1, beforeV_2, beforeV_3, beforeV_4, beforeV_5]
  rw [show (datsV m 0 c).Φ t.succ = PhiV m c (t.val + 1) t.isLt from rfl, PhiV_succ, convArr_succ,
    afterV_0, afterV_1, afterV_2, afterV_3, afterV_4, afterV_5, afterV_6, afterV_7]
  unfold Dat.owesAt Pipeline.owesWithin
  rw [show (datsV m 0 c).owed t.castSucc = 0 from rfl, show (datsV m 0 c).owed t.succ = 0 from rfl]
  iintro ⟨⟨⟨HS0, HS1⟩, Hg, Hq0, -, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply (((firstAt m c t h0).2.2.2.2) (convArr m c t.val) W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  isplitl [Hq0]; · iexact Hq0
  isplitl [Hh0]; · iexact Hh0
  isplitl [HW]; · iexact HW
  rw [first_sends m c t h0]
  iintro ⟨H0, H1, H2, H3, H4, H5, ⟨%e6, H6⟩, ⟨%e7, H7⟩, ⟨%es0, HS0⟩, HS1, Hq0, Hh0, ⟨%W', HW'⟩⟩
  obtain ⟨l6, l7, ls⟩ := first_left m c t h0 e6 e7 es0
  isplitl [HS0 HS1 Hg Hq0 Hh0]
  · isplitl [HS0 HS1]
    · isplitl [HS0]
      · unfold owns; iexists _; isplitr
        swap; · iexact HS0
        ipureintro; exact ls
      iexact HS1
    isplitl [Hg]
    · iexact Hg
    isplitl [Hq0]
    · iexact Hq0
    isplitr; · iempintro
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact l6
  unfold owns; iexists _; isplitr
  swap; · iexact H7
  ipureintro; exact l7

set_option maxHeartbeats 4000000 in
/-- The body at another point, from the invariant with the carried rows at what the point before left. -/
theorem sound_next (c : Dev nD) (t : Fin cfg0.N) (h0 : ¬t.val % 4 = 0) :
    iprop(iprop(iprop((owns (c : Thread nD τ) scM0_0 fullShare ((outsAt0 m c (t.val - 1) (Nat.lt_of_le_of_lt (Nat.sub_le _ _) t.isLt)).2.2)) ∗ (∃ d, owns (c : Thread nD τ) scM0_1 fullShare d)) ∗ (∃ r, prngReg c r) ∗ iprop(semVal ((c : Thread nD τ), SemLoc.dma 15) 0) ∗ iprop(emp) ∗ iprop(hbPt0 c hbM0_0 (convArr m c t.val))) ∗ (datsV m 0 c).owesAt () t.castSucc
    ∗ (∃ d, owns (c : Thread nD τ) (ms0_0 t) fullShare ((datsV m 0 c).before 0 t d))
    ∗ (∃ d, owns (c : Thread nD τ) (ms0_1 t) fullShare ((datsV m 0 c).before 1 t d))
    ∗ (∃ d, owns (c : Thread nD τ) (ms0_2 t) fullShare ((datsV m 0 c).before 2 t d))
    ∗ (∃ d, owns (c : Thread nD τ) (ms0_3 t) fullShare ((datsV m 0 c).before 3 t d))
    ∗ (∃ d, owns (c : Thread nD τ) (ms0_4 t) fullShare ((datsV m 0 c).before 4 t d))
    ∗ (∃ d, owns (c : Thread nD τ) (ms0_5 t) fullShare ((datsV m 0 c).before 5 t d))
    ∗ (∃ d, owns (c : Thread nD τ) (ms0_6 t) fullShare ((datsV m 0 c).before 6 t d))
    ∗ (∃ d, owns (c : Thread nD τ) (ms0_7 t) fullShare ((datsV m 0 c).before 7 t d)))
      ⊢ wp frame (wpE (defs₀ (F := Ideal)) Variants.none c none) Set.univ (bodyAt0 t) (fun _ => postV m c t) := by
  unfold postV bodyAt0
  simp only [beforeV_0, beforeV_1, beforeV_2, beforeV_3, beforeV_4, beforeV_5]
  rw [show (datsV m 0 c).Φ t.succ = PhiV m c (t.val + 1) t.isLt from rfl, PhiV_succ, convArr_succ,
    afterV_0, afterV_1, afterV_2, afterV_3, afterV_4, afterV_5, afterV_6, afterV_7]
  unfold Dat.owesAt Pipeline.owesWithin
  rw [show (datsV m 0 c).owed t.castSucc = 0 from rfl, show (datsV m 0 c).owed t.succ = 0 from rfl]
  iintro ⟨⟨⟨HS0, HS1⟩, Hg, Hq0, -, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply (((nextAt m c t h0).2.2.2.2) (convArr m c t.val) W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  isplitl [Hq0]; · iexact Hq0
  isplitl [Hh0]; · iexact Hh0
  isplitl [HW]; · iexact HW
  rw [next_sends m c t h0]
  iintro ⟨H0, H1, H2, H3, H4, H5, ⟨%e6, H6⟩, ⟨%e7, H7⟩, ⟨%es0, HS0⟩, HS1, Hq0, Hh0, ⟨%W', HW'⟩⟩
  obtain ⟨l6, l7, ls⟩ := next_left m c t h0 e6 e7 es0
  isplitl [HS0 HS1 Hg Hq0 Hh0]
  · isplitl [HS0 HS1]
    · isplitl [HS0]
      · unfold owns; iexists _; isplitr
        swap; · iexact HS0
        ipureintro; exact ls
      iexact HS1
    isplitl [Hg]
    · iexact Hg
    isplitl [Hq0]
    · iexact Hq0
    isplitr; · iempintro
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact l6
  unfold owns; iexists _; isplitr
  swap; · iexact H7
  ipureintro; exact l7

/-- The carried rows at what the point before left are the carried rows at something. -/
theorem forget_rows (c : Dev nD) (t : Fin cfg0.N) (X : sProp 𝕄) :
    iprop(iprop(iprop(owns (c : Thread nD τ) scM0_0 fullShare ((outsAt0 m c (t.val - 1) (Nat.lt_of_le_of_lt (Nat.sub_le _ _) t.isLt)).2.2) ∗ (∃ d, owns (c : Thread nD τ) scM0_1 fullShare d)) ∗ (∃ r, prngReg c r) ∗ iprop(semVal ((c : Thread nD τ), SemLoc.dma 15) 0) ∗ iprop(emp) ∗ iprop(hbPt0 c hbM0_0 (convArr m c t.val))) ∗ X) ⊢ iprop(iprop(iprop((∃ d, owns (c : Thread nD τ) scM0_0 fullShare d) ∗ (∃ d, owns (c : Thread nD τ) scM0_1 fullShare d)) ∗ (∃ r, prngReg c r) ∗ iprop(semVal ((c : Thread nD τ), SemLoc.dma 15) 0) ∗ iprop(emp) ∗ iprop(hbPt0 c hbM0_0 (convArr m c t.val))) ∗ X) := by
  iintro ⟨⟨⟨HS0, HS1⟩, Hr⟩, Hs⟩
  isplitl [HS0 HS1 Hr]
  · isplitl [HS0 HS1]
    · isplitl [HS0]
      · iexists _; iexact HS0
      iexact HS1
    iexact Hr
  iexact Hs

/-- The body at any point. -/
theorem sound_bodyV (c : Dev nD) (t : Fin cfg0.N) :
    preV m c t ⊢ wp frame (wpE (defs₀ (F := Ideal)) Variants.none c none) Set.univ (bodyAt0 t) (fun _ => postV m c t) := by
  unfold preV
  rw [PhiV_castSucc m c t]
  by_cases h0 : t.val % 4 = 0
  · by_cases hz : t.val = 0
    · rw [PhiV_zero m c _ _ hz]
      have key := sound_first m c t h0
      rw [hz] at key
      exact key
    · rw [PhiV_pos m c _ _ hz]
      exact Idealize.SL.BI.Entails.trans (forget_rows m c t _) (sound_first m c t h0)
  · have hz : t.val ≠ 0 := fun h => h0 (by rw [h])
    rw [PhiV_pos m c _ _ hz]
    exact sound_next m c t h0

/-- The library's body obligation. -/
theorem body_obligationV (c : Dev nD) : BodyObligation (datsV m 0 c) (defs₀ (F := Ideal)) Variants.none () Set.univ := fun t => by
  rw [bigSep_W0, bigSep_W0, defs₀_row]
  exact triple_restated (sound_bodyV m c t) rfl .rfl fun _ => .rfl

/-- What every buffer holds at the end, as far as it is named here: the array of the scaled convolution at what all points left. -/
def endV (c : Dev nD) : (b : Ref sig .tc) → Buf (Elt Ideal) ((c.tc : Thread nD τ).loc b) :=
  Function.update (V m c) main_v2_2 (convArr m c cfg0.N)

/-- The array of the scaled convolution at the end. -/
theorem endV_self (c : Dev nD) : endV m c main_v2_2 = convArr m c cfg0.N := Function.update_self _ _ _

/-- The buffer the body writes itself, named. -/
theorem routed_eq (c : Dev nD) (W : (b : Ref sig .tc) → Buf (Elt Ideal) ((c.tc : Thread nD τ).loc b)) :
    (Pipeline.routed R0 c W : sProp 𝕄) = iprop(hbPt0 c hbM0_0 (W main_v2_2)) := by
  unfold Pipeline.routed; rw [BI.bigSep_eq_bigSepL_of_eq [main_v2_2] (by decide) (by decide)]; rfl

/-- The launch's invariant with the written buffer at given contents, conjunct by conjunct. -/
theorem PhiDRG0_eq (c : Dev nD) (W : (c : Dev nD) → (b : Ref sig .tc) → Buf (Elt Ideal) ((c.tc : Thread nD τ).loc b)) :
    (Pipeline.ΦDRG osem0 spec0 H0 R0 (V m) W c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 15) 0) ∗ iprop(emp) ∗ iprop(hbPt0 c hbM0_0 (W c main_v2_2))) := by
  rw [Pipeline.ΦDRG_eq, scopedRest0_eq, ownSems00_eq, hbmPts0_eq, routed_eq]; simp only [scM0_0, scM0_1, owns_whole]; try rfl

/-- The launch hands the region the invariant before the first point. -/
theorem hinV (c : Dev nD) : Pipeline.ΦDRG osem0 spec0 H0 R0 (V m) (V m) c ⊢ (datsV m 0 c).Φ 0 := by
  rw [show (datsV m 0 c).Φ 0 = PhiV m c 0 (Nat.zero_le _) from rfl, PhiV_zero m c 0 _ rfl, PhiDRG0_eq]
  exact Idealize.SL.BI.Entails.refl _

/-- After any point but the first the invariant gives the array at what the points so far left. -/
theorem Phi_outV (c : Dev nD) (t : Fin (cfg0.N + 1)) (ht : t.val ≠ 0) : (datsV m 0 c).Φ t ⊢ iprop(iprop((∃ d, owns (c : Thread nD τ) scM0_0 fullShare d) ∗ (∃ d, owns (c : Thread nD τ) scM0_1 fullShare d)) ∗ (∃ r, prngReg c r) ∗ iprop(semVal ((c : Thread nD τ), SemLoc.dma 15) 0) ∗ iprop(emp) ∗ iprop(hbPt0 c hbM0_0 (convArr m c t.val))) := by
  rw [show (datsV m 0 c).Φ t = PhiV m c t.val (Nat.le_of_lt_succ t.isLt) from rfl, PhiV_pos m c _ _ ht]
  iintro ⟨⟨HS0, HS1⟩, Hr⟩
  isplitl [HS0 HS1]
  · isplitl [HS0]
    · iexists _; iexact HS0
    iexact HS1
  iexact Hr

/-- After the last point the invariant gives the array back at what all points left. -/
theorem houtV (c : Dev nD) : (datsV m 0 c).Φ (Fin.last cfg0.N) ⊢ Pipeline.ΦDRG osem0 spec0 H0 R0 (V m) (endV m) c := by
  have hv : (Fin.last cfg0.N).val ≠ 0 := by rw [Fin.val_last]; have : cfg0.N = 480 := N_0; omega
  have h := Phi_outV m c (Fin.last cfg0.N) hv
  rw [PhiDRG0_eq, endV_self]
  exact h

/-- The run, with the array of the scaled convolution at what all points left in it. -/
theorem conv_run : θ_run defs (onTc (τ := τ) (main (F := Ideal))) ⟨m, fun _ => 0, ρ⟩ (fun r => ∀ c : Dev nD, r.2.mem ((c.tc : Thread nD τ).loc main_v2_2) = convArr m c cfg0.N) :=
  (θ_run defs _ _).mono (fun r h c => (h.written c (b := main_v2_2) (by decide)).trans (endV_self m c))
    (Pipeline.θ_run_frame_dmaRG (Q' := Pipeline.FramePostRG cfgs (datsV m) 0 R0 (V m) (endV m)) cfgs (datsV m) (0 : Fin 1) launch0 osem0 defs₀ Variants.none ownSemFacts0 H0 R0 H0_sub R0_sub m ρ main
      (hbody := fun c => (body_obligationV m c).loose) (hshare := fun c => (datsV m 0 c).share_full fun _ => rfl)
      (howed := fun _ _ => rfl) (V := V m) (hmain := hmain m Variants.none) (hA := A_eqV m) (G := endV m)
      (hin := hinV m) (hout := houtV m))

end Cert.Proof.InX

end
-- ==== Proof.InXVal.lean ====
/-
  Hand-written, untrusted. `in_x`: what each point leaves, as entries of the arrays the arguments determine; the points' blocks
  make up the two arrays of codes.
-/
module

public import proofs.«01_k».proof.Proof.InXRun

@[expose] public section

set_option maxRecDepth 16384

noncomputable section

namespace Cert.Proof.InX

open Cert.InXIdeal Cert.InXIdeal.Gen Idealize.ShloMosaic Idealize.ShloMosaic.TcCoe Idealize.SL.Sem
open Idealize.ShloMosaic.Pipeline (Dat)

/-- The windows' block indices at each point: rows move with the point inside a group of 24, columns with the group. -/
theorem idx_facts : ∀ t : Fin cfg0.N, win0_0.index t 0 = 0 ∧ win0_1.index t 0 = t.val % 24 ∧ win0_1.index t 1 = 0 ∧ win0_2.index t 0 = 0 ∧ win0_2.index t 1 = t.val / 24 ∧ win0_3.index t 0 = 0 ∧ win0_3.index t 1 = t.val / 24
    ∧ win0_4.index t 0 = 0 ∧ win0_4.index t 1 = t.val / 24 ∧ win0_5.index t 0 = 0 ∧ win0_5.index t 1 = t.val / 24
    ∧ win0_6.index t 0 = t.val % 24 ∧ win0_6.index t 1 = t.val / 24 ∧ win0_7.index t 0 = t.val % 24 ∧ win0_7.index t 1 = t.val / 24 :=
  (by decide +kernel : ∀ t : Fin grid0.N, win0_0.index t 0 = 0 ∧ win0_1.index t 0 = t.val % 24 ∧ win0_1.index t 1 = 0 ∧ win0_2.index t 0 = 0 ∧ win0_2.index t 1 = t.val / 24 ∧ win0_3.index t 0 = 0 ∧ win0_3.index t 1 = t.val / 24
    ∧ win0_4.index t 0 = 0 ∧ win0_4.index t 1 = t.val / 24 ∧ win0_5.index t 0 = 0 ∧ win0_5.index t 1 = t.val / 24
    ∧ win0_6.index t 0 = t.val % 24 ∧ win0_6.index t 1 = t.val / 24 ∧ win0_7.index t 0 = t.val % 24 ∧ win0_7.index t 1 = t.val / 24)

/-- The array's row that a point's row `a` is. -/
def rowOf (t : Fin cfg0.N) (a : Fin 512) : Fin 12288 := ⟨t.val % 24 * 512 + a.val, by omega⟩

/-- The array's column that a point's column `b` is. -/
def colOf (t : Fin cfg0.N) (b : Fin 256) : Fin 5120 := ⟨t.val / 24 * 256 + b.val, by have : t.val < 480 := t.isLt; omega⟩

variable (m : (ℓ : Loc nD τ sig) → Buf (Elt Ideal) ℓ)

/-- The scales, as launched. -/
abbrev aSc (c : Dev nD) : Vec Ideal S8 .f32 := m ((c : Thread nD τ).loc main_arg0)
/-- The normed codes, as launched. -/
abbrev aN (c : Dev nD) : Vec Ideal S12288x2560 .i8 := m ((c : Thread nD τ).loc main_arg1)
/-- The projection's weight, as launched. -/
abbrev aW (c : Dev nD) : Vec Ideal S2560x10240 .bf16 := m ((c : Thread nD τ).loc main_arg2)
/-- The convolution's weight, as launched. -/
abbrev aCw (c : Dev nD) : Vec Ideal S4x5120 .i8 := m ((c : Thread nD τ).loc main_arg3)
/-- The convolution's column scales, as launched. -/
abbrev aSv (c : Dev nD) : Vec Ideal S5120 .f32 := m ((c : Thread nD τ).loc main_arg4)
/-- The convolution's bias, as launched. -/
abbrev aCb (c : Dev nD) : Vec Ideal S5120 .f32 := m ((c : Thread nD τ).loc main_arg5)

/-- The column scales the kernel reads are the argument's, as one row. -/
theorem V_sv (c : Dev nD) (j : S1x5120.Idx) : V m c main_v0 j = aSv m c (ix1 (j 1)) := by
  entry_read
  pointwise

/-- The bias the kernel reads is the argument's, as one row. -/
theorem V_cb (c : Dev nD) (j : S1x5120.Idx) : V m c main_v1 j = aCb m c (ix1 (j 1)) := by
  entry_read
  pointwise

/-- A scale at a point is the scale as launched. -/
theorem sc_blk (c : Dev nD) (t : Fin cfg0.N) (k : Fin 8) : iblk m c 0 t (ix1 k) = aSc m c (ix1 k) := by
  obtain ⟨e0, -⟩ := idx_facts t
  unfold iblk
  rw [View.read_apply]
  show m (c.tc.loc main_arg0) _ = m (c.tc.loc main_arg0) _
  congr 1
  funext a
  apply Fin.ext
  match a with
  | ⟨0, _⟩ => show win0_0.index t 0 * 8 + 1 * k.val = k.val; rw [e0]; omega

/-- A weight of the convolution at a point. -/
theorem cw_blk (c : Dev nD) (t : Fin cfg0.N) (k : Fin 4) (j : S512x256.Idx) : iblk m c 3 t (ix2 k (j 1)) = aCw m c (ix2 k (colOf t (j 1))) := by
  obtain ⟨-, -, -, -, -, e0, e1, -⟩ := idx_facts t
  unfold iblk
  rw [View.read_apply]
  show m (c.tc.loc main_arg3) _ = m (c.tc.loc main_arg3) _
  congr 1
  funext a
  apply Fin.ext
  match a with
  | ⟨0, _⟩ => show win0_3.index t 0 * 4 + 1 * k.val = k.val; rw [e0]; omega
  | ⟨1, _⟩ => show win0_3.index t 1 * 256 + 1 * (j 1).val = t.val / 24 * 256 + (j 1).val; rw [e1]; omega

/-- A column scale at a point. -/
theorem sv_blk (c : Dev nD) (t : Fin cfg0.N) (j : S512x256.Idx) : iblk m c 4 t (ix2 0 (j 1)) = aSv m c (ix1 (colOf t (j 1))) := by
  obtain ⟨-, -, -, -, -, -, -, e0, e1, -⟩ := idx_facts t
  unfold iblk
  rw [View.read_apply]
  refine Eq.trans ?_ (V_sv m c (ix2 0 (colOf t (j 1))))
  show V m c main_v0 _ = V m c main_v0 _
  congr 1
  funext a
  apply Fin.ext
  match a with
  | ⟨0, _⟩ => show win0_4.index t 0 * 1 + 1 * 0 = 0; rw [e0]
  | ⟨1, _⟩ => show win0_4.index t 1 * 256 + 1 * (j 1).val = t.val / 24 * 256 + (j 1).val; rw [e1]; omega

/-- The bias at a point. -/
theorem cb_blk (c : Dev nD) (t : Fin cfg0.N) (j : S512x256.Idx) : iblk m c 5 t (ix2 0 (j 1)) = aCb m c (ix1 (colOf t (j 1))) := by
  obtain ⟨-, -, -, -, -, -, -, -, -, e0, e1, -⟩ := idx_facts t
  unfold iblk
  rw [View.read_apply]
  refine Eq.trans ?_ (V_cb m c (ix2 0 (colOf t (j 1))))
  show V m c main_v1 _ = V m c main_v1 _
  congr 1
  funext a
  apply Fin.ext
  match a with
  | ⟨0, _⟩ => show win0_5.index t 0 * 1 + 1 * 0 = 0; rw [e0]
  | ⟨1, _⟩ => show win0_5.index t 1 * 256 + 1 * (j 1).val = t.val / 24 * 256 + (j 1).val; rw [e1]; omega

/-- The projection of a point's block is the arrays' at the block's rows and columns. -/
theorem lin_blk (c : Dev nD) (t : Fin cfg0.N) (j : S512x256.Idx) :
    blin (iblk m c 1 t) (iblk m c 2 t) (iblk m c 0 t (ix1 0)) j = lin (aSc m c) (aN m c) (aW m c) (rowOf t (j 0)) (colOf t (j 1)) := by
  obtain ⟨-, e1, e2, e3, e4, -⟩ := idx_facts t
  have hx : ∀ k : Fin 2560, iblk m c 1 t (ix2 (j 0) k) = aN m c (ix2 (rowOf t (j 0)) k) := by
    intro k
    unfold iblk
    rw [View.read_apply]
    show m (c.tc.loc main_arg1) _ = m (c.tc.loc main_arg1) _
    congr 1
    funext b
    apply Fin.ext
    match b with
    | ⟨0, _⟩ => show win0_1.index t 0 * 512 + 1 * (j 0).val = t.val % 24 * 512 + (j 0).val; rw [e1]; omega
    | ⟨1, _⟩ => show win0_1.index t 1 * 2560 + 1 * k.val = k.val; rw [e2]; omega
  have hw : ∀ k : Fin 2560, iblk m c 2 t (ix2 k (j 1)) = aW m c (ix2 k ⟨(colOf t (j 1)).val, by have := (colOf t (j 1)).isLt; omega⟩) := by
    intro k
    unfold iblk
    rw [View.read_apply]
    show m (c.tc.loc main_arg2) _ = m (c.tc.loc main_arg2) _
    congr 1
    funext b
    apply Fin.ext
    match b with
    | ⟨0, _⟩ => show win0_2.index t 0 * 2560 + 1 * k.val = k.val; rw [e3]; omega
    | ⟨1, _⟩ => show win0_2.index t 1 * 256 + 1 * (j 1).val = t.val / 24 * 256 + (j 1).val; rw [e4]; omega
  unfold blin lin
  simp only [hx, hw, sc_blk]

/-- The codes of a point's block as numbers are the arrays' at the block's rows and columns. -/
theorem cblk_apply (c : Dev nD) (t : Fin cfg0.N) (hs : aSc m c (ix1 1) ≠ (0 : EReal)) (j : S512x256.Idx) :
    cblk m c t j = (((q (aSc m c) (aN m c) (aW m c) (rowOf t (j 0)) (colOf t (j 1))).toInt : ℝ) : EReal) := by
  unfold cblk q
  rw [sc_blk m c t 1]
  refine (pay4_apply _ _ _ hs j).trans ?_
  rw [lin_blk]

/-- The 512 rows read from row `8 - d` on are the codes `d` rows before. -/
theorem sh_apply (c : Dev nD) (t : Fin cfg0.N) (hs : aSc m c (ix1 1) ≠ (0 : EReal)) (d k : Nat) (hk : k ≤ 8) (hd : k + d = 8) (j : S512x256.Idx) :
    sh k hk (haloIn m c t) (cblk m c t) j = past (aSc m c) (aN m c) (aW m c) d (rowOf t (j 0)) (colOf t (j 1)) := by
  have hN : t.val < 480 := t.isLt
  have hj : (j 0).val < 512 := (j 0).isLt
  have hr : (rowOf t (j 0)).val = t.val % 24 * 512 + (j 0).val := rfl
  have hc : (colOf t (j 1)).val = t.val / 24 * 256 + (j 1).val := rfl
  unfold sh past
  by_cases h : k + (j 0).val < 8
  · rw [dif_pos h]
    unfold haloIn
    by_cases h0 : t.val % 4 = 0
    · rw [if_pos h0, if_neg (by omega)]
    · rw [if_neg h0, if_pos (by omega)]
      refine (halo_eq m c ⟨t.val - 1, Nat.lt_of_le_of_lt (Nat.sub_le _ _) t.isLt⟩ _ h).trans ?_
      refine (cblk_apply m c _ hs _).trans ?_
      congr 4
      · apply Fin.ext
        show (t.val - 1) % 24 * 512 + (504 + (k + (j 0).val)) = t.val % 24 * 512 + (j 0).val - d
        omega
      · apply Fin.ext
        show (t.val - 1) / 24 * 256 + (j 1).val = t.val / 24 * 256 + (j 1).val
        omega
  · rw [dif_neg h, if_pos (by omega)]
    refine (cblk_apply m c t hs _).trans ?_
    congr 4
    · apply Fin.ext
      show t.val % 24 * 512 + (k + (j 0).val - 8) = t.val % 24 * 512 + (j 0).val - d
      omega

/-- A point's block of the scaled convolution is the arrays' at the block's rows and columns. -/
theorem convblk_apply (c : Dev nD) (t : Fin cfg0.N) (hs : aSc m c (ix1 1) ≠ (0 : EReal)) (j : S512x256.Idx) :
    convblk m c t j = conv (aSc m c) (aN m c) (aW m c) (aCw m c) (aSv m c) (rowOf t (j 0)) (colOf t (j 1)) := by
  have h0 : cblk m c t j = past (aSc m c) (aN m c) (aW m c) 0 (rowOf t (j 0)) (colOf t (j 1)) := by
    refine (cblk_apply m c t hs j).trans ?_
    unfold past
    rw [if_pos (Nat.zero_le _)]
    rfl
  unfold convblk
  refine (pay8_apply _ _ _ _ _ _ _ _ _ _ j).trans ?_
  simp only [h0, sh_apply m c t hs 3 5 (by decide) rfl j, sh_apply m c t hs 2 6 (by decide) rfl j, sh_apply m c t hs 1 7 (by decide) rfl j]
  show ((_ * (((iblk m c 3 t (ix2 3 (j 1))).toInt : ℝ) : EReal) + _ * (((iblk m c 3 t (ix2 0 (j 1))).toInt : ℝ) : EReal) + _ * (((iblk m c 3 t (ix2 1 (j 1))).toInt : ℝ) : EReal) + _ * (((iblk m c 3 t (ix2 2 (j 1))).toInt : ℝ) : EReal)) * _) * iblk m c 4 t (ix2 0 (j 1)) = _
  rw [cw_blk m c t 3 j, cw_blk m c t 0 j, cw_blk m c t 1 j, cw_blk m c t 2 j, sv_blk m c t j, sc_blk m c t 1]
  unfold conv tap
  congr 2
  ac_rfl

/-- The first result: the projection's codes. -/
abbrev G6 (c : Dev nD) : Vec Ideal S12288x5120 .i8 := fun i => q (aSc m c) (aN m c) (aW m c) (i 0) (i 1)

/-- The second result: the SiLU's codes. -/
abbrev G7 (c : Dev nD) : Vec Ideal S12288x5120 .i8 := fun i => xcode (aSc m c) (aN m c) (aW m c) (aCw m c) (aSv m c) (aCb m c) (i 0) (i 1)

/-- What a point writes back to window 6 is its block of the projection's codes. -/
theorem flushed_eq6 (c : Dev nD) (hs : aSc m c (ix1 1) ≠ (0 : EReal)) (t : Fin cfg0.N) :
    (dats m 0 c).flushed 6 t = ((cfg0.win 6).blk t).view.read (Elt Ideal) (G6 m c) := by
  rw [Value.flushed6]
  obtain ⟨-, -, -, -, -, -, -, -, -, -, -, e0, e1, -⟩ := idx_facts t
  funext (j : S512x256.Idx)
  have hj : ((View.whole main_v2_0).slice ((win0 6).rect t)).emb j = (ix2 (rowOf t (j 0)) (colOf t (j 1)) : S12288x5120.Idx) := by
    funext b
    apply Fin.ext
    match b with
    | ⟨0, _⟩ => show win0_6.index t 0 * 512 + 1 * (j 0).val = t.val % 24 * 512 + (j 0).val; rw [e0]; omega
    | ⟨1, _⟩ => show win0_6.index t 1 * 256 + 1 * (j 1).val = t.val / 24 * 256 + (j 1).val; rw [e1]; omega
  show (outsAt0 m c t.val t.isLt).1 j = _
  refine (congrFun (out6_eq m c t) j).trans ?_
  rw [sc_blk m c t 1]
  refine (pay3_apply _ _ _ hs j).trans ?_
  rw [lin_blk]
  rw [View.read_apply]
  show _ = G6 m c (((View.whole main_v2_0).slice ((win0 6).rect t)).emb j)
  rw [hj]
  rfl

/-- The blocks of window 6 cover its result. -/
theorem final6 (c : Dev nD) (hs : aSc m c (ix1 1) ≠ (0 : EReal)) : (dats m 0 c).arrAt 6 cfg0.N = G6 m c :=
  (dats m 0 c).arrAt_eq_of_cover 6 (G6 m c) (fun t _ => flushed_eq6 m c hs t) fun (i : S12288x5120.Idx) => by
    have h0 : (i 0 : Nat) < 12288 := (i 0).isLt
    have h1 : (i 1 : Nat) < 5120 := (i 1).isLt
    have hN : cfg0.N = 480 := rfl
    let t : Fin cfg0.N := ⟨(i 1).val / 256 * 24 + (i 0).val / 512, by omega⟩
    obtain ⟨-, -, -, -, -, -, -, -, -, -, -, e0, e1, -⟩ := idx_facts t
    have ht : t.val = (i 1).val / 256 * 24 + (i 0).val / 512 := rfl
    refine ⟨t, flush0_6 t, ?_⟩
    show i ∈ ((View.whole main_v2_0).slice (win0_6.rect t)).set
    rw [View.set_slice_whole, Rect.mem_set_unit]
    intro a
    match a with
    | ⟨0, _⟩ =>
      show win0_6.index t 0 * 512 ≤ (i 0).val ∧ (i 0).val < win0_6.index t 0 * 512 + 512
      rw [e0, ht]; omega
    | ⟨1, _⟩ =>
      show win0_6.index t 1 * 256 ≤ (i 1).val ∧ (i 1).val < win0_6.index t 1 * 256 + 256
      rw [e1, ht]; omega

/-- What a point writes back to window 7 is its block of the SiLU's codes. -/
theorem flushed_eq7 (c : Dev nD) (hs : aSc m c (ix1 1) ≠ (0 : EReal)) (hs2 : aSc m c (ix1 2) ≠ (0 : EReal)) (t : Fin cfg0.N) :
    (dats m 0 c).flushed 7 t = ((cfg0.win 7).blk t).view.read (Elt Ideal) (G7 m c) := by
  rw [Value.flushed7]
  obtain ⟨-, -, -, -, -, -, -, -, -, -, -, -, -, e0, e1⟩ := idx_facts t
  funext (j : S512x256.Idx)
  have hj : ((View.whole main_v2_1).slice ((win0 7).rect t)).emb j = (ix2 (rowOf t (j 0)) (colOf t (j 1)) : S12288x5120.Idx) := by
    funext b
    apply Fin.ext
    match b with
    | ⟨0, _⟩ => show win0_7.index t 0 * 512 + 1 * (j 0).val = t.val % 24 * 512 + (j 0).val; rw [e0]; omega
    | ⟨1, _⟩ => show win0_7.index t 1 * 256 + 1 * (j 1).val = t.val / 24 * 256 + (j 1).val; rw [e1]; omega
  show (outsAt0 m c t.val t.isLt).2.1 j = _
  refine (congrFun (out7_eq m c t) j).trans ?_
  rw [sc_blk m c t 2]
  refine (pay1_apply _ _ hs2 j).trans ?_
  rw [convblk_apply m c t hs j, cb_blk m c t j]
  rw [View.read_apply]
  show _ = G7 m c (((View.whole main_v2_1).slice ((win0 7).rect t)).emb j)
  rw [hj]
  rfl

/-- The blocks of window 7 cover its result. -/
theorem final7 (c : Dev nD) (hs : aSc m c (ix1 1) ≠ (0 : EReal)) (hs2 : aSc m c (ix1 2) ≠ (0 : EReal)) : (dats m 0 c).arrAt 7 cfg0.N = G7 m c :=
  (dats m 0 c).arrAt_eq_of_cover 7 (G7 m c) (fun t _ => flushed_eq7 m c hs hs2 t) fun (i : S12288x5120.Idx) => by
    have h0 : (i 0 : Nat) < 12288 := (i 0).isLt
    have h1 : (i 1 : Nat) < 5120 := (i 1).isLt
    have hN : cfg0.N = 480 := rfl
    let t : Fin cfg0.N := ⟨(i 1).val / 256 * 24 + (i 0).val / 512, by omega⟩
    obtain ⟨-, -, -, -, -, -, -, -, -, -, -, -, -, e0, e1⟩ := idx_facts t
    have ht : t.val = (i 1).val / 256 * 24 + (i 0).val / 512 := rfl
    refine ⟨t, flush0_7 t, ?_⟩
    show i ∈ ((View.whole main_v2_1).slice (win0_7.rect t)).set
    rw [View.set_slice_whole, Rect.mem_set_unit]
    intro a
    match a with
    | ⟨0, _⟩ =>
      show win0_7.index t 0 * 512 ≤ (i 0).val ∧ (i 0).val < win0_7.index t 0 * 512 + 512
      rw [e0, ht]; omega
    | ⟨1, _⟩ =>
      show win0_7.index t 1 * 256 ≤ (i 1).val ∧ (i 1).val < win0_7.index t 1 * 256 + 256
      rw [e1, ht]; omega

end Cert.Proof.InX

end
-- ==== Proof.InXConv.lean ====
/-
  Hand-written, untrusted. What the run of `in_x` leaves in the array of the scaled convolution: `conv` at every row and column.
-/
module

public import proofs.«01_k».proof.Proof.InXBody
public import proofs.«01_k».proof.Proof.InXVal

@[expose] public section

set_option maxRecDepth 16384

noncomputable section

namespace Cert.Proof.InX

open Cert.InXIdeal Cert.InXIdeal.Gen
open Idealize.ShloMosaic Idealize.ShloMosaic.TcCoe Idealize.ShloMosaic.Tactic

/-- Where each column of blocks is sent to. -/
theorem off_facts : ∀ t : Fin cfg0.N,
    (k0_off1 (grid0.coords t) 0 = t.val % 24 * 512 ∧ k0_off1 (grid0.coords t) 1 = 0) ∧ (k0_off2 (grid0.coords t) 0 = t.val % 24 * 512 ∧ k0_off2 (grid0.coords t) 1 = 256)
    ∧ (k0_off3 (grid0.coords t) 0 = t.val % 24 * 512 ∧ k0_off3 (grid0.coords t) 1 = 512) ∧ (k0_off4 (grid0.coords t) 0 = t.val % 24 * 512 ∧ k0_off4 (grid0.coords t) 1 = 768)
    ∧ (k0_off5 (grid0.coords t) 0 = t.val % 24 * 512 ∧ k0_off5 (grid0.coords t) 1 = 1024) :=
  (by decide +kernel : ∀ t : Fin grid0.N,
    (k0_off1 (grid0.coords t) 0 = t.val % 24 * 512 ∧ k0_off1 (grid0.coords t) 1 = 0) ∧ (k0_off2 (grid0.coords t) 0 = t.val % 24 * 512 ∧ k0_off2 (grid0.coords t) 1 = 256)
    ∧ (k0_off3 (grid0.coords t) 0 = t.val % 24 * 512 ∧ k0_off3 (grid0.coords t) 1 = 512) ∧ (k0_off4 (grid0.coords t) 0 = t.val % 24 * 512 ∧ k0_off4 (grid0.coords t) 1 = 768)
    ∧ (k0_off5 (grid0.coords t) 0 = t.val % 24 * 512 ∧ k0_off5 (grid0.coords t) 1 = 1024))

/-- A place inside a block that is written gets the block's element. -/
theorem write_in (off : Fin 2 → ℕ) (inb : ∀ a, off a + S512x256.size a ≤ S12288x1280.size a) (hr) (f : (Memref.whole main_v2_2).view.ty.Contents (Elt Ideal))
    (v : S512x256.Idx → Elt Ideal .f32) (y : S12288x1280.Idx) (j : S512x256.Idx) (h0 : (y 0).val = off 0 + (j 0).val) (h1 : (y 1).val = off 1 + (j 1).val) :
    ((Memref.whole main_v2_2).slice (Rect.unit (s := S12288x1280) off S512x256.size inb) hr).view.write (Elt Ideal) f v Finset.univ y = v j := by
  have hy : ((Memref.whole main_v2_2).slice (Rect.unit (s := S12288x1280) off S512x256.size inb) hr).view.emb j = y := by
    funext b
    apply Fin.ext
    match b with
    | ⟨0, _⟩ =>
      show off 0 + 1 * (j 0).val = (y 0).val
      omega
    | ⟨1, _⟩ =>
      show off 1 + 1 * (j 1).val = (y 1).val
      omega
  rw [← hy]
  exact View.write_emb_of_mem _ _ (Finset.mem_univ _)

/-- A place outside a block that is written keeps what it held. -/
theorem write_out (off : Fin 2 → ℕ) (inb : ∀ a, off a + S512x256.size a ≤ S12288x1280.size a) (hr) (f : (Memref.whole main_v2_2).view.ty.Contents (Elt Ideal))
    (v : S512x256.Idx → Elt Ideal .f32) (y : S12288x1280.Idx)
    (h : ¬(off 0 ≤ (y 0).val ∧ (y 0).val < off 0 + 512 ∧ off 1 ≤ (y 1).val ∧ (y 1).val < off 1 + 256)) :
    ((Memref.whole main_v2_2).slice (Rect.unit (s := S12288x1280) off S512x256.size inb) hr).view.write (Elt Ideal) f v Finset.univ y = f y := by
  refine View.write_of_not_mem _ _ _ fun hy => h ?_
  obtain ⟨j, -, hj⟩ := Finset.mem_map.mp hy
  have e0 : off 0 + 1 * (j 0).val = (y 0).val := congrArg (fun z : S12288x1280.Idx => (z 0).val) hj
  have e1 : off 1 + 1 * (j 1).val = (y 1).val := congrArg (fun z : S12288x1280.Idx => (z 1).val) hj
  have b0 : (j 0).val < 512 := (j 0).isLt
  have b1 : (j 1).val < 256 := (j 1).isLt
  omega

/-- The place of its block that an element of the array is at. -/
def inBlock (y : S12288x1280.Idx) : S512x256.Idx := ix2 ⟨(y 0).val % 512, by omega⟩ ⟨(y 1).val % 256, by omega⟩

/-- The point that sends an element of the array. -/
def sender (y : S12288x1280.Idx) : ℕ := (y 1).val / 256 * 24 + (y 0).val / 512

/-- What a write of the block at rows `t % 24 · 512` and columns `k · 256` leaves. -/
theorem write_at (t : ℕ) (k : ℕ) (hk : t / 24 = k) (off : Fin 2 → ℕ) (inb : ∀ a, off a + S512x256.size a ≤ S12288x1280.size a) (hr) (f : (Memref.whole main_v2_2).view.ty.Contents (Elt Ideal))
    (v : S512x256.Idx → Elt Ideal .f32) (y : S12288x1280.Idx) (h0 : off 0 = t % 24 * 512) (h1 : off 1 = k * 256) :
    ((Memref.whole main_v2_2).slice (Rect.unit (s := S12288x1280) off S512x256.size inb) hr).view.write (Elt Ideal) f v Finset.univ y
      = if sender y = t then v (inBlock y) else f y := by
  have b0 : (y 0).val < 12288 := (y 0).isLt
  have b1 : (y 1).val < 1280 := (y 1).isLt
  by_cases h : sender y = t
  · rw [if_pos h]
    unfold sender at h
    refine write_in off inb hr f v y (inBlock y) ?_ ?_
    · show (y 0).val = off 0 + (y 0).val % 512
      omega
    · show (y 1).val = off 1 + (y 1).val % 256
      omega
  · rw [if_neg h]
    unfold sender at h
    refine write_out off inb hr f v y ?_
    omega

/-- A point leaves its block in its own elements of the array, and the others as they were. -/
theorem sent_at (c : Dev nD) (t : Fin cfg0.N) (v : Vec Ideal S512x256 .f32) (f) (y : S12288x1280.Idx) :
    sent c (grid0.coords t) v f y = if sender y = t.val then v (inBlock y) else f y := by
  have hN : t.val < 480 := t.isLt
  obtain ⟨⟨r1, c1⟩, ⟨r2, c2⟩, ⟨r3, c3⟩, ⟨r4, c4⟩, ⟨r5, c5⟩⟩ := off_facts t
  by_cases h1 : cond0_1 (grid0.coords t)
  · rw [sent_1 c _ v f h1]
    have := (hcond0_1 t).mp h1
    exact write_at t.val 0 (by omega) _ _ _ f v y r1 c1
  by_cases h2 : cond0_2 (grid0.coords t)
  · rw [sent_2 c _ v f h1 h2]
    have := (hcond0_2 t).mp h2
    exact write_at t.val 1 (by omega) _ _ _ f v y r2 c2
  by_cases h3 : cond0_3 (grid0.coords t)
  · rw [sent_3 c _ v f h1 h2 h3]
    have := (hcond0_3 t).mp h3
    exact write_at t.val 2 (by omega) _ _ _ f v y r3 c3
  by_cases h4 : cond0_4 (grid0.coords t)
  · rw [sent_4 c _ v f h1 h2 h3 h4]
    have := (hcond0_4 t).mp h4
    exact write_at t.val 3 (by omega) _ _ _ f v y r4 c4
  by_cases h5 : cond0_5 (grid0.coords t)
  · rw [sent_5 c _ v f h1 h2 h3 h4 h5]
    have := (hcond0_5 t).mp h5
    exact write_at t.val 4 (by omega) _ _ _ f v y r5 c5
  rw [sent_none c _ v f h1 h2 h3 h4 h5]
  have n1 := mt (hcond0_1 t).mpr h1
  have n2 := mt (hcond0_2 t).mpr h2
  have n3 := mt (hcond0_3 t).mpr h3
  have n4 := mt (hcond0_4 t).mpr h4
  have n5 := mt (hcond0_5 t).mpr h5
  have b0 : (y 0).val < 12288 := (y 0).isLt
  have b1 : (y 1).val < 1280 := (y 1).isLt
  rw [if_neg]
  unfold sender
  omega

variable (m : (ℓ : Loc nD τ sig) → Buf (Elt Ideal) ℓ)

/-- The scaled convolution, from the arguments. -/
def GC (c : Dev nD) : Buf (Elt Ideal) ((c : Thread nD τ).loc main_v2_2) :=
  fun (y : S12288x1280.Idx) => conv (aSc m c) (aN m c) (aW m c) (aCw m c) (aSv m c) (y 0) ⟨(y 1).val, lt_of_lt_of_le (y 1).isLt (by decide)⟩

/-- After `n` points every element whose sender is among them is the scaled convolution. -/
theorem convArr_apply (c : Dev nD) (hs : aSc m c (ix1 1) ≠ (0 : EReal)) (y : S12288x1280.Idx) : ∀ n, n ≤ 480 → sender y < n → convArr m c n y = GC m c y
  | 0, _, h => absurd h (Nat.not_lt_zero _)
  | n + 1, hn, h => by
    have b0 : (y 0).val < 12288 := (y 0).isLt
    have b1 : (y 1).val < 1280 := (y 1).isLt
    refine (congrFun (convArr_succ m c ⟨n, hn⟩) y).trans ((sent_at c ⟨n, hn⟩ _ _ y).trans ?_)
    by_cases e : sender y = n
    · rw [if_pos e]
      refine (convblk_apply m c ⟨n, hn⟩ hs (inBlock y)).trans ?_
      unfold sender at e
      unfold GC
      congr 1
      · apply Fin.ext
        show n % 24 * 512 + (y 0).val % 512 = (y 0).val
        omega
      · apply Fin.ext
        show n / 24 * 256 + (y 1).val % 256 = (y 1).val
        omega
    · rw [if_neg e]
      exact convArr_apply c hs y n (by omega) (by omega)

/-- After the run every element is the scaled convolution. -/
theorem convArr_final (c : Dev nD) (hs : aSc m c (ix1 1) ≠ (0 : EReal)) : convArr m c cfg0.N = GC m c := by
  funext y
  have b0 : ((y : S12288x1280.Idx) 0).val < 12288 := ((y : S12288x1280.Idx) 0).isLt
  have b1 : ((y : S12288x1280.Idx) 1).val < 1280 := ((y : S12288x1280.Idx) 1).isLt
  refine convArr_apply m c hs y 480 le_rfl ?_
  unfold sender
  omega

end Cert.Proof.InX

end
-- ==== Proof.InXRef.lean ====
/-
  Hand-written, untrusted. The three results of the reference `ref_in_x`, entry by entry over the reals.
-/
module

public import proofs.«01_k».proof.Defs
public import proofs.«01_k».proof.Proof.Gen.RefInXIdeal.Run
public import proofs.«01_k».proof.Proof.Gen.RefInXIdeal.Read
public import proofs.«01_k».proof.Proof.Gen.Pre_scales_conv_nonzero
public import Idealize.ShloMosaic.Lib.ValueIdx
public import Idealize.ShloMosaic.Lib.Pointwise
public import proofs.«01_k».proof.Proof.Util
public import proofs.«01_k».proof.Proof.Quant
public import proofs.«01_k».proof.Proof.InXSpec

@[expose] public section

set_option maxRecDepth 16384

noncomputable section

namespace Cert.Proof.InX

open Cert.RefInXIdeal Cert.RefInXIdeal.Read Idealize.ShloMosaic

variable (x0 : Vec Ideal S8 .f32) (x1 : Vec Ideal S12288x2560 .i8) (x2 : Vec Ideal S2560x10240 .bf16) (x3 : Vec Ideal S4x5120 .i8) (x4 x5 : Vec Ideal S5120 .f32)

/-- The reference's projection. -/
theorem ref_lin (i : S12288x5120.Idx) : val_main_v8 (F := Ideal) x0 x1 x2 i = lin x0 x1 x2 (i 0) (i 1) := by
  have hsc : val_main_v7 (F := Ideal) x0 i = x0 (ix1 0) := by
    rw [val_main_v7_apply]
    unfold val_main_v1
    rw [shapeCast_one rfl rfl _ _ _ (ix1 0), val_main_v0_apply]
    congr 1
    funext a
    match a with
    | ⟨0, _⟩ => rfl
  have hx : ∀ k : Fin 2560, val_main_v5 (F := Ideal) x1 (lidx_main_v6 i k) = (((x1 (ix2 (i 0) k)).toInt : ℝ) : EReal) := by
    intro k
    have e : lidx_main_v6 i k = (ix2 (i 0) k : S12288x2560.Idx) := by
      funext a
      match a with
      | ⟨0, _⟩ => rfl
      | ⟨1, _⟩ => rfl
    rw [val_main_v5_apply, val_main_v4_apply, val_main_v3_apply, e]
    show ((((x1 (ix2 (i 0) k)).signExtend 32).toInt : ℝ) : EReal) = _
    rw [toInt_widen]
  have hy : ∀ k : Fin 2560, val_main_v2 (F := Ideal) x2 (ridx_main_v6 i k) = x2 (ix2 k ⟨(i 1).val, by have : (i 1).val < 5120 := (i 1).isLt; omega⟩) := by
    intro k
    rw [val_main_v2_apply]
    congr 1
    funext a
    match a with
    | ⟨0, _⟩ => rfl
    | ⟨1, _⟩ => rfl
  rw [val_main_v8_apply, hsc, val_main_v6_apply]
  simp only [hx, hy]
  rfl

/-- The reference's first result is the projection's codes. -/
theorem ref_q (i : S12288x5120.Idx) : val_main_v16 (F := Ideal) x0 x1 x2 i = q x0 x1 x2 (i 0) (i 1) := by
  have hsc : val_main_v11 (F := Ideal) x0 i = x0 (ix1 1) := by
    rw [val_main_v11_apply]
    unfold val_main_v10
    rw [shapeCast_one rfl rfl _ _ _ (ix1 0), val_main_v9_apply]
    congr 1
    funext a
    match a with
    | ⟨0, _⟩ => rfl
  rw [val_main_v16_apply, val_main_v15_apply, val_main_v14_apply, val_main_call1_v2_apply, val_main_v13_apply, val_main_v12_apply, hsc, ref_lin, val_main_call1_v4_apply, val_main_call1_v1_apply]
  exact ref_code _ _

/-- The padded codes, read `k` rows down in a sequence, are the codes `3 - k` rows before. -/
theorem ref_past (d k : Nat) (hk : k + d = 3) (i : S12288x5120.Idx) (p : S6x2051x5120.Idx)
    (h0 : (p 0).val = (i 0).val / 2048) (h1 : (p 1).val = k + (i 0).val % 2048) (h2 : (p 2).val = (i 1).val) :
    val_main_v22 (F := Ideal) x0 x1 x2 p = past x0 x1 x2 d (i 0) (i 1) := by
  have i0 : (i 0).val < 12288 := (i 0).isLt
  have i1 : (i 1).val < 5120 := (i 1).isLt
  unfold val_main_v22 pad past
  by_cases hd : d ≤ (i 0).val % 2048
  · rw [if_pos hd, dif_pos (by
      intro a
      match a with
      | ⟨0, _⟩ => exact ⟨Nat.zero_le _, by show ((p 0).val - 0) % 1 = 0; omega, by show ((p 0).val - 0) / 1 < 6; omega⟩
      | ⟨1, _⟩ => exact ⟨by show 3 ≤ (p 1).val; omega, by show ((p 1).val - 3) % 1 = 0; omega, by show ((p 1).val - 3) / 1 < 2048; omega⟩
      | ⟨2, _⟩ => exact ⟨Nat.zero_le _, by show ((p 2).val - 0) % 1 = 0; omega, by show ((p 2).val - 0) / 1 < 5120; omega⟩)]
    rw [val_main_v19_apply, val_main_v18_apply, val_main_v17_apply]
    rw [ref_q]
    show ((((q x0 x1 x2 _ _).signExtend 32).toInt : ℝ) : EReal) = _
    rw [toInt_widen]
    congr 4
    · apply Fin.ext
      show ((((p 0).val - 0) / 1 * 2048 + ((p 1).val - 3) / 1) * 5120 + ((p 2).val - 0) / 1) / 5120 = (i 0).val - d
      omega
    · apply Fin.ext
      show ((((p 0).val - 0) / 1 * 2048 + ((p 1).val - 3) / 1) * 5120 + ((p 2).val - 0) / 1) % 5120 = (i 1).val
      omega
  · rw [if_neg hd, dif_neg (by
      intro h
      have h3 : 3 ≤ (p 1).val := (h 1).1
      omega)]
    rw [val_main_call2_v0_apply]
    show (((0#32).toInt : ℝ) : EReal) = 0
    simp

/-- The reference's weights as numbers. -/
theorem ref_tap (k : S4x5120.Idx) : val_main_v21 (F := Ideal) x3 k = tap x3 (k 0) (k 1) := by
  rw [val_main_v21_apply, val_main_v20_apply]
  show ((((x3 k).signExtend 32).toInt : ℝ) : EReal) = _
  rw [toInt_widen]
  unfold tap
  congr 4
  funext a
  match a with
  | ⟨0, _⟩ => rfl
  | ⟨1, _⟩ => rfl

/-- The reference's scaled convolution. -/
theorem ref_conv (i : S12288x5120.Idx) : val_main_v59 (F := Ideal) x0 x1 x2 x3 x4 i = conv x0 x1 x2 x3 x4 (i 0) (i 1) := by
  have i0 : (i 0).val < 12288 := (i 0).isLt
  have i1 : (i 1).val < 5120 := (i 1).isLt
  have hsc : val_main_v55 (F := Ideal) x0 i = x0 (ix1 1) := by
    rw [val_main_v55_apply]
    unfold val_main_v54
    rw [shapeCast_one rfl rfl _ _ _ (ix1 0), val_main_v53_apply]
    congr 1
    funext a
    match a with
    | ⟨0, _⟩ => rfl
  have hsv : val_main_v58 (F := Ideal) x4 i = x4 (ix1 (i 1)) := by
    rw [val_main_v58_apply, val_main_v57_apply]
    congr 1
    funext a
    match a with
    | ⟨0, _⟩ => rfl
  have e1 : ((i 0).val * 5120 + (i 1).val) / 10485760 = (i 0).val / 2048 := by omega
  have e2 : ((i 0).val * 5120 + (i 1).val) / 5120 % 2048 = (i 0).val % 2048 := by omega
  have e3 : ((i 0).val * 5120 + (i 1).val) % 5120 = (i 1).val := by omega
  have p3 : val_main_v23 (F := Ideal) x0 x1 x2 (idx_main_v52 i) = past x0 x1 x2 3 (i 0) (i 1) := by
    rw [val_main_v23_apply]
    exact ref_past x0 x1 x2 3 0 rfl i _ e1 (e2.trans (Nat.zero_add _).symm) e3
  have p2 : val_main_v31 (F := Ideal) x0 x1 x2 (idx_main_v52 i) = past x0 x1 x2 2 (i 0) (i 1) := by
    rw [val_main_v31_apply]
    exact ref_past x0 x1 x2 2 1 rfl i _ e1 (congrArg (1 + ·) e2) e3
  have p1 : val_main_v38 (F := Ideal) x0 x1 x2 (idx_main_v52 i) = past x0 x1 x2 1 (i 0) (i 1) := by
    rw [val_main_v38_apply]
    exact ref_past x0 x1 x2 1 2 rfl i _ e1 (congrArg (2 + ·) e2) e3
  have p0 : val_main_v45 (F := Ideal) x0 x1 x2 (idx_main_v52 i) = past x0 x1 x2 0 (i 0) (i 1) := by
    rw [val_main_v45_apply]
    exact ref_past x0 x1 x2 0 3 rfl i _ e1 (congrArg (3 + ·) e2) e3
  have htap : ∀ (k : Fin 4) (p : S4x5120.Idx), (p 0).val = k.val → (p 1).val = (i 1).val → val_main_v21 (F := Ideal) x3 p = tap x3 k (i 1) := by
    intro k p h h'
    rw [ref_tap]
    exact congr (congrArg (tap x3) (Fin.ext h)) (Fin.ext h')
  have e4 : ((i 0).val * 5120 + (i 1).val) % 5120 % 5120 = (i 1).val := by omega
  have t0 : val_main_v27 (F := Ideal) x3 (idx_main_v52 i) = tap x3 0 (i 1) := by
    rw [val_main_v27_apply, val_main_v26_apply, val_main_v25_apply, val_main_v24_apply]
    exact htap 0 _ rfl e4
  have t1 : val_main_v35 (F := Ideal) x3 (idx_main_v52 i) = tap x3 1 (i 1) := by
    rw [val_main_v35_apply, val_main_v34_apply, val_main_v33_apply, val_main_v32_apply]
    exact htap 1 _ rfl e4
  have t2 : val_main_v42 (F := Ideal) x3 (idx_main_v52 i) = tap x3 2 (i 1) := by
    rw [val_main_v42_apply, val_main_v41_apply, val_main_v40_apply, val_main_v39_apply]
    exact htap 2 _ rfl e4
  have t3 : val_main_v49 (F := Ideal) x3 (idx_main_v52 i) = tap x3 3 (i 1) := by
    rw [val_main_v49_apply, val_main_v48_apply, val_main_v47_apply, val_main_v46_apply]
    exact htap 3 _ rfl e4
  have hz : val_main_v29 (F := Ideal) (idx_main_v52 i) = (0 : EReal) := by
    rw [val_main_v29_apply]
    exact Ideal.ofBits_zero .f32
  rw [val_main_v59_apply, val_main_v56_apply, hsc, hsv, val_main_v52_apply, val_main_v51_apply, val_main_v50_apply, val_main_v44_apply, val_main_v43_apply,
    val_main_v37_apply, val_main_v36_apply, val_main_v30_apply, val_main_v28_apply, p0, p1, p2, p3, t0, t1, t2, t3, hz]
  show ((0 : EReal) + past x0 x1 x2 3 (i 0) (i 1) * tap x3 0 (i 1) + _ + _ + _) * _ * _ = _
  rw [zero_add]
  rfl

/-- The reference's second result is the codes of the SiLU. -/
theorem ref_xcode (i : S12288x5120.Idx) : val_main_v77 (F := Ideal) x0 x1 x2 x3 x4 x5 i = xcode x0 x1 x2 x3 x4 x5 (i 0) (i 1) := by
  have hsc : val_main_v72 (F := Ideal) x0 i = x0 (ix1 2) := by
    rw [val_main_v72_apply]
    unfold val_main_v71
    rw [shapeCast_one rfl rfl _ _ _ (ix1 0), val_main_v70_apply]
    congr 1
    funext a
    match a with
    | ⟨0, _⟩ => rfl
  have hcb : val_main_v61 (F := Ideal) x5 i = x5 (ix1 (i 1)) := by
    rw [val_main_v61_apply, val_main_v60_apply]
    congr 1
    funext a
    match a with
    | ⟨0, _⟩ => rfl
  have hv : val_main_v62 (F := Ideal) x0 x1 x2 x3 x4 x5 i = conv x0 x1 x2 x3 x4 (i 0) (i 1) + x5 (ix1 (i 1)) := by
    rw [val_main_v62_apply, hcb, ref_conv]
    rfl
  have hl : val_main_v68 (F := Ideal) x0 x1 x2 x3 x4 x5 i = Ideal.logistic (conv x0 x1 x2 x3 x4 (i 0) (i 1) + x5 (ix1 (i 1))) := by
    rw [val_main_v68_apply, val_main_v67_apply, val_main_v66_apply, val_main_v65_apply, val_main_v64_apply, val_main_v63_apply, hv]
    show Ideal.div (Ideal.ofBits .f32 0x3F800000#32) (Ideal.ofBits .f32 0x3F800000#32 + Ideal.exp (-_)) = _
    rw [ofBits_one]
    rfl
  rw [val_main_v77_apply, val_main_v76_apply, val_main_v75_apply, val_main_call4_v2_apply, val_main_v74_apply, val_main_v73_apply, hsc, val_main_v69_apply, hv, hl, val_main_call4_v4_apply, val_main_call4_v1_apply]
  exact ref_code _ _

/-- The reference's third result is the first 1280 columns of the scaled convolution. -/
theorem ref_part (i : S12288x1280.Idx) :
    val_main_v78 (F := Ideal) x0 x1 x2 x3 x4 i = conv x0 x1 x2 x3 x4 (i 0) ⟨(i 1).val, by have : (i 1).val < 1280 := (i 1).isLt; omega⟩ := by
  rw [val_main_v78_apply, ref_conv]
  rfl

/-- The precondition says that the two scales are not zero. -/
theorem scales_ne (h : Cert.Pre_scales_conv_nonzero.fn (F := Ideal) x0 x1 x2 x3 x4 x5 = fun _ => 1#1) :
    x0 (ix1 1) ≠ (0 : EReal) ∧ x0 (ix1 2) ≠ (0 : EReal) := by
  have key : ∀ k : Fin 2, x0 (ix1 ⟨1 + k.val, by omega⟩) ≠ (0 : EReal) := by
    intro k
    have h0 := congrFun h (ix1 k)
    unfold Cert.Pre_scales_conv_nonzero.fn at h0
    pointwise at h0
    intro hx
    simp [hx] at h0
  exact ⟨key 0, key 1⟩

end Cert.Proof.InX

end
-- ==== Proof.InX.lean ====
/-
  Hand-written, untrusted. `in_x`: the claim. Both arrays of codes and the scaled convolution are the reference's,
  every element of them.
-/
module

public import proofs.«01_k».proof.Defs
public import proofs.«01_k».proof.Proof.Gen.InXIdeal.Value
public import proofs.«01_k».proof.Proof.Gen.RefInXIdeal.Run
public import proofs.«01_k».proof.Proof.Gen.RefInXIdeal.Read
public import proofs.«01_k».proof.Proof.Gen.Pre_scales_conv_nonzero
public import proofs.«01_k».proof.Proof.InXConv
public import proofs.«01_k».proof.Proof.InXRef

@[expose] public section

set_option maxRecDepth 16384

noncomputable section

namespace Cert.Proof.InX

open Cert.InXIdeal Cert.InXIdeal.Gen Idealize.ShloMosaic Idealize.ShloMosaic.TcCoe Idealize.SL.Sem

/-- CLAIM: over the reals, where the two scales are not zero, both arrays of codes and the scaled convolution are the reference's. -/
theorem algebraic : algebraic_InXIdeal_RefInXIdeal_pre_scales_conv_nonzero := by
  intro m g m' g' hpre hargs
  have hne := fun c => scales_ne _ _ _ _ _ _ (hpre c)
  refine ⟨fun c => G6 m c, fun c => G7 m c, fun c => GC m c,
    (θ_run defs _ _).mono (fun r h c => ⟨(h.1 c).1.trans (final6 m c (hne c).1), (h.1 c).2.1.trans (final7 m c (hne c).1 (hne c).2),
      (h.2 c).trans (convArr_final m c (hne c).1), (h.1 c).2.2⟩) (θ_run_and (Value.run_blocks m g) (conv_run m g)), ?_⟩
  refine (θ_run RefInXIdeal.defs _ _).mono (fun r h c => ?_) (RefInXIdeal.Value.run m' g')
  obtain ⟨h0, h1, h2, h3⟩ := h c
  obtain ⟨a0, a1, a2, a3, a4, a5⟩ := hargs c
  refine ⟨funext fun i => ?_, funext fun i => ?_, funext fun i => ?_, h3⟩
  · rw [h0, RefInXIdeal.Read.val_main_v16_eq]
    refine (ref_q _ _ _ i).trans ?_
    show q _ _ _ _ _ = q _ _ _ _ _
    rw [a0, a1, a2]
  · rw [h1, RefInXIdeal.Read.val_main_v77_eq]
    refine (ref_xcode _ _ _ _ _ _ i).trans ?_
    show xcode _ _ _ _ _ _ _ _ = xcode _ _ _ _ _ _ _ _
    rw [a0, a1, a2, a3, a4, a5]
  · rw [h2, RefInXIdeal.Read.val_main_v78_eq]
    refine (ref_part _ _ _ _ _ i).trans ?_
    show conv _ _ _ _ _ _ _ = conv _ _ _ _ _ _ _
    rw [a0, a1, a2, a3, a4]

end Cert.Proof.InX

end
-- ==== Proof.Dequant.lean ====
/-
  Hand-written, untrusted. The dequantiser, for both packed weights: what it computes as one function of the packed bytes and the
  scales, that a byte's two halves read by shifts are the two codes, and that stores of one group each leave that function.
-/
module

public import Idealize.ShloMosaic.Lib.Pipeline.Value
public import Idealize.ShloMosaic.Lib.Pipeline.ValueKit.Tiles
public import Idealize.ShloMosaic.Lib.ValueIdx
public import Idealize.ShloMosaic.Lib.Pointwise
public import Idealize.ShloMosaic.PureOps.Ideal.Laws

@[expose] public section

noncomputable section

namespace Cert.Proof.Dequant

open Idealize.ShloMosaic

/-- The signed 4-bit code in half `p` of a packed byte (half 0 is the low one): moved to the top of a word and back down with
    its sign. -/
def nibble (b : BitVec 8) (p : Nat) : BitVec 32 := ((b.setWidth 32) <<< (if p = 0 then 28 else 24)).sshiftRight 28

/-- The low half as the kernel's shifts read it. -/
theorem nibble_low (b : BitVec 8) : IntOp.shrsi .vector (IntOp.shli .vector (b.setWidth 32) 28#32) 28#32 = nibble b 0 := rfl

/-- The high half as the kernel's shifts read it. -/
theorem nibble_high (b : BitVec 8) : IntOp.shrsi .vector (IntOp.shli .vector (b.setWidth 32) 24#32) 28#32 = nibble b 1 := rfl

/-- The code as the reference takes it: four bits of the byte, less sixteen from eight on. -/
def masked (b : BitVec 8) (p : Nat) : BitVec 32 :=
  Scalar.select (IntOp.cmpi .sge (IntOp.andi (IntOp.shrsi .host (b.signExtend 32) (IntOp.muli 4#32 (BitVec.ofNat 32 p))) 15#32) 8#32)
    (IntOp.subi (IntOp.andi (IntOp.shrsi .host (b.signExtend 32) (IntOp.muli 4#32 (BitVec.ofNat 32 p))) 15#32) 16#32)
    (IntOp.andi (IntOp.shrsi .host (b.signExtend 32) (IntOp.muli 4#32 (BitVec.ofNat 32 p))) 15#32)

/-- Both ways of taking the code agree, for all 256 bytes and both halves. -/
theorem masked_eq (b : BitVec 8) (p : Fin 2) : masked b p.val = nibble b p.val :=
  (by decide +kernel : ∀ (k : Fin 256) (p : Fin 2), masked (BitVec.ofFin k) p.val = nibble (BitVec.ofFin k) p.val) b.toFin p

/-- THE DEQUANTISER over the reals: weight row `r` is code `r % 2` of packed row `r / 2`, times the scale of the row's group of 128. -/
def deq {R G W C : Nat} (hR : W = 2 * R) (hG : W = 128 * G) (x0 : Vec Ideal ⟨2, ![R, C]⟩ .i8) (x1 : Vec Ideal ⟨2, ![G, C]⟩ .f32) :
    Vec Ideal ⟨2, ![W, C]⟩ .bf16 := fun i =>
  have h0 : (i 0).val < W := (i 0).isLt
  (((nibble (x0 (ix2 ⟨(i 0).val / 2, by omega⟩ (i 1))) ((i 0).val % 2)).toInt : ℝ) : EReal) * (x1 (ix2 ⟨(i 0).val / 128, by omega⟩ (i 1)) : EReal)

/-- The dequantiser goes column by column: equal columns give an equal column. -/
theorem deq_block {R G W C C' : Nat} (hR : W = 2 * R) (hG : W = 128 * G) (x0 : Vec Ideal ⟨2, ![R, C]⟩ .i8) (x1 : Vec Ideal ⟨2, ![G, C]⟩ .f32)
    (y0 : Vec Ideal ⟨2, ![R, C']⟩ .i8) (y1 : Vec Ideal ⟨2, ![G, C']⟩ .f32) (j : (⟨2, ![W, C]⟩ : Shape).Idx) (b : Fin C')
    (h0 : ∀ a : Fin R, x0 (ix2 a (j 1)) = y0 (ix2 a b)) (h1 : ∀ a : Fin G, x1 (ix2 a (j 1)) = y1 (ix2 a b)) :
    deq hR hG x0 x1 j = deq hR hG y0 y1 (ix2 (j 0) b) :=
  congrArg₂ (fun (u : BitVec 8) (w : EReal) => (((nibble u ((j 0).val % 2)).toInt : ℝ) : EReal) * w) (h0 _) (h1 _)

/-- The stores of one block, last first: group `n`'s is `pay` of the group's packed rows and of its row of scales. -/
def groups {R G W C : Nat} (hR : W = 2 * R) (hG : W = 128 * G)
    (pay : Vec Ideal ⟨2, ![64, C]⟩ .i8 → Vec Ideal ⟨2, ![1, C]⟩ .f32 → Vec Ideal ⟨2, ![128, C]⟩ .bf16)
    (x0 : Vec Ideal ⟨2, ![R, C]⟩ .i8) (x1 : Vec Ideal ⟨2, ![G, C]⟩ .f32) : (n : Nat) → n ≤ G → List (View.Piece (Elt Ideal) ⟨2, ![W, C]⟩ .bf16)
  | 0, _ => []
  | n + 1, h =>
    ⟨Rect.unit (s := ⟨2, ![W, C]⟩) ![128 * n, 0] ![128, C] (Fin.forall_fin_two.mpr ⟨(by omega : 128 * n + 128 ≤ W), (Nat.zero_add C).le⟩),
      pay (View.ld (Val := Elt Ideal) (e' := .i8) x0 (Rect.unit (s := ⟨2, ![R, C]⟩) ![64 * n, 0] ![64, C] (Fin.forall_fin_two.mpr ⟨(by omega : 64 * n + 64 ≤ R), (Nat.zero_add C).le⟩)))
        (View.ld (Val := Elt Ideal) (e' := .f32) x1 (Rect.unit (s := ⟨2, ![G, C]⟩) ![n, 0] ![1, C] (Fin.forall_fin_two.mpr ⟨(by omega : n + 1 ≤ G), (Nat.zero_add C).le⟩)))⟩
      :: groups hR hG pay x0 x1 n (by omega)

variable {R G W C : Nat} (hR : W = 2 * R) (hG : W = 128 * G)
  (pay : Vec Ideal ⟨2, ![64, C]⟩ .i8 → Vec Ideal ⟨2, ![1, C]⟩ .f32 → Vec Ideal ⟨2, ![128, C]⟩ .bf16)
  (hpay : ∀ v s, pay v s = deq (R := 64) (G := 1) rfl rfl v s)
  (x0 : Vec Ideal ⟨2, ![R, C]⟩ .i8) (x1 : Vec Ideal ⟨2, ![G, C]⟩ .f32)

include hpay in
/-- Every store that holds an index has the dequantised weight there. -/
theorem groups_at (y : (⟨2, ![W, C]⟩ : Shape).Idx) : (n : Nat) → (h : n ≤ G) →
    View.AllAt (groups hR hG pay x0 x1 n h) y (deq hR hG x0 x1 y)
  | 0, _ => View.allAt_nil _ _
  | n + 1, h => by
    refine View.allAt_cons_unit (S := ⟨2, ![W, C]⟩) ![128 * n, 0] ![128, C] _ _ _ ?_ (groups_at y n (by omega))
    intro x hx
    have e0 : (y 0).val = 128 * n + (x 0).val := hx 0
    have e1 : (y 1).val = 0 + (x 1).val := hx 1
    have hx0 : (x 0).val < 128 := (x 0).isLt
    rw [hpay]
    unfold deq
    dsimp only
    congr 1
    · congr 3
      · congr 1
        · refine View.ld_unit_apply_of (Val := Elt Ideal) (e := .i8) x0 _ _ _ _ _ (Fin.forall_fin_two.mpr ⟨?_, ?_⟩)
          · show (y 0).val / 2 = 64 * n + (x 0).val / 2; omega
          · exact e1
        · omega
    · refine View.ld_unit_apply_of (Val := Elt Ideal) (e := .f32) x1 _ _ _ _ _ (Fin.forall_fin_two.mpr ⟨?_, ?_⟩)
      · show (y 0).val / 128 = n + (x 0).val / 128; omega
      · exact e1

/-- An index among the first `n` groups' rows is in one of their stores. -/
theorem groups_cover (y : (⟨2, ![W, C]⟩ : Shape).Idx) : (n : Nat) → (h : n ≤ G) → (y 0).val < 128 * n →
    ∃ p ∈ groups hR hG pay x0 x1 n h, y ∈ p.1.set
  | 0, _, hy => by omega
  | n + 1, h, hy => by
    by_cases hn : (y 0).val < 128 * n
    · obtain ⟨p, hp, hm⟩ := groups_cover y n (by omega) hn
      exact ⟨p, List.mem_cons_of_mem _ hp, hm⟩
    · have hm : y ∈ (Rect.unit (s := ⟨2, ![W, C]⟩) ![128 * n, 0] ![128, C]
          (Fin.forall_fin_two.mpr ⟨(by omega : 128 * n + 128 ≤ W), (Nat.zero_add C).le⟩)).set := by
        rw [Rect.mem_set_unit]
        refine Fin.forall_fin_two.mpr ⟨⟨?_, ?_⟩, ⟨Nat.zero_le _, ?_⟩⟩
        · show 128 * n ≤ (y 0).val; omega
        · show (y 0).val < 128 * n + 128; omega
        · show (y 1).val < 0 + C
          have : (y 1).val < C := (y 1).isLt
          omega
      exact ⟨_, List.mem_cons_self, hm⟩

include hpay in
/-- The stores of all groups leave the dequantised block. -/
theorem canon_groups : View.canon (groups hR hG pay x0 x1 G le_rfl) = deq hR hG x0 x1 :=
  funext fun y => View.canon_eq_of_allAt _ y _
    (groups_cover hR hG pay x0 x1 y G le_rfl (by have : (y 0).val < W := (y 0).isLt; omega))
    (groups_at hR hG pay hpay x0 x1 y G le_rfl)

end Cert.Proof.Dequant

end
-- ==== Proof.DqIn.lean ====
/-
  Hand-written, untrusted. The dequantiser of `w_in`: the ideal program keeps the original's meaning, and its result is the
  reference's, every element of it, whatever the packed bytes and the scales.
-/
module

public import proofs.«01_k».proof.Defs
public import proofs.«01_k».proof.Proof.Gen.DqIn.Frame
public import proofs.«01_k».proof.Proof.Gen.DqInIdeal.Value
public import proofs.«01_k».proof.Proof.Gen.RefDqInIdeal.Run
public import proofs.«01_k».proof.Proof.Gen.RefDqInIdeal.Read
public import Idealize.ShloMosaic.Lib.Bf16Pair
public import Idealize.ShloMosaic.Lib.Tactic
public import proofs.«01_k».proof.Proof.Dequant

@[expose] public section

set_option maxRecDepth 16384

noncomputable section

namespace Cert.Proof.DqIn

open Cert.DqInIdeal Cert.DqInIdeal.Gen Idealize.ShloMosaic Idealize.ShloMosaic.TcCoe Idealize.SL.Sem
open Cert.Proof.Dequant
open Idealize.ShloMosaic.Pipeline (Dat)

/-- CLAIM: joining two bfloat16 rows in one word is, on the bits, what the ideal program writes as interleaved rows. -/
theorem preserves : preserves_DqIn_DqInIdeal :=
  ⟨IdealRules.bf16_pair.statement _ _ bitcasts_S128x512_w16_S64x512_w32, IdealRules.bf16_pack.statement _⟩

/-- The products of one half of the bytes: each code times the scale of its column. -/
theorem half (v : Vec Ideal S64x512 .i8) (s : Vec Ideal S1x512 .f32) (n : BitVec 32) (p : Nat)
    (hn : ∀ b : BitVec 8, IntOp.shrsi .vector (IntOp.shli .vector (b.setWidth 32) n) 28#32 = nibble b p) (k : S64x512.Idx) :
    (mulf (F := Ideal) (φ := .f32) (sitofp .f32 (shrsi (shli (extui 32 v natLt_8_32) (broadcast S64x512 n)) (broadcast S64x512 28#32)))
      (broadcastTo S64x512 s broadcasts_S1x512_S64x512) k : EReal) = (((nibble (v k) p).toInt : ℝ) : EReal) * (s (ix2 0 (k 1)) : EReal) := by
  rw [← hn]
  have hs : broadcastTo S64x512 s broadcasts_S1x512_S64x512 k = s (ix2 0 (k 1)) :=
    broadcastTo_apply _ _ _ _ fun a => match a with
      | ⟨0, _⟩ => by show 0 = if (1 : Nat) = 1 then 0 else _; rw [if_pos rfl]
      | ⟨1, _⟩ => by show (k 1).val = if (512 : Nat) = 1 then 0 else (k 1).val; rw [if_neg (by decide)]
  exact congrArg (fun z : EReal => (((IntOp.shrsi .vector (IntOp.shli .vector ((v k).setWidth 32) n) 28#32).toInt : ℝ) : EReal) * z) hs

/-- One group's payload is the dequantiser on the group's 64 packed rows and one row of scales. -/
theorem pay_eq (v : Vec Ideal S64x512 .i8) (s : Vec Ideal S1x512 .f32) : k0_pay2 v s = deq (R := 64) (G := 1) (W := 128) (C := 512) rfl rfl v s := by
  funext (j : S128x512.Idx)
  have hj : (j 0).val < 128 := (j 0).isLt
  have e : (⟨(j 0).val / 128, by omega⟩ : Fin 1) = 0 := Fin.ext (by show (j 0).val / 128 = 0; omega)
  have key (p : Nat) (k : S64x512.Idx) (hk : k = ix2 ⟨(j 0).val / 2, by omega⟩ (j 1)) :
      (((nibble (v k) p).toInt : ℝ) : EReal) * (s (ix2 0 (k 1)) : EReal)
        = (((nibble (v (ix2 ⟨(j 0).val / 2, by omega⟩ (j 1))) p).toInt : ℝ) : EReal) * (s (ix2 0 (j 1)) : EReal) := by subst hk; rfl
  unfold k0_pay2 deq
  dsimp only
  rw [interleaveRows_apply, shapeCast_self, e]
  show (if (j 0).val % 2 = 0 then _ else _) = _
  split
  next h =>
    rw [h]
    refine (half v s 28#32 0 nibble_low _).trans (key 0 _ (funext fun a => ?_))
    match a with
    | ⟨0, _⟩ => rfl
    | ⟨1, _⟩ => rfl
  next h =>
    rw [show (j 0).val % 2 = 1 by omega]
    refine (half v s 24#32 1 nibble_high _).trans (key 1 _ (funext fun a => ?_))
    match a with
    | ⟨0, _⟩ => rfl
    | ⟨1, _⟩ => rfl

/-- What a point leaves is the dequantiser on the point's blocks. -/
theorem out_eq (x0 : Vec Ideal S1280x512 .i8) (x1 : Vec Ideal S20x512 .f32) :
    out0_2 x0 x1 = deq (R := 1280) (G := 20) (W := 2560) (C := 512) rfl rfl x0 x1 :=
  (show out0_2 x0 x1 = View.canon (groups (R := 1280) (G := 20) (W := 2560) (C := 512) rfl rfl (k0_pay2 (F := Ideal)) x0 x1 20 le_rfl) from rfl).trans
    (canon_groups rfl rfl _ pay_eq x0 x1)

/-- A point's blocks are whole columns: rows from the first, columns with the point. -/
theorem idx_facts : ∀ t : Fin cfg0.N, win0_0.index t 0 = 0 ∧ win0_0.index t 1 = t.val ∧ win0_1.index t 0 = 0 ∧ win0_1.index t 1 = t.val
    ∧ win0_2.index t 0 = 0 ∧ win0_2.index t 1 = t.val :=
  (by decide +kernel : ∀ t : Fin grid0.N, win0_0.index t 0 = 0 ∧ win0_0.index t 1 = t.val ∧ win0_1.index t 0 = 0 ∧ win0_1.index t 1 = t.val
    ∧ win0_2.index t 0 = 0 ∧ win0_2.index t 1 = t.val)

/-- The array's column that a point's column `b` is. -/
def colOf (t : Fin cfg0.N) (b : Fin 512) : Fin 10240 := ⟨t.val * 512 + b.val, by have : t.val < 20 := t.isLt; omega⟩

variable (m : (ℓ : Loc nD τ sig) → Buf (Elt Ideal) ℓ)

/-- The packed bytes, as launched. -/
abbrev aP (c : Dev nD) : Vec Ideal S1280x10240 .i8 := m ((c : Thread nD τ).loc main_arg0)
/-- The scales, as launched. -/
abbrev aS (c : Dev nD) : Vec Ideal S20x10240 .f32 := m ((c : Thread nD τ).loc main_arg1)

/-- The bytes the kernel reads are the argument's. -/
theorem V_packed (c : Dev nD) (j : S1280x10240.Idx) : V m c main_v0 j = aP m c j := by
  entry_read
  pointwise

/-- A byte at a point. -/
theorem packed_blk (c : Dev nD) (t : Fin cfg0.N) (a : Fin 1280) (b : Fin 512) : iblk m c 0 t (ix2 a b) = aP m c (ix2 a (colOf t b)) := by
  obtain ⟨e0, e1, -⟩ := idx_facts t
  unfold iblk
  rw [View.read_apply]
  refine (V_packed m c _).trans ?_
  congr 1
  funext a'
  apply Fin.ext
  match a' with
  | ⟨0, _⟩ => show win0_0.index t 0 * 1280 + 1 * a.val = a.val; rw [e0]; omega
  | ⟨1, _⟩ => show win0_0.index t 1 * 512 + 1 * b.val = t.val * 512 + b.val; rw [e1]; omega

/-- A scale at a point. -/
theorem scale_blk (c : Dev nD) (t : Fin cfg0.N) (a : Fin 20) (b : Fin 512) : iblk m c 1 t (ix2 a b) = aS m c (ix2 a (colOf t b)) := by
  obtain ⟨-, -, e0, e1, -⟩ := idx_facts t
  unfold iblk
  rw [View.read_apply]
  show m (c.tc.loc main_arg1) _ = m (c.tc.loc main_arg1) _
  congr 1
  funext a'
  apply Fin.ext
  match a' with
  | ⟨0, _⟩ => show win0_1.index t 0 * 20 + 1 * a.val = a.val; rw [e0]; omega
  | ⟨1, _⟩ => show win0_1.index t 1 * 512 + 1 * b.val = t.val * 512 + b.val; rw [e1]; omega

/-- The weight as one function of the arguments. -/
def weight (c : Dev nD) : Vec Ideal S2560x10240 .bf16 := deq (R := 1280) (G := 20) (W := 2560) (C := 10240) rfl rfl (aP m c) (aS m c)

/-- What a point writes back is its block of the weight. -/
theorem flushed_eq (c : Dev nD) (t : Fin cfg0.N) :
    (dats m 0 c).flushed 2 t = ((cfg0.win 2).blk t).view.read (Elt Ideal) (weight m c) := by
  obtain ⟨-, -, -, -, e0, e1⟩ := idx_facts t
  rw [Value.flushed2, out_eq]
  funext (j : S2560x512.Idx)
  show deq (R := 1280) (G := 20) (W := 2560) (C := 512) rfl rfl (iblk m c 0 t) (iblk m c 1 t) j = _
  rw [View.read_apply]
  have hj : (j 0).val < 2560 := (j 0).isLt
  have he : (((cfg0.win 2).blk t).view.emb j : S2560x10240.Idx) = ix2 (j 0) (colOf t (j 1)) := by
    funext a
    apply Fin.ext
    match a with
    | ⟨0, _⟩ => show win0_2.index t 0 * 2560 + 1 * (j 0).val = (j 0).val; rw [e0]; omega
    | ⟨1, _⟩ => show win0_2.index t 1 * 512 + 1 * (j 1).val = t.val * 512 + (j 1).val; rw [e1]; omega
  refine Eq.trans ?_ (congrArg (weight m c) he.symm)
  exact deq_block rfl rfl (R := 1280) (G := 20) (W := 2560) _ _ (aP m c) (aS m c) j (colOf t (j 1)) (fun a => packed_blk m c t a (j 1)) (fun a => scale_blk m c t a (j 1))

/-- The blocks cover the weight. -/
theorem final (c : Dev nD) : (dats m 0 c).arrAt 2 cfg0.N = weight m c :=
  (dats m 0 c).arrAt_eq_of_cover 2 (weight m c) (fun t _ => flushed_eq m c t) fun (i : S2560x10240.Idx) => by
    have h0 : (i 0 : Nat) < 2560 := (i 0).isLt
    have h1 : (i 1 : Nat) < 10240 := (i 1).isLt
    obtain ⟨t, ht⟩ : ∃ t : Fin cfg0.N, t.val = (i 1).val / 512 := ⟨⟨(i 1).val / 512, by show (i 1).val / 512 < 20; omega⟩, rfl⟩
    obtain ⟨-, -, -, -, e0, e1⟩ := idx_facts t
    refine ⟨t, flush0_2 t, ?_⟩
    show i ∈ ((View.whole main_v1).slice (win0_2.rect t)).set
    rw [View.set_slice_whole, Rect.mem_set_unit]
    intro a
    match a with
    | ⟨0, _⟩ => show win0_2.index t 0 * 2560 ≤ (i 0 : Nat) ∧ (i 0 : Nat) < win0_2.index t 0 * 2560 + 2560; omega
    | ⟨1, _⟩ => show win0_2.index t 1 * 512 ≤ (i 1 : Nat) ∧ (i 1 : Nat) < win0_2.index t 1 * 512 + 512; omega

open RefDqInIdeal.Read in
/-- The reference's codes, half by half. -/
theorem codes_eq (x0 : Vec Ideal S1280x10240 .i8) (a : Fin 1280) (p : Fin 2) (b : Fin 10240) :
    val_main_v15 (F := Ideal) x0 (ix3 a p b) = nibble (x0 (ix2 a b)) p.val := by
  have h8 : val_main_v10 (F := Ideal) x0 (ix3 a p b)
      = IntOp.andi (IntOp.shrsi .host ((x0 (ix2 a b)).signExtend 32) (IntOp.muli 4#32 (BitVec.ofNat 32 p.val))) 15#32 := by
    rw [val_main_v10_apply, val_main_v8_apply, val_main_v6_apply, val_main_v4_apply, val_main_v3_apply, val_main_v7_apply, val_main_v5_apply,
      val_main_v2_apply, val_main_v1_apply, val_main_c_apply, val_main_v0_apply, val_main_v9_apply, val_main_c_0_apply]
    congr 4
    funext a'
    match a' with
    | ⟨0, _⟩ => rfl
    | ⟨1, _⟩ => rfl
  rw [val_main_v15_apply, val_main_v12_apply, val_main_v14_apply, h8, val_main_v11_apply, val_main_c_1_apply, val_main_v13_apply, val_main_c_2_apply]
  exact masked_eq _ p

/-- Where the reference's two reshapes read, as row and column. -/
theorem flat (r b : Nat) (hb : b < 10240) : (r * 10240 + b) / 1310720 = r / 128 ∧ (r * 10240 + b) % 10240 = b
    ∧ (((r * 10240 + b) / 1310720 * 128 + (r * 10240 + b) / 10240 % 128) * 10240 + (r * 10240 + b) % 10240) / 20480 = r / 2
    ∧ (((r * 10240 + b) / 1310720 * 128 + (r * 10240 + b) / 10240 % 128) * 10240 + (r * 10240 + b) % 10240) / 10240 % 2 = r % 2
    ∧ (((r * 10240 + b) / 1310720 * 128 + (r * 10240 + b) / 10240 % 128) * 10240 + (r * 10240 + b) % 10240) % 10240 = b := by
  have d0 : (r * 10240 + b) / 1310720 = r / 128 := by omega
  have d1 : (r * 10240 + b) / 10240 % 128 = r % 128 := by omega
  have d2 : (r * 10240 + b) % 10240 = b := by omega
  have d3 : r / 128 * 128 + r % 128 = r := by omega
  rw [d0, d1, d2, d3]
  exact ⟨rfl, rfl, by omega, by omega, by omega⟩

open RefDqInIdeal.Read in
/-- The reference is the dequantiser. -/
theorem ref_eq (x0 : Vec Ideal S1280x10240 .i8) (x1 : Vec Ideal S20x10240 .f32) :
    val_main_v23 (F := Ideal) x0 x1 = deq (R := 1280) (G := 20) (W := 2560) (C := 10240) rfl rfl x0 x1 := by
  funext (i : S2560x10240.Idx)
  have h0 : (i 0 : Nat) < 2560 := (i 0).isLt
  have h1 : (i 1 : Nat) < 10240 := (i 1).isLt
  rw [val_main_v23_apply, val_main_v22_apply, val_main_v21_apply, val_main_v20_apply, val_main_v19_apply, val_main_v18_apply, val_main_v17_apply,
    val_main_v16_apply]
  unfold deq
  dsimp only
  have hi : idx_main_v18 (idx_main_v23 i) = ix3 ⟨(i 0).val / 2, by omega⟩ ⟨(i 0).val % 2, by omega⟩ ⟨(i 1).val, h1⟩ := by
    obtain ⟨-, -, d0, d1, d2⟩ := flat (i 0).val (i 1).val h1
    funext a
    apply Fin.ext
    match a with
    | ⟨0, _⟩ => exact d0
    | ⟨1, _⟩ => exact d1
    | ⟨2, _⟩ => exact d2
  have hc := (congrArg (val_main_v15 (F := Ideal) x0) hi).trans (codes_eq x0 _ _ _)
  rw [hc]
  show (_ : EReal) * _ = _
  congr 1
  show x1 _ = x1 _
  congr 1
  funext a
  apply Fin.ext
  match a with
  | ⟨0, _⟩ => exact (flat (i 0).val (i 1).val h1).1
  | ⟨1, _⟩ => exact (flat (i 0).val (i 1).val h1).2.1

/-- CLAIM: over the reals, the weight the kernel makes is the reference's, whatever the arguments. -/
theorem algebraic : algebraic_DqInIdeal_RefDqInIdeal := by
  intro m g m' g' hpre hargs
  refine ⟨fun c => weight m c,
    (θ_run defs _ _).mono (fun r h c => ⟨(h c).1.trans (final m c), (h c).2⟩) (Value.run_blocks m g), ?_⟩
  refine (θ_run RefDqInIdeal.defs _ _).mono (fun r h c => ?_) (RefDqInIdeal.Value.run m' g')
  obtain ⟨h0, h1⟩ := h c
  obtain ⟨a0, a1⟩ := hargs c
  refine ⟨?_, h1⟩
  rw [h0, RefDqInIdeal.Read.val_main_v23_eq, ref_eq]
  show deq _ _ _ _ = deq _ _ _ _
  rw [a0, a1]

end Cert.Proof.DqIn

end
-- ==== Proof.DqOut.lean ====
/-
  Hand-written, untrusted. The dequantiser of `w_out`: the ideal program keeps the original's meaning, and its result is the
  reference's, every element of it, whatever the packed bytes and the scales.
-/
module

public import proofs.«01_k».proof.Defs
public import proofs.«01_k».proof.Proof.Gen.DqOut.Frame
public import proofs.«01_k».proof.Proof.Gen.DqOutIdeal.Value
public import proofs.«01_k».proof.Proof.Gen.RefDqOutIdeal.Run
public import proofs.«01_k».proof.Proof.Gen.RefDqOutIdeal.Read
public import Idealize.ShloMosaic.Lib.Bf16Pair
public import Idealize.ShloMosaic.Lib.Tactic
public import proofs.«01_k».proof.Proof.Dequant

@[expose] public section

set_option maxRecDepth 16384

noncomputable section

namespace Cert.Proof.DqOut

open Cert.DqOutIdeal Cert.DqOutIdeal.Gen Idealize.ShloMosaic Idealize.ShloMosaic.TcCoe Idealize.SL.Sem
open Cert.Proof.Dequant
open Idealize.ShloMosaic.Pipeline (Dat)

/-- CLAIM: joining two bfloat16 rows in one word is, on the bits, what the ideal program writes as interleaved rows. -/
theorem preserves : preserves_DqOut_DqOutIdeal :=
  ⟨IdealRules.bf16_pair.statement _ _ bitcasts_S128x256_w16_S64x256_w32, IdealRules.bf16_pack.statement _⟩

/-- The products of one half of the bytes: each code times the scale of its column. -/
theorem half (v : Vec Ideal S64x256 .i8) (s : Vec Ideal S1x256 .f32) (n : BitVec 32) (p : Nat)
    (hn : ∀ b : BitVec 8, IntOp.shrsi .vector (IntOp.shli .vector (b.setWidth 32) n) 28#32 = nibble b p) (k : S64x256.Idx) :
    (mulf (F := Ideal) (φ := .f32) (sitofp .f32 (shrsi (shli (extui 32 v natLt_8_32) (broadcast S64x256 n)) (broadcast S64x256 28#32)))
      (broadcastTo S64x256 s broadcasts_S1x256_S64x256) k : EReal) = (((nibble (v k) p).toInt : ℝ) : EReal) * (s (ix2 0 (k 1)) : EReal) := by
  rw [← hn]
  have hs : broadcastTo S64x256 s broadcasts_S1x256_S64x256 k = s (ix2 0 (k 1)) :=
    broadcastTo_apply _ _ _ _ fun a => match a with
      | ⟨0, _⟩ => by show 0 = if (1 : Nat) = 1 then 0 else _; rw [if_pos rfl]
      | ⟨1, _⟩ => by show (k 1).val = if (256 : Nat) = 1 then 0 else (k 1).val; rw [if_neg (by decide)]
  exact congrArg (fun z : EReal => (((IntOp.shrsi .vector (IntOp.shli .vector ((v k).setWidth 32) n) 28#32).toInt : ℝ) : EReal) * z) hs

/-- One group's payload is the dequantiser on the group's 64 packed rows and one row of scales. -/
theorem pay_eq (v : Vec Ideal S64x256 .i8) (s : Vec Ideal S1x256 .f32) : k0_pay2 v s = deq (R := 64) (G := 1) (W := 128) (C := 256) rfl rfl v s := by
  funext (j : S128x256.Idx)
  have hj : (j 0).val < 128 := (j 0).isLt
  have e : (⟨(j 0).val / 128, by omega⟩ : Fin 1) = 0 := Fin.ext (by show (j 0).val / 128 = 0; omega)
  have key (p : Nat) (k : S64x256.Idx) (hk : k = ix2 ⟨(j 0).val / 2, by omega⟩ (j 1)) :
      (((nibble (v k) p).toInt : ℝ) : EReal) * (s (ix2 0 (k 1)) : EReal)
        = (((nibble (v (ix2 ⟨(j 0).val / 2, by omega⟩ (j 1))) p).toInt : ℝ) : EReal) * (s (ix2 0 (j 1)) : EReal) := by subst hk; rfl
  unfold k0_pay2 deq
  dsimp only
  rw [interleaveRows_apply, shapeCast_self, e]
  show (if (j 0).val % 2 = 0 then _ else _) = _
  split
  next h =>
    rw [h]
    refine (half v s 28#32 0 nibble_low _).trans (key 0 _ (funext fun a => ?_))
    match a with
    | ⟨0, _⟩ => rfl
    | ⟨1, _⟩ => rfl
  next h =>
    rw [show (j 0).val % 2 = 1 by omega]
    refine (half v s 24#32 1 nibble_high _).trans (key 1 _ (funext fun a => ?_))
    match a with
    | ⟨0, _⟩ => rfl
    | ⟨1, _⟩ => rfl

/-- What a point leaves is the dequantiser on the point's blocks. -/
theorem out_eq (x0 : Vec Ideal S2560x256 .i8) (x1 : Vec Ideal S40x256 .f32) :
    out0_2 x0 x1 = deq (R := 2560) (G := 40) (W := 5120) (C := 256) rfl rfl x0 x1 :=
  (show out0_2 x0 x1 = View.canon (groups (R := 2560) (G := 40) (W := 5120) (C := 256) rfl rfl (k0_pay2 (F := Ideal)) x0 x1 40 le_rfl) from rfl).trans
    (canon_groups rfl rfl _ pay_eq x0 x1)

/-- A point's blocks are whole columns: rows from the first, columns with the point. -/
theorem idx_facts : ∀ t : Fin cfg0.N, win0_0.index t 0 = 0 ∧ win0_0.index t 1 = t.val ∧ win0_1.index t 0 = 0 ∧ win0_1.index t 1 = t.val
    ∧ win0_2.index t 0 = 0 ∧ win0_2.index t 1 = t.val :=
  (by decide +kernel : ∀ t : Fin grid0.N, win0_0.index t 0 = 0 ∧ win0_0.index t 1 = t.val ∧ win0_1.index t 0 = 0 ∧ win0_1.index t 1 = t.val
    ∧ win0_2.index t 0 = 0 ∧ win0_2.index t 1 = t.val)

/-- The array's column that a point's column `b` is. -/
def colOf (t : Fin cfg0.N) (b : Fin 256) : Fin 2560 := ⟨t.val * 256 + b.val, by have : t.val < 10 := t.isLt; omega⟩

variable (m : (ℓ : Loc nD τ sig) → Buf (Elt Ideal) ℓ)

/-- The packed bytes, as launched. -/
abbrev aP (c : Dev nD) : Vec Ideal S2560x2560 .i8 := m ((c : Thread nD τ).loc main_arg0)
/-- The scales, as launched. -/
abbrev aS (c : Dev nD) : Vec Ideal S40x2560 .f32 := m ((c : Thread nD τ).loc main_arg1)

/-- The bytes the kernel reads are the argument's. -/
theorem V_packed (c : Dev nD) (j : S2560x2560.Idx) : V m c main_v0 j = aP m c j := by
  entry_read
  pointwise

/-- A byte at a point. -/
theorem packed_blk (c : Dev nD) (t : Fin cfg0.N) (a : Fin 2560) (b : Fin 256) : iblk m c 0 t (ix2 a b) = aP m c (ix2 a (colOf t b)) := by
  obtain ⟨e0, e1, -⟩ := idx_facts t
  unfold iblk
  rw [View.read_apply]
  refine (V_packed m c _).trans ?_
  congr 1
  funext a'
  apply Fin.ext
  match a' with
  | ⟨0, _⟩ => show win0_0.index t 0 * 2560 + 1 * a.val = a.val; rw [e0]; omega
  | ⟨1, _⟩ => show win0_0.index t 1 * 256 + 1 * b.val = t.val * 256 + b.val; rw [e1]; omega

/-- A scale at a point. -/
theorem scale_blk (c : Dev nD) (t : Fin cfg0.N) (a : Fin 40) (b : Fin 256) : iblk m c 1 t (ix2 a b) = aS m c (ix2 a (colOf t b)) := by
  obtain ⟨-, -, e0, e1, -⟩ := idx_facts t
  unfold iblk
  rw [View.read_apply]
  show m (c.tc.loc main_arg1) _ = m (c.tc.loc main_arg1) _
  congr 1
  funext a'
  apply Fin.ext
  match a' with
  | ⟨0, _⟩ => show win0_1.index t 0 * 40 + 1 * a.val = a.val; rw [e0]; omega
  | ⟨1, _⟩ => show win0_1.index t 1 * 256 + 1 * b.val = t.val * 256 + b.val; rw [e1]; omega

/-- The weight as one function of the arguments. -/
def weight (c : Dev nD) : Vec Ideal S5120x2560 .bf16 := deq (R := 2560) (G := 40) (W := 5120) (C := 2560) rfl rfl (aP m c) (aS m c)

/-- What a point writes back is its block of the weight. -/
theorem flushed_eq (c : Dev nD) (t : Fin cfg0.N) :
    (dats m 0 c).flushed 2 t = ((cfg0.win 2).blk t).view.read (Elt Ideal) (weight m c) := by
  obtain ⟨-, -, -, -, e0, e1⟩ := idx_facts t
  rw [Value.flushed2, out_eq]
  funext (j : S5120x256.Idx)
  show deq (R := 2560) (G := 40) (W := 5120) (C := 256) rfl rfl (iblk m c 0 t) (iblk m c 1 t) j = _
  rw [View.read_apply]
  have hj : (j 0).val < 5120 := (j 0).isLt
  have he : (((cfg0.win 2).blk t).view.emb j : S5120x2560.Idx) = ix2 (j 0) (colOf t (j 1)) := by
    funext a
    apply Fin.ext
    match a with
    | ⟨0, _⟩ => show win0_2.index t 0 * 5120 + 1 * (j 0).val = (j 0).val; rw [e0]; omega
    | ⟨1, _⟩ => show win0_2.index t 1 * 256 + 1 * (j 1).val = t.val * 256 + (j 1).val; rw [e1]; omega
  refine Eq.trans ?_ (congrArg (weight m c) he.symm)
  exact deq_block rfl rfl (R := 2560) (G := 40) (W := 5120) _ _ (aP m c) (aS m c) j (colOf t (j 1)) (fun a => packed_blk m c t a (j 1)) (fun a => scale_blk m c t a (j 1))

/-- The blocks cover the weight. -/
theorem final (c : Dev nD) : (dats m 0 c).arrAt 2 cfg0.N = weight m c :=
  (dats m 0 c).arrAt_eq_of_cover 2 (weight m c) (fun t _ => flushed_eq m c t) fun (i : S5120x2560.Idx) => by
    have h0 : (i 0 : Nat) < 5120 := (i 0).isLt
    have h1 : (i 1 : Nat) < 2560 := (i 1).isLt
    obtain ⟨t, ht⟩ : ∃ t : Fin cfg0.N, t.val = (i 1).val / 256 := ⟨⟨(i 1).val / 256, by show (i 1).val / 256 < 10; omega⟩, rfl⟩
    obtain ⟨-, -, -, -, e0, e1⟩ := idx_facts t
    refine ⟨t, flush0_2 t, ?_⟩
    show i ∈ ((View.whole main_v1).slice (win0_2.rect t)).set
    rw [View.set_slice_whole, Rect.mem_set_unit]
    intro a
    match a with
    | ⟨0, _⟩ => show win0_2.index t 0 * 5120 ≤ (i 0 : Nat) ∧ (i 0 : Nat) < win0_2.index t 0 * 5120 + 5120; omega
    | ⟨1, _⟩ => show win0_2.index t 1 * 256 ≤ (i 1 : Nat) ∧ (i 1 : Nat) < win0_2.index t 1 * 256 + 256; omega

open RefDqOutIdeal.Read in
/-- The reference's codes, half by half. -/
theorem codes_eq (x0 : Vec Ideal S2560x2560 .i8) (a : Fin 2560) (p : Fin 2) (b : Fin 2560) :
    val_main_v15 (F := Ideal) x0 (ix3 a p b) = nibble (x0 (ix2 a b)) p.val := by
  have h8 : val_main_v10 (F := Ideal) x0 (ix3 a p b)
      = IntOp.andi (IntOp.shrsi .host ((x0 (ix2 a b)).signExtend 32) (IntOp.muli 4#32 (BitVec.ofNat 32 p.val))) 15#32 := by
    rw [val_main_v10_apply, val_main_v8_apply, val_main_v6_apply, val_main_v4_apply, val_main_v3_apply, val_main_v7_apply, val_main_v5_apply,
      val_main_v2_apply, val_main_v1_apply, val_main_c_apply, val_main_v0_apply, val_main_v9_apply, val_main_c_0_apply]
    congr 4
    funext a'
    match a' with
    | ⟨0, _⟩ => rfl
    | ⟨1, _⟩ => rfl
  rw [val_main_v15_apply, val_main_v12_apply, val_main_v14_apply, h8, val_main_v11_apply, val_main_c_1_apply, val_main_v13_apply, val_main_c_2_apply]
  exact masked_eq _ p

/-- Where the reference's two reshapes read, as row and column. -/
theorem flat (r b : Nat) (hb : b < 2560) : (r * 2560 + b) / 327680 = r / 128 ∧ (r * 2560 + b) % 2560 = b
    ∧ (((r * 2560 + b) / 327680 * 128 + (r * 2560 + b) / 2560 % 128) * 2560 + (r * 2560 + b) % 2560) / 5120 = r / 2
    ∧ (((r * 2560 + b) / 327680 * 128 + (r * 2560 + b) / 2560 % 128) * 2560 + (r * 2560 + b) % 2560) / 2560 % 2 = r % 2
    ∧ (((r * 2560 + b) / 327680 * 128 + (r * 2560 + b) / 2560 % 128) * 2560 + (r * 2560 + b) % 2560) % 2560 = b := by
  have d0 : (r * 2560 + b) / 327680 = r / 128 := by omega
  have d1 : (r * 2560 + b) / 2560 % 128 = r % 128 := by omega
  have d2 : (r * 2560 + b) % 2560 = b := by omega
  have d3 : r / 128 * 128 + r % 128 = r := by omega
  rw [d0, d1, d2, d3]
  exact ⟨rfl, rfl, by omega, by omega, by omega⟩

open RefDqOutIdeal.Read in
/-- The reference is the dequantiser. -/
theorem ref_eq (x0 : Vec Ideal S2560x2560 .i8) (x1 : Vec Ideal S40x2560 .f32) :
    val_main_v23 (F := Ideal) x0 x1 = deq (R := 2560) (G := 40) (W := 5120) (C := 2560) rfl rfl x0 x1 := by
  funext (i : S5120x2560.Idx)
  have h0 : (i 0 : Nat) < 5120 := (i 0).isLt
  have h1 : (i 1 : Nat) < 2560 := (i 1).isLt
  rw [val_main_v23_apply, val_main_v22_apply, val_main_v21_apply, val_main_v20_apply, val_main_v19_apply, val_main_v18_apply, val_main_v17_apply,
    val_main_v16_apply]
  unfold deq
  dsimp only
  have hi : idx_main_v18 (idx_main_v23 i) = ix3 ⟨(i 0).val / 2, by omega⟩ ⟨(i 0).val % 2, by omega⟩ ⟨(i 1).val, h1⟩ := by
    obtain ⟨-, -, d0, d1, d2⟩ := flat (i 0).val (i 1).val h1
    funext a
    apply Fin.ext
    match a with
    | ⟨0, _⟩ => exact d0
    | ⟨1, _⟩ => exact d1
    | ⟨2, _⟩ => exact d2
  have hc := (congrArg (val_main_v15 (F := Ideal) x0) hi).trans (codes_eq x0 _ _ _)
  rw [hc]
  show (_ : EReal) * _ = _
  congr 1
  show x1 _ = x1 _
  congr 1
  funext a
  apply Fin.ext
  match a with
  | ⟨0, _⟩ => exact (flat (i 0).val (i 1).val h1).1
  | ⟨1, _⟩ => exact (flat (i 0).val (i 1).val h1).2.1

/-- CLAIM: over the reals, the weight the kernel makes is the reference's, whatever the arguments. -/
theorem algebraic : algebraic_DqOutIdeal_RefDqOutIdeal := by
  intro m g m' g' hpre hargs
  refine ⟨fun c => weight m c,
    (θ_run defs _ _).mono (fun r h c => ⟨(h c).1.trans (final m c), (h c).2⟩) (Value.run_blocks m g), ?_⟩
  refine (θ_run RefDqOutIdeal.defs _ _).mono (fun r h c => ?_) (RefDqOutIdeal.Value.run m' g')
  obtain ⟨h0, h1⟩ := h c
  obtain ⟨a0, a1⟩ := hargs c
  refine ⟨?_, h1⟩
  rw [h0, RefDqOutIdeal.Read.val_main_v23_eq, ref_eq]
  show deq _ _ _ _ = deq _ _ _ _
  rw [a0, a1]

end Cert.Proof.DqOut

end
-- ==== Proof.lean ====
/-
  Hand-written, untrusted. The proof of `Cert.Claim`: every program's frame from its generated modules, nothing to prove for
  `preserves` (no operation was rewritten), and each value claim from its module under `Proof/`.
-/
module

public import proofs.«01_k».proof.Defs
public import proofs.«01_k».proof.Proof.Gen.InZ.Frame
public import proofs.«01_k».proof.Proof.Gen.InZIdeal.Frame
public import proofs.«01_k».proof.Proof.Gen.RefInZIdeal
public import proofs.«01_k».proof.Proof.Gen.RefInZIdeal.Run
public import proofs.«01_k».proof.Proof.Gen.Out.Frame
public import proofs.«01_k».proof.Proof.Gen.OutIdeal.Frame
public import proofs.«01_k».proof.Proof.Gen.RefOutIdeal
public import proofs.«01_k».proof.Proof.Gen.RefOutIdeal.Run
public import proofs.«01_k».proof.Proof.Gen.Norm.Frame
public import proofs.«01_k».proof.Proof.Gen.NormIdeal.Frame
public import proofs.«01_k».proof.Proof.Gen.RefNormIdeal
public import proofs.«01_k».proof.Proof.Gen.RefNormIdeal.Run
public import proofs.«01_k».proof.Proof.Gen.XProj.Frame
public import proofs.«01_k».proof.Proof.Gen.XProjIdeal.Frame
public import proofs.«01_k».proof.Proof.Gen.RefXProjIdeal
public import proofs.«01_k».proof.Proof.Gen.RefXProjIdeal.Run
public import proofs.«01_k».proof.Proof.Gen.InX.Frame
public import proofs.«01_k».proof.Proof.Gen.InXIdeal.Frame
public import proofs.«01_k».proof.Proof.Gen.RefInXIdeal
public import proofs.«01_k».proof.Proof.Gen.RefInXIdeal.Run
public import proofs.«01_k».proof.Proof.Gen.DqIn.Frame
public import proofs.«01_k».proof.Proof.Gen.DqInIdeal.Frame
public import proofs.«01_k».proof.Proof.Gen.RefDqInIdeal
public import proofs.«01_k».proof.Proof.Gen.RefDqInIdeal.Run
public import proofs.«01_k».proof.Proof.Gen.DqOut.Frame
public import proofs.«01_k».proof.Proof.Gen.DqOutIdeal.Frame
public import proofs.«01_k».proof.Proof.Gen.RefDqOutIdeal
public import proofs.«01_k».proof.Proof.Gen.RefDqOutIdeal.Run
public import proofs.«01_k».proof.Proof.Gen.Pre_scale_in_nonzero
public import proofs.«01_k».proof.Proof.Gen.Pre_scales_proj_nonzero
public import proofs.«01_k».proof.Proof.Gen.Pre_scales_conv_nonzero
public import proofs.«01_k».proof.Proof.InZ
public import proofs.«01_k».proof.Proof.Out
public import proofs.«01_k».proof.Proof.Norm
public import proofs.«01_k».proof.Proof.XProj
public import proofs.«01_k».proof.Proof.InX
public import proofs.«01_k».proof.Proof.DqIn
public import proofs.«01_k».proof.Proof.DqOut

@[expose] public section

noncomputable section

namespace Cert.Proof

open Idealize.ShloMosaic Idealize.SL.Sem

/-- The reference of `InZ` runs, leaves its arguments unchanged and no semaphore raised. -/
theorem frame_RefInZ : Cert.quiescent_RefInZIdeal := fun m g _ =>
  (θ_run Cert.RefInZIdeal.defs _ _).mono (fun r h => ⟨fun c => (h c).2, Idealize.ShloMosaic.sem_eq_zero_of_no_sems (by decide) r.2⟩) (Cert.RefInZIdeal.Value.run m g)

/-- The reference of `Out` runs, leaves its arguments unchanged and no semaphore raised. -/
theorem frame_RefOut : Cert.quiescent_RefOutIdeal := fun m g _ =>
  (θ_run Cert.RefOutIdeal.defs _ _).mono (fun r h => ⟨fun c => (h c).2.2, Idealize.ShloMosaic.sem_eq_zero_of_no_sems (by decide) r.2⟩) (Cert.RefOutIdeal.Value.run m g)

/-- The reference of `Norm` runs, leaves its arguments unchanged and no semaphore raised. -/
theorem frame_RefNorm : Cert.quiescent_RefNormIdeal := fun m g _ =>
  (θ_run Cert.RefNormIdeal.defs _ _).mono (fun r h => ⟨fun c => (h c).2, Idealize.ShloMosaic.sem_eq_zero_of_no_sems (by decide) r.2⟩) (Cert.RefNormIdeal.Value.run m g)

/-- The reference of `XProj` runs, leaves its arguments unchanged and no semaphore raised. -/
theorem frame_RefXProj : Cert.quiescent_RefXProjIdeal := fun m g _ =>
  (θ_run Cert.RefXProjIdeal.defs _ _).mono (fun r h => ⟨fun c => (h c).2.2.2.2, Idealize.ShloMosaic.sem_eq_zero_of_no_sems (by decide) r.2⟩) (Cert.RefXProjIdeal.Value.run m g)

/-- The reference of `InX` runs, leaves its arguments unchanged and no semaphore raised. -/
theorem frame_RefInX : Cert.quiescent_RefInXIdeal := fun m g _ =>
  (θ_run Cert.RefInXIdeal.defs _ _).mono (fun r h => ⟨fun c => (h c).2.2.2, Idealize.ShloMosaic.sem_eq_zero_of_no_sems (by decide) r.2⟩) (Cert.RefInXIdeal.Value.run m g)

/-- The reference of `DqIn` runs, leaves its arguments unchanged and no semaphore raised. -/
theorem frame_RefDqIn : Cert.quiescent_RefDqInIdeal := fun m g _ =>
  (θ_run Cert.RefDqInIdeal.defs _ _).mono (fun r h => ⟨fun c => (h c).2, Idealize.ShloMosaic.sem_eq_zero_of_no_sems (by decide) r.2⟩) (Cert.RefDqInIdeal.Value.run m g)

/-- The reference of `DqOut` runs, leaves its arguments unchanged and no semaphore raised. -/
theorem frame_RefDqOut : Cert.quiescent_RefDqOutIdeal := fun m g _ =>
  (θ_run Cert.RefDqOutIdeal.defs _ _).mono (fun r h => ⟨fun c => (h c).2, Idealize.ShloMosaic.sem_eq_zero_of_no_sems (by decide) r.2⟩) (Cert.RefDqOutIdeal.Value.run m g)

/-- Everything claimed: the frames, and the value claims of the calls. -/
theorem claim : Cert.Claim :=
  ⟨Cert.InZ.Gen.facts, Cert.InZIdeal.Gen.facts, Cert.RefInZIdeal.Gen.facts, Cert.Out.Gen.facts, Cert.OutIdeal.Gen.facts, Cert.RefOutIdeal.Gen.facts, Cert.Norm.Gen.facts, Cert.NormIdeal.Gen.facts, Cert.RefNormIdeal.Gen.facts, Cert.XProj.Gen.facts, Cert.XProjIdeal.Gen.facts, Cert.RefXProjIdeal.Gen.facts, Cert.InX.Gen.facts, Cert.InXIdeal.Gen.facts, Cert.RefInXIdeal.Gen.facts, Cert.DqIn.Gen.facts, Cert.DqInIdeal.Gen.facts, Cert.RefDqInIdeal.Gen.facts, Cert.DqOut.Gen.facts, Cert.DqOutIdeal.Gen.facts, Cert.RefDqOutIdeal.Gen.facts, Cert.Pre_scale_in_nonzero.Gen.facts, Cert.Pre_scales_proj_nonzero.Gen.facts, Cert.Pre_scales_conv_nonzero.Gen.facts,
    fun m g _ => Cert.InZ.Gen.frame m g,
    fun m g _ => Cert.InZIdeal.Gen.frame m g,
    fun m g _ => frame_RefInZ m g trivial,
    fun m g _ => Cert.Out.Gen.frame m g,
    fun m g _ => Cert.OutIdeal.Gen.frame m g,
    fun m g _ => frame_RefOut m g trivial,
    fun m g _ => Cert.Norm.Gen.frame m g,
    fun m g _ => Cert.NormIdeal.Gen.frame m g,
    fun m g _ => Cert.NormIdeal.Gen.frame m g,
    fun m g _ => frame_RefNorm m g trivial,
    fun m g _ => frame_RefNorm m g trivial,
    fun m g _ => Cert.XProj.Gen.frame m g,
    fun m g _ => Cert.XProjIdeal.Gen.frame m g,
    fun m g _ => Cert.XProjIdeal.Gen.frame m g,
    fun m g _ => frame_RefXProj m g trivial,
    fun m g _ => frame_RefXProj m g trivial,
    fun m g _ => Cert.InX.Gen.frame m g,
    fun m g _ => Cert.InXIdeal.Gen.frame m g,
    fun m g _ => Cert.InXIdeal.Gen.frame m g,
    fun m g _ => frame_RefInX m g trivial,
    fun m g _ => frame_RefInX m g trivial,
    fun m g _ => Cert.DqIn.Gen.frame m g,
    fun m g _ => Cert.DqInIdeal.Gen.frame m g,
    fun m g _ => frame_RefDqIn m g trivial,
    fun m g _ => Cert.DqOut.Gen.frame m g,
    fun m g _ => Cert.DqOutIdeal.Gen.frame m g,
    fun m g _ => frame_RefDqOut m g trivial,
    trivial,
    InZ.algebraic,
    trivial,
    Out.algebraic,
    trivial,
    Norm.algebraic,
    trivial,
    XProj.algebraic,
    trivial,
    InX.algebraic,
    DqIn.preserves,
    DqIn.algebraic,
    DqOut.preserves,
    DqOut.algebraic⟩

end Cert.Proof

end
